-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gate_finite [hPre_gate_finite : Cert.Pre_gate_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gate_finite [hPre_gate_finite : Cert.Pre_gate_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_mod_finite [hPre_mod_finite : Cert.Pre_mod_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_mod_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_mod_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_mod_finite [hPre_mod_finite : Cert.Pre_mod_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_mod_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_mod_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_gate_finite [hKernel2Ideal : Cert.Kernel2Ideal.Facts] [hPre_gate_finite : Cert.Pre_gate_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gate_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_gate_finite [hReference2Ideal : Cert.Reference2Ideal.Facts] [hPre_gate_finite : Cert.Pre_gate_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gate_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_mod_finite [hKernel4Ideal : Cert.Kernel4Ideal.Facts] [hPre_mod_finite : Cert.Pre_mod_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_mod_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_mod_finite [hReference4Ideal : Cert.Reference4Ideal.Facts] [hPre_mod_finite : Cert.Pre_mod_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_mod_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "sqrt_d" .f32 0x413504F3#32 ((Real.sqrt 128 : ℝ) : EReal)
  ∧ IdealRules.named_const.Statement Cert.KernelIdeal.κ "neg_inf" .f32 0xF149F2CA#32 ⊥
  ∧ IdealRules.named_const.Statement Cert.KernelIdeal.κ "inv_sqrt_d_log2e" .f32 0x3E0293EE#32 (((Real.sqrt 128)⁻¹ * (Real.log 2)⁻¹ : ℝ) : EReal)

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_gate_finite [hKernel2Ideal : Cert.Kernel2Ideal.Facts] [hReference2Ideal : Cert.Reference2Ideal.Facts] [hPre_gate_finite : Cert.Pre_gate_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gate_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_mod_finite [hKernel4Ideal : Cert.Kernel4Ideal.Facts] [hReference4Ideal : Cert.Reference4Ideal.Facts] [hPre_mod_finite : Cert.Pre_mod_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_mod_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_scores_finite : Cert.Pre_scores_finite.Facts) (hPre_gate_finite : Cert.Pre_gate_finite.Facts) (hPre_mod_finite : Cert.Pre_mod_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Kernel2Ideal_pre_gate_finite (hKernel2Ideal := hKernel2Ideal) (hPre_gate_finite := hPre_gate_finite)
    ∧ quiescent_Reference2Ideal (hReference2Ideal := hReference2Ideal)
    ∧ quiescent_Reference2Ideal_pre_gate_finite (hReference2Ideal := hReference2Ideal) (hPre_gate_finite := hPre_gate_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_mod_finite (hKernel4Ideal := hKernel4Ideal) (hPre_mod_finite := hPre_mod_finite)
    ∧ quiescent_Reference4Ideal (hReference4Ideal := hReference4Ideal)
    ∧ quiescent_Reference4Ideal_pre_mod_finite (hReference4Ideal := hReference4Ideal) (hPre_mod_finite := hPre_mod_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal_pre_gate_finite (hKernel2Ideal := hKernel2Ideal) (hReference2Ideal := hReference2Ideal) (hPre_gate_finite := hPre_gate_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_mod_finite (hKernel4Ideal := hKernel4Ideal) (hReference4Ideal := hReference4Ideal) (hPre_mod_finite := hPre_mod_finite)
-- ==== Pre_gate_finite.lean ====
abbrev S8x2048x2048 : Shape := ⟨3, ![8, 2048, 2048]⟩
abbrev S8x12288 : Shape := ⟨2, ![8, 12288]⟩
abbrev S2048x11264 : Shape := ⟨2, ![2048, 11264]⟩
abbrev S5632x2048 : Shape := ⟨2, ![5632, 2048]⟩
abbrev S2048 : Shape := ⟨1, ![2048]⟩
abbrev S8x4096 : Shape := ⟨2, ![8, 4096]⟩
abbrev S_ : Shape := ⟨0, ![]⟩
abbrev S2048x5632 : Shape := ⟨2, ![2048, 5632]⟩

class Facts : Prop where
  slices_S8x12288_S8x4096_0_6144 : S8x12288.Slices ![0, 6144] S8x4096
  bcast_S_S8x4096 : S_.BroadcastsInDim S8x4096 (![] : Fin 0 → Fin S8x4096.rank)
  slices_S2048x11264_S2048x5632_0_0 : S2048x11264.Slices ![0, 0] S2048x5632
  bcast_S_S2048x5632 : S_.BroadcastsInDim S2048x5632 (![] : Fin 0 → Fin S2048x5632.rank)

variable [Facts]

def fn {F : FTy → Type} [FloatOps F] (main_arg0 : FVec F S8x2048x2048 .f32) (main_arg1 : FVec F S8x12288 .f32) (main_arg2 : FVec F S2048x11264 .f32) (main_arg3 : FVec F S5632x2048 .f32) (main_arg4 : FVec F S2048 .f32) (main_arg5 : FVec F S2048 .f32) : IVec S8x4096 1 × IVec S2048x5632 1 :=
  let main_v0 : FVec F S8x4096 .f32 := (extractStridedSlice S8x4096 ![0, 6144] · slices_S8x12288_S8x4096_0_6144) main_arg1
  let main_v1 : FVec F S8x4096 .f32 := Host.absf main_v0
  let main_cst : FVec F S_ .f32 := constant S_ .f32 0x7F800000#32
  let main_v2 : FVec F S8x4096 .f32 := broadcastInDim S8x4096 ![] bcast_S_S8x4096 main_cst
  let main_v3 : IVec S8x4096 1 := cmpf .olt main_v1 main_v2
  let main_v4 : FVec F S2048x5632 .f32 := (extractStridedSlice S2048x5632 ![0, 0] · slices_S2048x11264_S2048x5632_0_0) main_arg2
  let main_v5 : FVec F S2048x5632 .f32 := Host.absf main_v4
  let main_cst_0 : FVec F S_ .f32 := constant S_ .f32 0x7F800000#32
  let main_v6 : FVec F S2048x5632 .f32 := broadcastInDim S2048x5632 ![] bcast_S_S2048x5632 main_cst_0
  let main_v7 : IVec S2048x5632 1 := cmpf .olt main_v5 main_v6
  (main_v3, main_v7)
-- ==== Pre_mod_finite.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩

class Facts : Prop where
  bcast_S_S8x2048 : S_.BroadcastsInDim S8x2048 (![] : Fin 0 → Fin S8x2048.rank)
  bcast_S_S2048x12288 : S_.BroadcastsInDim S2048x12288 (![] : Fin 0 → Fin S2048x12288.rank)

variable [Facts]

def fn {F : FTy → Type} [FloatOps F] (main_arg0 : FVec F S8x2048 .f32) (main_arg1 : FVec F S2048x12288 .f32) (main_arg2 : FVec F S12288 .f32) : IVec S8x2048 1 × IVec S2048x12288 1 :=
  let main_v0 : FVec F S8x2048 .f32 := Host.absf main_arg0
  let main_cst : FVec F S_ .f32 := constant S_ .f32 0x7F800000#32
  let main_v1 : FVec F S8x2048 .f32 := broadcastInDim S8x2048 ![] bcast_S_S8x2048 main_cst
  let main_v2 : IVec S8x2048 1 := cmpf .olt main_v0 main_v1
  let main_v3 : FVec F S2048x12288 .f32 := Host.absf main_arg1
  let main_cst_0 : FVec F S_ .f32 := constant S_ .f32 0x7F800000#32
  let main_v4 : FVec F S2048x12288 .f32 := broadcastInDim S2048x12288 ![] bcast_S_S2048x12288 main_cst_0
  let main_v5 : IVec S2048x12288 1 := cmpf .olt main_v3 main_v4
  (main_v2, main_v5)
-- ==== Pre_scores_finite.lean ====
abbrev S8x2048x13344 : Shape := ⟨3, ![8, 2048, 13344]⟩
abbrev S32x8 : Shape := ⟨2, ![32, 8]⟩
abbrev S8x2048x2048 : Shape := ⟨3, ![8, 2048, 2048]⟩
abbrev S_ : Shape := ⟨0, ![]⟩

class Facts : Prop where
  slices_S8x2048x13344_S8x2048x2048_0_0_0 : S8x2048x13344.Slices ![0, 0, 0] S8x2048x2048
  bcast_S_S8x2048x2048 : S_.BroadcastsInDim S8x2048x2048 (![] : Fin 0 → Fin S8x2048x2048.rank)
  bcast_S_S32x8 : S_.BroadcastsInDim S32x8 (![] : Fin 0 → Fin S32x8.rank)

variable [Facts]

def fn {F : FTy → Type} [FloatOps F] (main_arg0 : FVec F S8x2048x13344 .f32) (main_arg1 : FVec F S32x8 .f32) : IVec S8x2048x2048 1 × IVec S32x8 1 :=
  let main_v0 : FVec F S8x2048x2048 .f32 := (extractStridedSlice S8x2048x2048 ![0, 0, 0] · slices_S8x2048x13344_S8x2048x2048_0_0_0) main_arg0
  let main_v1 : FVec F S8x2048x2048 .f32 := Host.absf main_v0
  let main_cst : FVec F S_ .f32 := constant S_ .f32 0x7F800000#32
  let main_v2 : FVec F S8x2048x2048 .f32 := broadcastInDim S8x2048x2048 ![] bcast_S_S8x2048x2048 main_cst
  let main_v3 : IVec S8x2048x2048 1 := cmpf .olt main_v1 main_v2
  let main_v4 : FVec F S32x8 .f32 := Host.absf main_arg1
  let main_cst_0 : FVec F S_ .f32 := constant S_ .f32 0x7F800000#32
  let main_v5 : FVec F S32x8 .f32 := broadcastInDim S32x8 ![] bcast_S_S32x8 main_cst_0
  let main_v6 : IVec S32x8 1 := cmpf .olt main_v4 main_v5
  (main_v3, main_v6)
-- ==== Kernel.lean ====
abbrev S8x2048x13344 : Shape := ⟨3, ![8, 2048, 13344]⟩
abbrev S32x8 : Shape := ⟨2, ![32, 8]⟩
abbrev S16384x13344 : Shape := ⟨2, ![16384, 13344]⟩
abbrev S16384x4096 : Shape := ⟨2, ![16384, 4096]⟩
abbrev S16384x9216 : Shape := ⟨2, ![16384, 9216]⟩
abbrev S16384x13312 : Shape := ⟨2, ![16384, 13312]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S_ : Shape := ⟨0, ![]⟩
abbrev S16384x1024 : Shape := ⟨2, ![16384, 1024]⟩
abbrev S2048x128 : Shape := ⟨2, ![2048, 128]⟩
abbrev S144x2048 : Shape := ⟨2, ![144, 2048]⟩
abbrev S1x1 : Shape := ⟨2, ![1, 1]⟩
abbrev S8x256x128 : Shape := ⟨3, ![8, 256, 128]⟩
abbrev S8x128 : Shape := ⟨2, ![8, 128]⟩
abbrev S128x128 : Shape := ⟨2, ![128, 128]⟩
abbrev S128x2048 : Shape := ⟨2, ![128, 2048]⟩
abbrev S16x2048 : Shape := ⟨2, ![16, 2048]⟩
abbrev S256x128 : Shape := ⟨2, ![256, 128]⟩
abbrev S144x256 : Shape := ⟨2, ![144, 256]⟩
abbrev S128x256 : Shape := ⟨2, ![128, 256]⟩
abbrev S8x256 : Shape := ⟨2, ![8, 256]⟩

abbrev nBuf : Space → Nat
  | .hbm => 72
  | .vmem => 14
  | .smem => 1
  | _ => 0

abbrev bufTy : (tb : Table) → Fin (tcTables nBuf tb) → BufTy
  | .hbm, ⟨0, _⟩ => ⟨S8x2048x13344, .f32⟩
  | .hbm, ⟨1, _⟩ => ⟨S32x8, .f32⟩
  | .hbm, ⟨2, _⟩ => ⟨S16384x13344, .f32⟩
  | .hbm, ⟨3, _⟩ => ⟨S16384x4096, .f32⟩
  | .hbm, ⟨4, _⟩ => ⟨S16384x9216, .f32⟩
  | .hbm, ⟨5, _⟩ => ⟨S16384x13312, .f32⟩
  | .hbm, ⟨6, _⟩ => ⟨S256, .i32⟩
  | .hbm, ⟨7, _⟩ => ⟨S1x256, .i32⟩
  | .hbm, ⟨8, _⟩ => ⟨S256x1, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .i32⟩
  | .hbm, ⟨30, _⟩ => ⟨S_, .i32⟩
  | .hbm, ⟨31, _⟩ => ⟨S256x256, .i32⟩
  | .hbm, ⟨32, _⟩ => ⟨S256x256, .i32⟩
  | .hbm, ⟨33, _⟩ => ⟨S_, .i32⟩
  | .hbm, ⟨34, _⟩ => ⟨S256x256, .i32⟩
  | .hbm, ⟨35, _⟩ => ⟨S256x256, .i32⟩
  | .hbm, ⟨36, _⟩ => ⟨S_, .i32⟩
  | .hbm, ⟨37, _⟩ => ⟨S256x256, .i32⟩
  | .hbm, ⟨38, _⟩ => ⟨S256x256, .i1⟩
  | .hbm, ⟨39, _⟩ => ⟨S256x256, .i32⟩
  | .hbm, ⟨40, _⟩ => ⟨S_, .i32⟩
  | .hbm, ⟨41, _⟩ => ⟨S256x256, .i32⟩
  | .hbm, ⟨42, _⟩ => ⟨S256x256, .i32⟩
  | .hbm, ⟨43, _⟩ => ⟨S_, .i32⟩
  | .hbm, ⟨44, _⟩ => ⟨S256x256, .i32⟩
  | .hbm, ⟨45, _⟩ => ⟨S256x256, .i32⟩
  | .hbm, ⟨46, _⟩ => ⟨S_, .i32⟩
  | .hbm, ⟨47, _⟩ => ⟨S256x256, .i32⟩
  | .hbm, ⟨48, _⟩ => ⟨S256x256, .i32⟩
  | .hbm, ⟨49, _⟩ => ⟨S256x256, .f32⟩
  | .hbm, ⟨50, _⟩ => ⟨S_, .f32⟩
  | .hbm, ⟨51, _⟩ => ⟨S256x256, .f32⟩
  | .hbm, ⟨52, _⟩ => ⟨S256x256, .f32⟩
  | .hbm, ⟨53, _⟩ => ⟨S256x256, .f32⟩
  | .hbm, ⟨54, _⟩ => ⟨S_, .f32⟩
  | .hbm, ⟨55, _⟩ => ⟨S256x256, .f32⟩
  | .hbm, ⟨56, _⟩ => ⟨S256x256, .f32⟩
  | .hbm, ⟨57, _⟩ => ⟨S_, .f32⟩
  | .hbm, ⟨58, _⟩ => ⟨S256x256, .f32⟩
  | .hbm, ⟨59, _⟩ => ⟨S256x256, .f32⟩
  | .hbm, ⟨60, _⟩ => ⟨S256x256, .i32⟩
  | .hbm, ⟨61, _⟩ => ⟨S_, .i32⟩
  | .hbm, ⟨62, _⟩ => ⟨S256x256, .i32⟩
  | .hbm, ⟨63, _⟩ => ⟨S256x256, .i32⟩
  | .hbm, ⟨64, _⟩ => ⟨S_, .i32⟩
  | .hbm, ⟨65, _⟩ => ⟨S256x256, .i32⟩
  | .hbm, ⟨66, _⟩ => ⟨S256x256, .i32⟩
  | .hbm, ⟨67, _⟩ => ⟨S_, .i32⟩
  | .hbm, ⟨68, _⟩ => ⟨S256x256, .i32⟩
  | .hbm, ⟨69, _⟩ => ⟨S256x256, .i1⟩
  | .hbm, ⟨70, _⟩ => ⟨S256x256, .i32⟩
  | .hbm, ⟨71, _⟩ => ⟨S16384x1024, .bf16⟩
  | .local _ .vmem, ⟨0, _⟩ => ⟨S256x256, .i32⟩
  | .local _ .vmem, ⟨1, _⟩ => ⟨S256x256, .i32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S256x256, .f32⟩
  | .local _ .vmem, ⟨11, _⟩ => ⟨S256x256, .f32⟩
  | .local _ .vmem, ⟨12, _⟩ => ⟨S2048x128, .bf16⟩
  | .local _ .vmem, ⟨13, _⟩ => ⟨S144x2048, .bf16⟩
  | .local _ .smem, ⟨0, _⟩ => ⟨S32x8, .f32⟩
  | _, _ => ⟨S8x2048x13344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_3 : Ref sig .tc := ⟨.hbm, 30, rfl⟩
abbrev main_v23 : Ref sig .tc := ⟨.hbm, 31, rfl⟩
abbrev main_v24 : Ref sig .tc := ⟨.hbm, 32, rfl⟩
abbrev main_c_4 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_6 : Ref sig .tc := ⟨.hbm, 40, rfl⟩
abbrev main_v30 : Ref sig .tc := ⟨.hbm, 41, rfl⟩
abbrev main_v31 : Ref sig .tc := ⟨.hbm, 42, rfl⟩
abbrev main_c_7 : Ref sig .tc := ⟨.hbm, 43, rfl⟩
abbrev main_v32 : Ref sig .tc := ⟨.hbm, 44, rfl⟩
abbrev main_v33 : Ref sig .tc := ⟨.hbm, 45, rfl⟩
abbrev main_c_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_v41 : Ref sig .tc := ⟨.hbm, 56, rfl⟩
abbrev main_cst_11 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_12 : Ref sig .tc := ⟨.hbm, 61, rfl⟩
abbrev main_v45 : Ref sig .tc := ⟨.hbm, 62, rfl⟩
abbrev main_v46 : Ref sig .tc := ⟨.hbm, 63, rfl⟩
abbrev main_c_13 : Ref sig .tc := ⟨.hbm, 64, rfl⟩
abbrev main_v47 : Ref sig .tc := ⟨.hbm, 65, rfl⟩
abbrev main_v48 : Ref sig .tc := ⟨.hbm, 66, rfl⟩
abbrev main_c_14 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let c0_447 : Index := 0#32
  let arg0 : BitVec 32 := BitVec.ofNat 32 (i 0).val
  let v1224 : Index := Scalar.indexCast arg0
  ![0, v1224.toNat]
def k0_off2 (i : grid0.Coords) : Fin 2 → Nat :=
  let c1 : Index := 1#32
  let arg0 : BitVec 32 := BitVec.ofNat 32 (i 0).val
  let v1235 : Index := Scalar.indexCast arg0
  ![1, v1235.toNat]
def k0_off3 (i : grid0.Coords) : Fin 2 → Nat :=
  let c2 : Index := 2#32
  let arg0 : BitVec 32 := BitVec.ofNat 32 (i 0).val
  let v1246 : Index := Scalar.indexCast arg0
  ![2, v1246.toNat]
def k0_off4 (i : grid0.Coords) : Fin 2 → Nat :=
  let c3 : Index := 3#32
  let arg0 : BitVec 32 := BitVec.ofNat 32 (i 0).val
  let v1257 : Index := Scalar.indexCast arg0
  ![3, v1257.toNat]
def k0_off5 (i : grid0.Coords) : Fin 2 → Nat :=
  let c4 : Index := 4#32
  let arg0 : BitVec 32 := BitVec.ofNat 32 (i 0).val
  let v1268 : Index := Scalar.indexCast arg0
  ![4, v1268.toNat]
def k0_off6 (i : grid0.Coords) : Fin 2 → Nat :=
  let c5 : Index := 5#32
  let arg0 : BitVec 32 := BitVec.ofNat 32 (i 0).val
  let v1279 : Index := Scalar.indexCast arg0
  ![5, v1279.toNat]
def k0_off7 (i : grid0.Coords) : Fin 2 → Nat :=
  let c6 : Index := 6#32
  let arg0 : BitVec 32 := BitVec.ofNat 32 (i 0).val
  let v1290 : Index := Scalar.indexCast arg0
  ![6, v1290.toNat]
def k0_off8 (i : grid0.Coords) : Fin 2 → Nat :=
  let c7 : Index := 7#32
  let arg0 : BitVec 32 := BitVec.ofNat 32 (i 0).val
  let v1301 : Index := Scalar.indexCast arg0
  ![7, v1301.toNat]
def k0_off9 (i : grid0.Coords) : Fin 2 → Nat :=
  let c8 : Index := 8#32
  let arg0 : BitVec 32 := BitVec.ofNat 32 (i 0).val
  let v1312 : Index := Scalar.indexCast arg0
  ![8, v1312.toNat]
def k0_off10 (i : grid0.Coords) : Fin 2 → Nat :=
  let c9 : Index := 9#32
  let arg0 : BitVec 32 := BitVec.ofNat 32 (i 0).val
  let v1323 : Index := Scalar.indexCast arg0
  ![9, v1323.toNat]
def k0_off11 (i : grid0.Coords) : Fin 2 → Nat :=
  let c10 : Index := 10#32
  let arg0 : BitVec 32 := BitVec.ofNat 32 (i 0).val
  let v1334 : Index := Scalar.indexCast arg0
  ![10, v1334.toNat]
def k0_off12 (i : grid0.Coords) : Fin 2 → Nat :=
  let c11 : Index := 11#32
  let arg0 : BitVec 32 := BitVec.ofNat 32 (i 0).val
  let v1345 : Index := Scalar.indexCast arg0
  ![11, v1345.toNat]
def k0_off13 (i : grid0.Coords) : Fin 2 → Nat :=
  let c12 : Index := 12#32
  let arg0 : BitVec 32 := BitVec.ofNat 32 (i 0).val
  let v1356 : Index := Scalar.indexCast arg0
  ![12, v1356.toNat]
def k0_off14 (i : grid0.Coords) : Fin 2 → Nat :=
  let c13 : Index := 13#32
  let arg0 : BitVec 32 := BitVec.ofNat 32 (i 0).val
  let v1367 : Index := Scalar.indexCast arg0
  ![13, v1367.toNat]
def k0_off15 (i : grid0.Coords) : Fin 2 → Nat :=
  let c14 : Index := 14#32
  let arg0 : BitVec 32 := BitVec.ofNat 32 (i 0).val
  let v1378 : Index := Scalar.indexCast arg0
  ![14, v1378.toNat]
def k0_off16 (i : grid0.Coords) : Fin 2 → Nat :=
  let c15 : Index := 15#32
  let arg0 : BitVec 32 := BitVec.ofNat 32 (i 0).val
  let v1389 : Index := Scalar.indexCast arg0
  ![15, v1389.toNat]
def k0_off17 (i : grid0.Coords) : Fin 2 → Nat :=
  let c16 : Index := 16#32
  let arg0 : BitVec 32 := BitVec.ofNat 32 (i 0).val
  let v1400 : Index := Scalar.indexCast arg0
  ![16, v1400.toNat]
def k0_off18 (i : grid0.Coords) : Fin 2 → Nat :=
  let c17 : Index := 17#32
  let arg0 : BitVec 32 := BitVec.ofNat 32 (i 0).val
  let v1411 : Index := Scalar.indexCast arg0
  ![17, v1411.toNat]
def k0_off19 (i : grid0.Coords) : Fin 2 → Nat :=
  let c18 : Index := 18#32
  let arg0 : BitVec 32 := BitVec.ofNat 32 (i 0).val
  let v1422 : Index := Scalar.indexCast arg0
  ![18, v1422.toNat]
def k0_off20 (i : grid0.Coords) : Fin 2 → Nat :=
  let c19 : Index := 19#32
  let arg0 : BitVec 32 := BitVec.ofNat 32 (i 0).val
  let v1433 : Index := Scalar.indexCast arg0
  ![19, v1433.toNat]
def k0_off21 (i : grid0.Coords) : Fin 2 → Nat :=
  let c20 : Index := 20#32
  let arg0 : BitVec 32 := BitVec.ofNat 32 (i 0).val
  let v1444 : Index := Scalar.indexCast arg0
  ![20, v1444.toNat]
def k0_off22 (i : grid0.Coords) : Fin 2 → Nat :=
  let c21 : Index := 21#32
  let arg0 : BitVec 32 := BitVec.ofNat 32 (i 0).val
  let v1455 : Index := Scalar.indexCast arg0
  ![21, v1455.toNat]
def k0_off23 (i : grid0.Coords) : Fin 2 → Nat :=
  let c22 : Index := 22#32
  let arg0 : BitVec 32 := BitVec.ofNat 32 (i 0).val
  let v1466 : Index := Scalar.indexCast arg0
  ![22, v1466.toNat]
def k0_off24 (i : grid0.Coords) : Fin 2 → Nat :=
  let c23 : Index := 23#32
  let arg0 : BitVec 32 := BitVec.ofNat 32 (i 0).val
  let v1477 : Index := Scalar.indexCast arg0
  ![23, v1477.toNat]
def k0_off25 (i : grid0.Coords) : Fin 2 → Nat :=
  let c24 : Index := 24#32
  let arg0 : BitVec 32 := BitVec.ofNat 32 (i 0).val
  let v1488 : Index := Scalar.indexCast arg0
  ![24, v1488.toNat]
def k0_off26 (i : grid0.Coords) : Fin 2 → Nat :=
  let c25 : Index := 25#32
  let arg0 : BitVec 32 := BitVec.ofNat 32 (i 0).val
  let v1499 : Index := Scalar.indexCast arg0
  ![25, v1499.toNat]
def k0_off27 (i : grid0.Coords) : Fin 2 → Nat :=
  let c26 : Index := 26#32
  let arg0 : BitVec 32 := BitVec.ofNat 32 (i 0).val
  let v1510 : Index := Scalar.indexCast arg0
  ![26, v1510.toNat]
def k0_off28 (i : grid0.Coords) : Fin 2 → Nat :=
  let c27 : Index := 27#32
  let arg0 : BitVec 32 := BitVec.ofNat 32 (i 0).val
  let v1521 : Index := Scalar.indexCast arg0
  ![27, v1521.toNat]
def k0_off29 (i : grid0.Coords) : Fin 2 → Nat :=
  let c28 : Index := 28#32
  let arg0 : BitVec 32 := BitVec.ofNat 32 (i 0).val
  let v1532 : Index := Scalar.indexCast arg0
  ![28, v1532.toNat]
def k0_off30 (i : grid0.Coords) : Fin 2 → Nat :=
  let c29 : Index := 29#32
  let arg0 : BitVec 32 := BitVec.ofNat 32 (i 0).val
  let v1543 : Index := Scalar.indexCast arg0
  ![29, v1543.toNat]
def k0_off31 (i : grid0.Coords) : Fin 2 → Nat :=
  let c30 : Index := 30#32
  let arg0 : BitVec 32 := BitVec.ofNat 32 (i 0).val
  let v1554 : Index := Scalar.indexCast arg0
  ![30, v1554.toNat]
def k0_off32 (i : grid0.Coords) : Fin 2 → Nat :=
  let c31_512 : Index := 31#32
  let arg0 : BitVec 32 := BitVec.ofNat 32 (i 0).val
  let v1565 : Index := Scalar.indexCast arg0
  ![31, v1565.toNat]
def k0_off33 (i : grid0.Coords) : Fin 2 → Nat :=
  let c31 : Index := 31#32
  let arg0 : BitVec 32 := BitVec.ofNat 32 (i 0).val
  let v3 : Index := Scalar.indexCast arg0
  ![31, v3.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "inv_sqrt_d_log2e" => some (((Real.sqrt 128)⁻¹ * (Real.log 2)⁻¹ : ℝ) : EReal)
  | "neg_inf" => some ⊥
  | "sqrt_d" => some ((Real.sqrt 128 : ℝ) : EReal)
  | _ => none
-- ==== ReferenceIdeal.lean ====
abbrev S8x2048x13344 : Shape := ⟨3, ![8, 2048, 13344]⟩
abbrev S32x8 : Shape := ⟨2, ![32, 8]⟩
abbrev S8x2048x3072 : Shape := ⟨3, ![8, 2048, 3072]⟩
abbrev S8x2048x1024 : Shape := ⟨3, ![8, 2048, 1024]⟩
abbrev S8x2048x8x128 : Shape := ⟨4, ![8, 2048, 8, 128]⟩
abbrev S8x8x2048x128 : Shape := ⟨4, ![8, 8, 2048, 128]⟩
abbrev S8x8x8x256x128 : Shape := ⟨5, ![8, 8, 8, 256, 128]⟩
abbrev S_ : Shape := ⟨0, ![]⟩
abbrev S8x8x8x128 : Shape := ⟨4, ![8, 8, 8, 128]⟩
abbrev S8 : Shape := ⟨1, ![8]⟩
abbrev S2048 : Shape := ⟨1, ![2048]⟩
abbrev S8x1 : Shape := ⟨2, ![8, 1]⟩
abbrev S8x256 : Shape := ⟨2, ![8, 256]⟩
abbrev S1x8 : Shape := ⟨2, ![1, 8]⟩
abbrev S2048x1 : Shape := ⟨2, ![2048, 1]⟩
abbrev S2048x8 : Shape := ⟨2, ![2048, 8]⟩
abbrev S8x8x2048x8 : Shape := ⟨4, ![8, 8, 2048, 8]⟩
abbrev S8x8x2048x3 : Shape := ⟨4, ![8, 8, 2048, 3]⟩
abbrev S8x8x2048x1 : Shape := ⟨4, ![8, 8, 2048, 1]⟩
abbrev S1x1x1x8 : Shape := ⟨4, ![1, 1, 1, 8]⟩
abbrev S1x1x2048x8 : Shape := ⟨4, ![1, 1, 2048, 8]⟩
abbrev S8x8x2048x8x1 : Shape := ⟨5, ![8, 8, 2048, 8, 1]⟩
abbrev S8x8x2048x8x256 : Shape := ⟨5, ![8, 8, 2048, 8, 256]⟩
abbrev S8x8x2048x2048 : Shape := ⟨4, ![8, 8, 2048, 2048]⟩
abbrev S1x2048 : Shape := ⟨2, ![1, 2048]⟩
abbrev S2048x2048 : Shape := ⟨2, ![2048, 2048]⟩
abbrev S2048x2048x1 : Shape := ⟨3, ![2048, 2048, 1]⟩
abbrev S2048x2048x8 : Shape := ⟨3, ![2048, 2048, 8]⟩
abbrev S8x2048x2048 : Shape := ⟨3, ![8, 2048, 2048]⟩
abbrev S1x8x2048x2048 : Shape := ⟨4, ![1, 8, 2048, 2048]⟩
abbrev S1x1x2048x2048 : Shape := ⟨4, ![1, 1, 2048, 2048]⟩
abbrev S8x8x2048 : Shape := ⟨3, ![8, 8, 2048]⟩
abbrev S16384x1024 : Shape := ⟨2, ![16384, 1024]⟩

abbrev nBuf : Space → Nat
  | .hbm => 144
  | .vmem => 0
  | .smem => 0
  | _ => 0

abbrev hbmTy0_0 (i : Nat) : BufTy := match i % 128 with
  | 0 => ⟨S8x2048x13344, .f32⟩
  | 1 => ⟨S32x8, .f32⟩
  | 2 => ⟨S8x2048x3072, .f32⟩
  | 3 => ⟨S8x2048x1024, .f32⟩
  | 4 => ⟨S8x2048x1024, .f32⟩
  | 5 => ⟨S8x2048x1024, .f32⟩
  | 6 => ⟨S8x2048x8x128, .f32⟩
  | 7 => ⟨S8x2048x8x128, .f32⟩
  | 8 => ⟨S8x2048x8x128, .f32⟩
  | 9 => ⟨S8x8x2048x128, .f32⟩
  | 10 => ⟨S8x8x2048x128, .f32⟩
  | 11 => ⟨S8x8x2048x128, .f32⟩
  | 12 => ⟨S8x8x8x256x128, .f32⟩
  | 13 => ⟨S_, .f32⟩
  | 14 => ⟨S8x8x8x128, .f32⟩
  | 15 => ⟨S_, .f32⟩
  | 16 => ⟨S8x8x8x128, .f32⟩
  | 17 => ⟨S8x8x8x128, .f32⟩
  | 18 => ⟨S8, .i32⟩
  | 19 => ⟨S2048, .i32⟩
  | 20 => ⟨S8x1, .i32⟩
  | 21 => ⟨S8x256, .i32⟩
  | 22 => ⟨S2048, .i32⟩
  | 23 => ⟨S1x8, .i32⟩
  | 24 => ⟨S2048x1, .i32⟩
  | 25 => ⟨S2048x8, .i32⟩
  | 26 => ⟨S2048x8, .i32⟩
  | 27 => ⟨S2048x8, .i1⟩
  | 28 => ⟨S8x8x2048x8, .f32⟩
  | 29 => ⟨S_, .f32⟩
  | 30 => ⟨S_, .f32⟩
  | 31 => ⟨S8x8x2048x8, .i1⟩
  | 32 => ⟨S8x8x2048x8, .f32⟩
  | 33 => ⟨S8x8x2048x8, .f32⟩
  | 34 => ⟨S8x8x2048x3, .f32⟩
  | 35 => ⟨S8x8x2048x3, .i32⟩
  | 36 => ⟨S8x8x2048x1, .i32⟩
  | 37 => ⟨S1x1x1x8, .i32⟩
  | 38 => ⟨S8x8x2048x8, .i32⟩
  | 39 => ⟨S8x8x2048x8, .i32⟩
  | 40 => ⟨S8x8x2048x8, .i1⟩
  | 41 => ⟨S8x8x2048x1, .i32⟩
  | 42 => ⟨S1x1x1x8, .i32⟩
  | 43 => ⟨S8x8x2048x8, .i32⟩
  | 44 => ⟨S8x8x2048x8, .i32⟩
  | 45 => ⟨S8x8x2048x8, .i1⟩
  | 46 => ⟨S8x8x2048x8, .i1⟩
  | 47 => ⟨S8x8x2048x1, .i32⟩
  | 48 => ⟨S1x1x1x8, .i32⟩
  | 49 => ⟨S8x8x2048x8, .i32⟩
  | 50 => ⟨S8x8x2048x8, .i32⟩
  | 51 => ⟨S8x8x2048x8, .i1⟩
  | 52 => ⟨S8x8x2048x8, .i1⟩
  | 53 => ⟨S1x1x2048x8, .i1⟩
  | 54 => ⟨S8x8x2048x8, .i1⟩
  | 55 => ⟨S8x8x2048x8, .i1⟩
  | 56 => ⟨S8x8x2048x8x1, .i1⟩
  | 57 => ⟨S8x8x2048x8x256, .i1⟩
  | 58 => ⟨S8x8x2048x2048, .i1⟩
  | 59 => ⟨S2048x1, .i32⟩
  | 60 => ⟨S1x2048, .i32⟩
  | 61 => ⟨S2048x2048, .i32⟩
  | 62 => ⟨S2048x2048, .i32⟩
  | 63 => ⟨S2048x2048, .i32⟩
  | 64 => ⟨S2048x1, .i32⟩
  | 65 => ⟨S1x2048, .i32⟩
  | 66 => ⟨S2048x2048, .i32⟩
  | 67 => ⟨S2048x2048, .i32⟩
  | 68 => ⟨S2048x2048, .i1⟩
  | 69 => ⟨S_, .i32⟩
  | 70 => ⟨S2048x2048, .i32⟩
  | 71 => ⟨S2048x2048, .i1⟩
  | 72 => ⟨S2048x2048, .i1⟩
  | 73 => ⟨S8x8x2048x2048, .f32⟩
  | 74 => ⟨S_, .f32⟩
  | 75 => ⟨S_, .f32⟩
  | 76 => ⟨S8x8x2048x2048, .f32⟩
  | 77 => ⟨S8x8x2048x2048, .f32⟩
  | 78 => ⟨S_, .i32⟩
  | 79 => ⟨S2048x2048, .i32⟩
  | 80 => ⟨S2048x2048, .i32⟩
  | 81 => ⟨S_, .i32⟩
  | 82 => ⟨S2048x2048, .i32⟩
  | 83 => ⟨S2048x2048, .i32⟩
  | 84 => ⟨S2048x2048, .f32⟩
  | 85 => ⟨S_, .f32⟩
  | 86 => ⟨S2048x2048, .f32⟩
  | 87 => ⟨S2048x2048, .f32⟩
  | 88 => ⟨S2048x2048, .f32⟩
  | 89 => ⟨S_, .f32⟩
  | 90 => ⟨S2048x2048, .f32⟩
  | 91 => ⟨S2048x2048, .f32⟩
  | 92 => ⟨S_, .f32⟩
  | 93 => ⟨S2048x2048, .f32⟩
  | 94 => ⟨S2048x2048, .f32⟩
  | 95 => ⟨S2048x2048, .i32⟩
  | 96 => ⟨S_, .i32⟩
  | 97 => ⟨S2048x2048, .i32⟩
  | 98 => ⟨S2048x2048, .i32⟩
  | 99 => ⟨S_, .i32⟩
  | 100 => ⟨S2048x2048, .i32⟩
  | 101 => ⟨S2048x2048, .i32⟩
  | 102 => ⟨S_, .i32⟩
  | 103 => ⟨S2048x2048, .i32⟩
  | 104 => ⟨S2048x2048, .i1⟩
  | 105 => ⟨S2048x2048, .i32⟩
  | 106 => ⟨S_, .i32⟩
  | 107 => ⟨S2048x2048, .i32⟩
  | 108 => ⟨S2048x2048, .i1⟩
  | 109 => ⟨S_, .i32⟩
  | 110 => ⟨S2048x2048, .i32⟩
  | 111 => ⟨S2048x2048, .i32⟩
  | 112 => ⟨S2048x2048, .i32⟩
  | 113 => ⟨S2048x2048x1, .i32⟩
  | 114 => ⟨S2048x2048x8, .f32⟩
  | 115 => ⟨S8x2048x2048, .f32⟩
  | 116 => ⟨S1x8x2048x2048, .f32⟩
  | 117 => ⟨S8x8x2048x2048, .f32⟩
  | 118 => ⟨S8x8x2048x2048, .f32⟩
  | 119 => ⟨S1x1x2048x2048, .i1⟩
  | 120 => ⟨S8x8x2048x2048, .i1⟩
  | 121 => ⟨S8x8x2048x2048, .i1⟩
  | 122 => ⟨S_, .f32⟩
  | 123 => ⟨S_, .f32⟩
  | 124 => ⟨S8x8x2048x2048, .f32⟩
  | 125 => ⟨S8x8x2048x2048, .f32⟩
  | 126 => ⟨S_, .f32⟩
  | 127 => ⟨S8x8x2048, .f32⟩
  | _ => ⟨S8x2048x13344, .f32⟩

abbrev hbmTy0_1 (i : Nat) : BufTy := match i % 128 with
  | 0 => ⟨S_, .f32⟩
  | 1 => ⟨S8x8x2048, .f32⟩
  | 2 => ⟨S8x8x2048, .f32⟩
  | 3 => ⟨S8x8x2048x1, .f32⟩
  | 4 => ⟨S8x8x2048x2048, .f32⟩
  | 5 => ⟨S8x8x2048x2048, .f32⟩
  | 6 => ⟨S8x8x2048x2048, .f32⟩
  | 7 => ⟨S_, .f32⟩
  | 8 => ⟨S8x8x2048, .f32⟩
  | 9 => ⟨S8x8x2048x1, .f32⟩
  | 10 => ⟨S8x8x2048x2048, .f32⟩
  | 11 => ⟨S8x8x2048x2048, .f32⟩
  | 12 => ⟨S8x8x2048x128, .f32⟩
  | 13 => ⟨S8x2048x8x128, .f32⟩
  | 14 => ⟨S16384x1024, .f32⟩
  | 15 => ⟨S16384x1024, .bf16⟩
  | _ => ⟨S8x2048x13344, .f32⟩

abbrev hbmTy (i : Nat) : BufTy := match i / 128 with
  | 0 => hbmTy0_0 i
  | 1 => hbmTy0_1 i
  | _ => ⟨S8x2048x13344, .f32⟩

abbrev bufTy : (tb : Table) → Fin (tcTables nBuf tb) → BufTy
  | .hbm, ⟨i, _⟩ => hbmTy i
  | _, _ => ⟨S8x2048x13344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_values : Ref sig .tc := ⟨.hbm, 34, rfl⟩
abbrev main_indices : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_c : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_2 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_c_3 : Ref sig .tc := ⟨.hbm, 78, rfl⟩
abbrev main_v66 : Ref sig .tc := ⟨.hbm, 79, rfl⟩
abbrev main_v67 : Ref sig .tc := ⟨.hbm, 80, rfl⟩
abbrev main_c_4 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_5 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_6 : Ref sig .tc := ⟨.hbm, 89, rfl⟩
abbrev main_v74 : Ref sig .tc := ⟨.hbm, 90, rfl⟩
abbrev main_v75 : Ref sig .tc := ⟨.hbm, 91, rfl⟩
abbrev main_cst_7 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_c_8 : Ref sig .tc := ⟨.hbm, 96, rfl⟩
abbrev main_v79 : Ref sig .tc := ⟨.hbm, 97, rfl⟩
abbrev main_v80 : Ref sig .tc := ⟨.hbm, 98, rfl⟩
abbrev main_c_9 : Ref sig .tc := ⟨.hbm, 99, rfl⟩
abbrev main_v81 : Ref sig .tc := ⟨.hbm, 100, rfl⟩
abbrev main_v82 : Ref sig .tc := ⟨.hbm, 101, rfl⟩
abbrev main_c_10 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_c_11 : Ref sig .tc := ⟨.hbm, 106, rfl⟩
abbrev main_v86 : Ref sig .tc := ⟨.hbm, 107, rfl⟩
abbrev main_v87 : Ref sig .tc := ⟨.hbm, 108, rfl⟩
abbrev main_c_12 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_13 : Ref sig .tc := ⟨.hbm, 122, rfl⟩
abbrev main_call2_v0 : Ref sig .tc := ⟨.hbm, 123, rfl⟩
abbrev main_call2_v1 : Ref sig .tc := ⟨.hbm, 124, rfl⟩
abbrev main_v100 : Ref sig .tc := ⟨.hbm, 125, rfl⟩
abbrev main_cst_14 : Ref sig .tc := ⟨.hbm, 126, rfl⟩
abbrev main_v101 : Ref sig .tc := ⟨.hbm, 127, rfl⟩
abbrev main_cst_15 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_16 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩

abbrev nD : Nat := 1
abbrev τ : Topo := Topo.v7x

variable {F : FTy → Type} [FloatOps F]
-- ==== Kernel2.lean ====
abbrev S8x2048x2048 : Shape := ⟨3, ![8, 2048, 2048]⟩
abbrev S8x12288 : Shape := ⟨2, ![8, 12288]⟩
abbrev S2048x11264 : Shape := ⟨2, ![2048, 11264]⟩
abbrev S5632x2048 : Shape := ⟨2, ![5632, 2048]⟩
abbrev S2048 : Shape := ⟨1, ![2048]⟩
abbrev S8x1x12288 : Shape := ⟨3, ![8, 1, 12288]⟩
abbrev S16384x2048 : Shape := ⟨2, ![16384, 2048]⟩
abbrev S1x2048 : Shape := ⟨2, ![1, 2048]⟩
abbrev S512x2048 : Shape := ⟨2, ![512, 2048]⟩
abbrev S1x1x2048 : Shape := ⟨3, ![1, 1, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 20
  | .smem => 0
  | _ => 0

abbrev bufTy : (tb : Table) → Fin (tcTables nBuf tb) → BufTy
  | .hbm, ⟨0, _⟩ => ⟨S8x2048x2048, .f32⟩
  | .hbm, ⟨1, _⟩ => ⟨S8x12288, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S8x1x12288, .f32⟩
  | .hbm, ⟨7, _⟩ => ⟨S16384x2048, .f32⟩
  | .hbm, ⟨8, _⟩ => ⟨S1x2048, .f32⟩
  | .hbm, ⟨9, _⟩ => ⟨S1x2048, .f32⟩
  | .hbm, ⟨10, _⟩ => ⟨S2048x11264, .bf16⟩
  | .hbm, ⟨11, _⟩ => ⟨S5632x2048, .bf16⟩
  | .hbm, ⟨12, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x2048, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v25 : BitVec 1 := Scalar.cmpi .eq arg1 c10_i32
  let v26 : BitVec 32 := Scalar.extui v25
  let c0_i32_15 : BitVec 32 := 0#32
  let v27 : BitVec 1 := Scalar.cmpi .ne v26 c0_i32_15
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32_5 : BitVec 32 := 4#32
  let c0_i32_6 : BitVec 32 := 0#32
  ![v16.toNat, c0_i32_4.toNat, c4_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S8x2048x2048 : Shape := ⟨3, ![8, 2048, 2048]⟩
abbrev S8x12288 : Shape := ⟨2, ![8, 12288]⟩
abbrev S2048x11264 : Shape := ⟨2, ![2048, 11264]⟩
abbrev S5632x2048 : Shape := ⟨2, ![5632, 2048]⟩
abbrev S2048 : Shape := ⟨1, ![2048]⟩
abbrev S8x1x12288 : Shape := ⟨3, ![8, 1, 12288]⟩
abbrev S8x1x2048 : Shape := ⟨3, ![8, 1, 2048]⟩
abbrev S_ : Shape := ⟨0, ![]⟩
abbrev S8x2048x11264 : Shape := ⟨3, ![8, 2048, 11264]⟩
abbrev S8x2048x5632 : Shape := ⟨3, ![8, 2048, 5632]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 70
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x12288, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S8x1x12288, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S_, .f32⟩
  | .hbm, ⟨14, _⟩ => ⟨S8x1x2048, .f32⟩
  | .hbm, ⟨15, _⟩ => ⟨S8x1x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x2048x11264, .f32⟩
  | .hbm, ⟨21, _⟩ => ⟨S8x2048x5632, .f32⟩
  | .hbm, ⟨22, _⟩ => ⟨S8x2048x5632, .f32⟩
  | .hbm, ⟨23, _⟩ => ⟨S8x2048x5632, .f32⟩
  | .hbm, ⟨24, _⟩ => ⟨S8x2048x5632, .f32⟩
  | .hbm, ⟨25, _⟩ => ⟨S_, .f32⟩
  | .hbm, ⟨26, _⟩ => ⟨S8x2048x5632, .f32⟩
  | .hbm, ⟨27, _⟩ => ⟨S8x2048x5632, .f32⟩
  | .hbm, ⟨28, _⟩ => ⟨S_, .f32⟩
  | .hbm, ⟨29, _⟩ => ⟨S8x2048x5632, .f32⟩
  | .hbm, ⟨30, _⟩ => ⟨S8x2048x5632, .f32⟩
  | .hbm, ⟨31, _⟩ => ⟨S8x2048x5632, .f32⟩
  | .hbm, ⟨32, _⟩ => ⟨S8x2048x5632, .f32⟩
  | .hbm, ⟨33, _⟩ => ⟨S8x2048x2048, .f32⟩
  | .hbm, ⟨34, _⟩ => ⟨S_, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x2048, .f32⟩
  | .hbm, ⟨56, _⟩ => ⟨S8x2048x2048, .f32⟩
  | .hbm, ⟨57, _⟩ => ⟨S_, .f32⟩
  | .hbm, ⟨58, _⟩ => ⟨S8x2048x1, .f32⟩
  | .hbm, ⟨59, _⟩ => ⟨S8x2048x1, .f32⟩
  | .hbm, ⟨60, _⟩ => ⟨S8x2048x1, .f32⟩
  | .hbm, ⟨61, _⟩ => ⟨S8x2048x2048, .f32⟩
  | .hbm, ⟨62, _⟩ => ⟨S8x2048x2048, .f32⟩
  | .hbm, ⟨63, _⟩ => ⟨S1x1x2048, .f32⟩
  | .hbm, ⟨64, _⟩ => ⟨S8x2048x2048, .f32⟩
  | .hbm, ⟨65, _⟩ => ⟨S8x2048x2048, .f32⟩
  | .hbm, ⟨66, _⟩ => ⟨S1x1x2048, .f32⟩
  | .hbm, ⟨67, _⟩ => ⟨S8x2048x2048, .f32⟩
  | .hbm, ⟨68, _⟩ => ⟨S8x2048x2048, .f32⟩
  | .hbm, ⟨69, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_1 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Kernel3.lean ====
abbrev S16384x1024 : Shape := ⟨2, ![16384, 1024]⟩
abbrev S16384x2048 : Shape := ⟨2, ![16384, 2048]⟩
abbrev S8x2048x13344 : Shape := ⟨3, ![8, 2048, 13344]⟩
abbrev S8x2048x2048 : Shape := ⟨3, ![8, 2048, 2048]⟩
abbrev S8x12288 : Shape := ⟨2, ![8, 12288]⟩
abbrev S1024x2048 : Shape := ⟨2, ![1024, 2048]⟩
abbrev S2048x2048 : Shape := ⟨2, ![2048, 2048]⟩
abbrev S2048 : Shape := ⟨1, ![2048]⟩
abbrev S8x1x12288 : Shape := ⟨3, ![8, 1, 12288]⟩
abbrev S16384x13344 : Shape := ⟨2, ![16384, 13344]⟩
abbrev S16384x4096 : Shape := ⟨2, ![16384, 4096]⟩
abbrev S16384x9216 : Shape := ⟨2, ![16384, 9216]⟩
abbrev S16384x13312 : Shape := ⟨2, ![16384, 13312]⟩
abbrev S1x2048 : Shape := ⟨2, ![1, 2048]⟩
abbrev S256x1024 : Shape := ⟨2, ![256, 1024]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 22
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S8x2048x13344, .f32⟩
  | .hbm, ⟨3, _⟩ => ⟨S8x2048x2048, .f32⟩
  | .hbm, ⟨4, _⟩ => ⟨S8x12288, .f32⟩
  | .hbm, ⟨5, _⟩ => ⟨S1024x2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S8x1x12288, .f32⟩
  | .hbm, ⟨11, _⟩ => ⟨S16384x13344, .f32⟩
  | .hbm, ⟨12, _⟩ => ⟨S16384x4096, .f32⟩
  | .hbm, ⟨13, _⟩ => ⟨S16384x9216, .f32⟩
  | .hbm, ⟨14, _⟩ => ⟨S16384x13312, .f32⟩
  | .hbm, ⟨15, _⟩ => ⟨S16384x2048, .f32⟩
  | .hbm, ⟨16, _⟩ => ⟨S1x2048, .f32⟩
  | .hbm, ⟨17, _⟩ => ⟨S1x2048, .f32⟩
  | .hbm, ⟨18, _⟩ => ⟨S1024x2048, .bf16⟩
  | .hbm, ⟨19, _⟩ => ⟨S2048x2048, .bf16⟩
  | .hbm, ⟨20, _⟩ => ⟨S2048x2048, .bf16⟩
  | .hbm, ⟨21, _⟩ => ⟨S16384x2048, .f32⟩
  | .local _ .vmem, ⟨0, _⟩ => ⟨S256x1024, .bf16⟩
  | .local _ .vmem, ⟨1, _⟩ => ⟨S256x1024, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S1x2048, .f32⟩
  | .local _ .vmem, ⟨14, _⟩ => ⟨S1024x2048, .bf16⟩
  | .local _ .vmem, ⟨15, _⟩ => ⟨S2048x2048, .bf16⟩
  | .local _ .vmem, ⟨16, _⟩ => ⟨S2048x2048, .bf16⟩
  | .local _ .vmem, ⟨17, _⟩ => ⟨S256x2048, .f32⟩
  | .local _ .vmem, ⟨18, _⟩ => ⟨S256x2048, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16384x1024 : Shape := ⟨2, ![16384, 1024]⟩
abbrev S16384x2048 : Shape := ⟨2, ![16384, 2048]⟩
abbrev S8x2048x13344 : Shape := ⟨3, ![8, 2048, 13344]⟩
abbrev S8x2048x2048 : Shape := ⟨3, ![8, 2048, 2048]⟩
abbrev S8x12288 : Shape := ⟨2, ![8, 12288]⟩
abbrev S1024x2048 : Shape := ⟨2, ![1024, 2048]⟩
abbrev S2048x2048 : Shape := ⟨2, ![2048, 2048]⟩
abbrev S2048 : Shape := ⟨1, ![2048]⟩
abbrev S8x2048x1024 : Shape := ⟨3, ![8, 2048, 1024]⟩
abbrev S8x1x12288 : Shape := ⟨3, ![8, 1, 12288]⟩
abbrev S8x1x2048 : Shape := ⟨3, ![8, 1, 2048]⟩
abbrev S8x2048x3072 : Shape := ⟨3, ![8, 2048, 3072]⟩
abbrev S8x2048x4096 : Shape := ⟨3, ![8, 2048, 4096]⟩
abbrev S8x2048x16 : Shape := ⟨3, ![8, 2048, 16]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S8x2048x13344, .f32⟩
  | .hbm, ⟨3, _⟩ => ⟨S8x2048x2048, .f32⟩
  | .hbm, ⟨4, _⟩ => ⟨S8x12288, .f32⟩
  | .hbm, ⟨5, _⟩ => ⟨S1024x2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S16384x1024, .f32⟩
  | .hbm, ⟨11, _⟩ => ⟨S8x2048x1024, .f32⟩
  | .hbm, ⟨12, _⟩ => ⟨S16384x2048, .f32⟩
  | .hbm, ⟨13, _⟩ => ⟨S8x2048x2048, .f32⟩
  | .hbm, ⟨14, _⟩ => ⟨S8x1x12288, .f32⟩
  | .hbm, ⟨15, _⟩ => ⟨S8x1x2048, .f32⟩
  | .hbm, ⟨16, _⟩ => ⟨S8x1x2048, .f32⟩
  | .hbm, ⟨17, _⟩ => ⟨S8x1x2048, .f32⟩
  | .hbm, ⟨18, _⟩ => ⟨S8x1x2048, .f32⟩
  | .hbm, ⟨19, _⟩ => ⟨S8x1x2048, .f32⟩
  | .hbm, ⟨20, _⟩ => ⟨S8x1x2048, .f32⟩
  | .hbm, ⟨21, _⟩ => ⟨S8x2048x3072, .f32⟩
  | .hbm, ⟨22, _⟩ => ⟨S8x2048x4096, .f32⟩
  | .hbm, ⟨23, _⟩ => ⟨S8x2048x2048, .f32⟩
  | .hbm, ⟨24, _⟩ => ⟨S8x2048x16, .f32⟩
  | .hbm, ⟨25, _⟩ => ⟨S8x2048x16, .f32⟩
  | .hbm, ⟨26, _⟩ => ⟨S8x2048x4096, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S_, .f32⟩
  | .hbm, ⟨51, _⟩ => ⟨S8x2048x2048, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S_, .f32⟩
  | .hbm, ⟨67, _⟩ => ⟨S8x2048, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S8x2048x2048, .f32⟩
  | .hbm, ⟨73, _⟩ => ⟨S8x2048x2048, .f32⟩
  | .hbm, ⟨74, _⟩ => ⟨S_, .f32⟩
  | .hbm, ⟨75, _⟩ => ⟨S8x2048x1, .f32⟩
  | .hbm, ⟨76, _⟩ => ⟨S8x2048x1, .f32⟩
  | .hbm, ⟨77, _⟩ => ⟨S8x2048x1, .f32⟩
  | .hbm, ⟨78, _⟩ => ⟨S8x2048x2048, .f32⟩
  | .hbm, ⟨79, _⟩ => ⟨S8x2048x2048, .f32⟩
  | .hbm, ⟨80, _⟩ => ⟨S1x1x2048, .f32⟩
  | .hbm, ⟨81, _⟩ => ⟨S8x2048x2048, .f32⟩
  | .hbm, ⟨82, _⟩ => ⟨S8x2048x2048, .f32⟩
  | .hbm, ⟨83, _⟩ => ⟨S1x1x2048, .f32⟩
  | .hbm, ⟨84, _⟩ => ⟨S8x2048x2048, .f32⟩
  | .hbm, ⟨85, _⟩ => ⟨S8x2048x2048, .f32⟩
  | .hbm, ⟨86, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]
-- ==== Kernel4.lean ====
abbrev S8x2048 : Shape := ⟨2, ![8, 2048]⟩
abbrev S2048x12288 : Shape := ⟨2, ![2048, 12288]⟩
abbrev S12288 : Shape := ⟨1, ![12288]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩
abbrev S8x12288 : Shape := ⟨2, ![8, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S1x12288, .f32⟩
  | .hbm, ⟨14, _⟩ => ⟨S8x12288, .f32⟩
  | .hbm, ⟨15, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Consts.lean ====
/- The float constants of the two programs, as real numbers. -/
module

public import Idealize.ShloMosaic.PureOps.Ideal
public import Idealize.ShloMosaic.Lib.IdealHost

@[expose] public section

namespace Cert.Consts

open Idealize.ShloMosaic

theorem c16 : Ideal.ofBits .f32 0x41800000#32 = ((16 : ℝ) : EReal) := by
  simp [Ideal.ofBits, Ideal.ieee]; rw [← EReal.coe_mul]; norm_num

theorem c128 : Ideal.ofBits .f32 0x43000000#32 = ((128 : ℝ) : EReal) := by
  simp [Ideal.ofBits, Ideal.ieee]; rw [← EReal.coe_mul]; norm_num

theorem c256 : Ideal.ofBits .f32 0x43800000#32 = ((256 : ℝ) : EReal) := by
  simp [Ideal.ofBits, Ideal.ieee]; rw [← EReal.coe_mul]; norm_num

theorem cLog8 : Ideal.ofBits .f32 0x40051592#32 = ((8721810 / 4194304 : ℝ) : EReal) := by
  simp [Ideal.ofBits, Ideal.ieee]; rw [← EReal.coe_mul]; norm_num

theorem cBot : Ideal.ofBits .f32 0xFF800000#32 = (⊥ : EReal) := by
  simp [Ideal.ofBits, Ideal.ieee]

theorem cTop : Ideal.ofBits .f32 0x7F800000#32 = (⊤ : EReal) := by
  simp [Ideal.ofBits, Ideal.ieee]

end Cert.Consts
-- ==== Proof.Bucket.lean ====
/- The bucket of a distance: below 16 the distance itself, above it the logarithm in steps, and from 257 on the last
   bucket. -/
module

public import proofs.«01_k».proof.Proof.Consts

@[expose] public section

noncomputable section

namespace Cert.Bucket

open Idealize.ShloMosaic

/-- The logarithmic step of a distance, before it is rounded down. -/
def step (n : BitVec 32) : EReal :=
  FloatOps.mulf (F := Ideal) (φ := .f32) (FloatOps.hostDivf (FloatOps.hostUnary .log
    (FloatOps.hostDivf (FloatOps.sitofp .f32 (IntOp.maxsi n 1#32)) (FloatOps.ofBits .f32 0x41800000#32)))
    (FloatOps.ofBits .f32 0x40051592#32)) (FloatOps.ofBits .f32 0x41800000#32)

/-- The bucket of a distance, both 32-bit words. -/
def bucket (w : BitVec 32) : BitVec 32 :=
  Scalar.select (IntOp.cmpi .slt (IntOp.maxsi w 0#32) 16#32) (IntOp.maxsi w 0#32)
    (IntOp.minsi (IntOp.addi 16#32 (FloatOps.fptosi (F := Ideal) (φ := .f32) 32 (step (IntOp.maxsi w 0#32)))) 31#32)

theorem word_toInt (d : ℕ) (hd : d < 2048) : (BitVec.ofNat 32 d).toInt = d := by
  rw [BitVec.toInt_ofNat']
  have : ((d : ℕ) : ℤ) < 2 ^ 31 := by omega
  rw [Int.bmod_eq_of_le] <;> omega

theorem max_zero (d : ℕ) (hd : d < 2048) : IntOp.maxsi (BitVec.ofNat 32 d) 0#32 = BitVec.ofNat 32 d := by
  unfold IntOp.maxsi
  rw [BitVec.slt_eq_decide, word_toInt d hd]
  by_cases h : d = 0
  · subst h; rfl
  · rw [if_pos]
    simp only [BitVec.toInt_zero, decide_eq_true_eq]
    omega

theorem max_one (d : ℕ) (hd : d < 2048) (h : 16 ≤ d) : IntOp.maxsi (BitVec.ofNat 32 d) 1#32 = BitVec.ofNat 32 d := by
  unfold IntOp.maxsi
  rw [BitVec.slt_eq_decide, word_toInt d hd, if_pos]
  simp only [decide_eq_true_eq]
  show (1 : ℤ) < d
  omega

theorem step_eq (d : ℕ) (hd : d < 2048) (h : 16 ≤ d) :
    step (BitVec.ofNat 32 d) = ((Real.log ((d : ℝ) / 16) / (8721810 / 4194304) * 16 : ℝ) : EReal) := by
  have hr : (16 : ℝ) ≤ d := by exact_mod_cast h
  unfold step
  rw [max_one d hd h]
  show Ideal.div (Ideal.log (Ideal.div (((BitVec.ofNat 32 d).toInt : ℝ) : EReal) (Ideal.ofBits .f32 0x41800000#32)))
    (Ideal.ofBits .f32 0x40051592#32) * Ideal.ofBits .f32 0x41800000#32 = _
  rw [Consts.c16, Consts.cLog8, word_toInt d hd, Ideal.div_coe (by norm_num), Ideal.div_coe (by norm_num), ← EReal.coe_mul]
  have e : Ideal.log ((((d : ℤ) : ℝ) * (1 / 16) : ℝ) : EReal) = ((Real.log ((d : ℝ) / 16) : ℝ) : EReal) := by
    show (if _ ≤ (0 : ℝ) then (⊥ : EReal) else _) = _
    rw [if_neg (by push_cast; linarith)]
    congr 2
    push_cast
    ring
  rw [e, ← EReal.coe_mul, ← EReal.coe_mul]
  congr 1
  ring

/-- The floor of the step stays small. -/
theorem floor_step (d : ℕ) (hd : d < 2048) (h : 16 ≤ d) :
    ∃ k : ℕ, k < 100 ∧ FloatOps.fptosi (F := Ideal) (φ := .f32) 32 (step (BitVec.ofNat 32 d)) = BitVec.ofNat 32 k ∧ (257 ≤ d → 15 ≤ k) := by
  have hr : (16 : ℝ) ≤ d := by exact_mod_cast h
  have hr2 : (d : ℝ) < 2048 := by exact_mod_cast hd
  have l2 : Real.log 2 ≤ 1 := by have := Real.log_le_sub_one_of_pos (show (0 : ℝ) < 2 by norm_num); linarith
  have l2' : 1 / 2 ≤ Real.log 2 := by have := Real.one_sub_inv_le_log_of_pos (show (0 : ℝ) < 2 by norm_num); norm_num at this; linarith
  have lo : 0 ≤ Real.log ((d : ℝ) / 16) := Real.log_nonneg (by linarith)
  have hi : Real.log ((d : ℝ) / 16) ≤ 7 * Real.log 2 := by
    rw [show (7 : ℝ) * Real.log 2 = Real.log (2 ^ 7) by rw [Real.log_pow]; norm_num]
    exact Real.log_le_log (by linarith) (by linarith)
  have far : 257 ≤ d → 4 * Real.log 2 ≤ Real.log ((d : ℝ) / 16) := fun h' => by
    have : (257 : ℝ) ≤ d := by exact_mod_cast h'
    rw [show (4 : ℝ) * Real.log 2 = Real.log (2 ^ 4) by rw [Real.log_pow]; norm_num]
    exact Real.log_le_log (by norm_num) (by linarith)
  have ey := step_eq d hd h
  obtain ⟨y, hy⟩ : ∃ y : ℝ, Real.log ((d : ℝ) / 16) / (8721810 / 4194304) * 16 = y := ⟨_, rfl⟩
  have y0 : 0 ≤ y := by rw [← hy]; positivity
  have y1 : y < 100 := by rw [← hy]; linarith
  have y2 : 257 ≤ d → 15 ≤ y := fun h' => by have := far h'; rw [← hy]; linarith
  rw [hy] at ey
  have f0 : 0 ≤ ⌊y⌋ := Int.floor_nonneg.mpr y0
  have f1 : ⌊y⌋ < 100 := Int.floor_lt.mpr (by exact_mod_cast y1)
  refine ⟨⌊y⌋.toNat, by omega, ?_, fun h' => ?_⟩
  · rw [ey]
    show BitVec.ofInt 32 (max (-(2 ^ (32 - 1) : ℕ)) (min ((2 ^ (32 - 1) : ℕ) - 1) (if 0 ≤ y then ⌊y⌋ else ⌈y⌉))) = _
    rw [if_pos y0, min_eq_right (by norm_num; omega), max_eq_right (by norm_num; omega)]
    obtain ⟨k, hk⟩ := Int.eq_ofNat_of_zero_le f0
    rw [hk, Int.toNat_natCast]
    exact BitVec.ofInt_natCast 32 k
  · have : 15 ≤ ⌊y⌋ := Int.le_floor.mpr (by exact_mod_cast y2 h')
    omega

theorem bucket_eq (d : ℕ) (hd : d < 2048) :
    ∃ k : ℕ, k < 32 ∧ bucket (BitVec.ofNat 32 d) = BitVec.ofNat 32 k ∧ (257 ≤ d → k = 31) := by
  by_cases h : d < 16
  · refine ⟨d, by omega, ?_, fun h' => by omega⟩
    unfold bucket
    rw [max_zero d hd]
    have : IntOp.cmpi .slt (BitVec.ofNat 32 d) 16#32 = 1#1 := by
      show BitVec.ofBool ((BitVec.ofNat 32 d).slt 16#32) = 1#1
      rw [BitVec.slt_eq_decide, word_toInt d hd]
      have : ((d : ℤ) < (16#32).toInt) := by show (d : ℤ) < 16; omega
      rw [decide_eq_true this]; rfl
    rw [this]
    rfl
  · have h16 : 16 ≤ d := by omega
    obtain ⟨k, hk, ek, far⟩ := floor_step d hd h16
    have e16 : IntOp.addi 16#32 (BitVec.ofNat 32 k) = BitVec.ofNat 32 (16 + k) := (BitVec.ofNat_add 16 k).symm
    have emin : IntOp.minsi (BitVec.ofNat 32 (16 + k)) 31#32 = BitVec.ofNat 32 (min (16 + k) 31) := by
      unfold IntOp.minsi
      rw [BitVec.slt_eq_decide, word_toInt (16 + k) (by omega)]
      by_cases h' : 16 + k < 31
      · rw [if_pos (by show decide (((16 + k : ℕ) : ℤ) < 31) = true; rw [decide_eq_true_eq]; omega), min_eq_left (by omega)]
      · rw [if_neg (by show ¬ decide (((16 + k : ℕ) : ℤ) < 31) = true; rw [decide_eq_true_eq]; omega), min_eq_right (by omega)]
    refine ⟨min (16 + k) 31, by omega, ?_, fun h' => by have := far h'; omega⟩
    unfold bucket
    rw [max_zero d hd, ek, e16, emin]
    have : IntOp.cmpi .slt (BitVec.ofNat 32 d) 16#32 = 0#1 := by
      show BitVec.ofBool ((BitVec.ofNat 32 d).slt 16#32) = 0#1
      rw [BitVec.slt_eq_decide, word_toInt d hd]
      have : ¬ ((d : ℤ) < (16#32).toInt) := by show ¬ (d : ℤ) < 16; omega
      rw [decide_eq_false this]; rfl
    rw [this]
    rfl

/-- The bucket as a number. -/
def index (d : ℕ) : ℕ := (bucket (BitVec.ofNat 32 d)).toNat

theorem index_lt (d : ℕ) (hd : d < 2048) : index d < 32 := by
  obtain ⟨k, hk, e, _⟩ := bucket_eq d hd
  unfold index
  rw [e, BitVec.toNat_ofNat]
  omega

theorem index_far (d : ℕ) (hd : d < 2048) (h : 257 ≤ d) : index d = 31 := by
  obtain ⟨k, _, e, far⟩ := bucket_eq d hd
  unfold index
  rw [e, far h]
  rfl

theorem bucket_index (d : ℕ) : bucket (BitVec.ofNat 32 d) = BitVec.ofNat 32 (index d) := by
  unfold index
  rw [BitVec.ofNat_toNat, BitVec.setWidth_eq]

end Cert.Bucket

end
-- ==== Proof.HostVal.lean ====
/- What the kernel's operands hold when its call begins. -/
module

public import proofs.«01_k».proof.Proof.Gen.KernelIdeal.Value
public import proofs.«01_k».proof.Proof.Bucket
public import Idealize.ShloMosaic.Lib.Pointwise
public import Idealize.ShloMosaic.Lib.StableHlo.ReadAt

@[expose] public section

set_option maxRecDepth 16384

noncomputable section

namespace Cert.KernelIdeal.Moba

open Cert.KernelIdeal Cert.KernelIdeal.Gen Idealize.ShloMosaic Idealize.ShloMosaic.TcCoe Idealize.SL.Sem

variable (m : (ℓ : Loc nD τ sig) → Buf (Elt Ideal) ℓ) (c : Dev nD)

theorem rows_entry (r : Fin 16384) (y : Fin 9216) :
    (V m c main_v3 : FVec Ideal S16384x13312 .f32) (ix2 r ⟨4096 + y.val, by omega⟩)
      = (m ((c.tc : Thread nD τ).loc main_arg0) : FVec Ideal S8x2048x13344 .f32) (ix3 ⟨r.val / 2048, by omega⟩ ⟨r.val % 2048, by omega⟩ ⟨y.val, by omega⟩) := by
  unfold_abbrev_sides
  after_reads_at

theorem own_entry (r q : Fin 256) :
    (V m c main_v29 : IVec S256x256 32) (ix2 r q) = Bucket.bucket (IntOp.subi (BitVec.ofNat 32 q.val) (BitVec.ofNat 32 r.val)) := by
  unfold_abbrev_sides
  after_reads_at
  rfl

theorem before_entry (r q : Fin 256) :
    (V m c main_v51 : IVec S256x256 32) (ix2 r q)
      = Bucket.bucket (IntOp.addi (IntOp.subi (BitVec.ofNat 32 q.val) (BitVec.ofNat 32 r.val)) 256#32) := by
  unfold_abbrev_sides
  after_reads_at
  rfl

end Cert.KernelIdeal.Moba

end
-- ==== Proof.Model.lean ====
/- What one grid point's body computes, written once for all eight query blocks: the score tiles of query block `i`
   against the key blocks `0 … i`, the routing choice, the running maximum and the weighted sum. -/
module

public import proofs.«01_k».proof.Proof.Gen.KernelIdeal.Value
public import Idealize.ShloMosaic.Lib.Tactic
public import Idealize.ShloMosaic.Lib.ValueIdx

@[expose] public section

noncomputable section

namespace Cert.KernelIdeal.Moba

open Cert.KernelIdeal Cert.KernelIdeal.Gen
open Idealize.ShloMosaic Idealize.ShloMosaic.TcCoe Idealize.SL.Sem

variable {F : FTy → Type} [FloatOps F] [Named F]

/-- The numbers below `n`, in order. -/
def upto : ℕ → List ℕ
  | 0 => []
  | n + 1 => upto n ++ [n]

theorem row_slices (n : ℕ) : S8x256.Slices ![n % 8, 0] S1x256 := ⟨rfl, fun a => by
  have := Nat.mod_lt n (show 0 < 8 by decide)
  fin_cases a
  · show n % 8 + 1 ≤ 8; omega
  · show 0 + 256 ≤ 256; omega⟩

/-- Rows `256 n … 256 n + 255` of an array of 2048 rows. -/
def rowsBlk {α : Type} (X : S2048x128.Idx → α) (n : ℕ) : S256x128.Idx → α := fun y =>
  X (ValueIdx.ix2 ⟨(256 * n + (y 0).val) % 2048, Nat.mod_lt _ (by decide)⟩ ⟨(y 1).val, (y 1).isLt⟩)

/-- Columns `256 n … 256 n + 255` of the transposed values. -/
def colsBlk {α : Type} (X : S144x2048.Idx → α) (n : ℕ) : S144x256.Idx → α := fun y =>
  X (ValueIdx.ix2 ⟨(y 0).val, (y 0).isLt⟩ ⟨(256 * n + (y 1).val) % 2048, Nat.mod_lt _ (by decide)⟩)

def qRound (q : Vec F S256x128 .f32) : FVec F S256x128 .bf16 :=
  truncf .bf16 (shapeCast S256x128 q shapeCasts_S256x128_S256x128) bitsLt_bf16_f32

def raw (q : Vec F S256x128 .f32) (kb : Vec F S256x128 .bf16) : FVec F S256x256 .f32 :=
  matmul dot_S256x128_S256x128_S256x256_1_1_0_0_n_n none kb (qRound q) (constant S256x256 .f32 0x00000000#32)

def masked : FVec F S256x256 .f32 := broadcast S256x256 (Named.named κ "neg_inf" 0xF149F2CA#32 : F .f32)

def causal : IVec S256x256 1 :=
  cmpi .sle (iota .tc S256x256 32 [0] iota_S256x256_d0_w32) (iota .tc S256x256 32 [1] iota_S256x256_d1_w32)

def routeAll (km : FVec F S8x128 .f32) (q : Vec F S256x128 .f32) : FVec F S8x256 .f32 :=
  matmul dot_S8x128_S256x128_S8x256_1_1_0_0_n_n (some .fp32) km (shapeCast S256x128 q shapeCasts_S256x128_S256x128)
    (constant S8x256 .f32 0x00000000#32)

def routeRow (r : FVec F S8x256 .f32) (n : ℕ) : FVec F S1x256 .f32 :=
  extractStridedSlice S1x256 ![n % 8, 0] r (row_slices n)

/-- How many of the blocks below `i` route ahead of block `n`. -/
def rank (rc : ℕ → FVec F S1x256 .f32) (i n : ℕ) : IVec S1x256 32 :=
  (upto i).foldl (fun acc m => bif Nat.beq m n then acc else
    addi acc (extui 32 (cmpf (bif Nat.blt m n then .oge else .ogt) (rc m) (rc n)) natLt_1_32)) (broadcast S1x256 0#32)

def chosen (rc : ℕ → FVec F S1x256 .f32) (i n : ℕ) : IVec S1x256 1 :=
  cmpi .slt (rank rc i n) (broadcast S1x256 3#32)

def keepChosen (s : IVec S1x256 1) (t : FVec F S256x256 .f32) : FVec F S256x256 .f32 :=
  select (broadcastTo S256x256 (shapeCast S1x256 s shapeCasts_S1x256_S1x256) broadcasts_S1x256_S256x256) t masked

/-- The score tile of query block `i` against key block `n`. -/
def tile (km : FVec F S8x128 .f32) (q : Vec F S256x128 .f32) (KB : ℕ → Vec F S256x128 .bf16)
    (bo bp : Vec F S256x256 .f32) (i n : ℕ) : FVec F S256x256 .f32 :=
  bif Nat.beq n i then select causal (addf (raw q (KB n)) bo) masked
  else
    bif Nat.blt 3 i then
      keepChosen (chosen (routeRow (routeAll km q)) i n)
        (bif Nat.beq (n + 1) i then addf (raw q (KB n)) bp else raw q (KB n))
    else (bif Nat.beq (n + 1) i then addf (raw q (KB n)) bp else raw q (KB n))

def colMax (t : FVec F S256x256 .f32) : FVec F S1x256 .f32 :=
  shapeCast S1x256 (multiReduction .maximumf [0] S256 t 0xFF800000#32 reduces_S256x256_S256 (.inl rfl) rfl)
    shapeCasts_S256_S1x256

/-- The maximum of the tiles before the last two. -/
def farMax (T : ℕ → FVec F S256x256 .f32) (n : ℕ) : FVec F S1x256 .f32 :=
  (upto n).foldl (fun a m => maximumf a (colMax (T (m + 1)))) (colMax (T 0))

/-- The running maximum of query block `i`. -/
def runMax (B : F .f32) (T : ℕ → FVec F S256x256 .f32) : ℕ → FVec F S1x256 .f32
  | 0 => colMax (T 0)
  | 1 => maximumf (colMax (T 0)) (colMax (T 1))
  | n + 2 => maximumf (maximumf (colMax (T (n + 1))) (colMax (T (n + 2)))) (addf (farMax T n) (broadcast S1x256 B))

def weights (m : FVec F S1x256 .f32) (t : FVec F S256x256 .f32) : FVec F S256x256 .bf16 :=
  truncf .bf16 (exp2 (mulf (subf t (broadcastTo S256x256 m broadcasts_S1x256_S256x256))
    (broadcast S256x256 (Named.named κ "inv_sqrt_d_log2e" 0x3E0293EE#32 : F .f32)))) bitsLt_bf16_f32

def accum (B : F .f32) (VT : ℕ → Vec F S144x256 .bf16) (T : ℕ → FVec F S256x256 .f32) (M : FVec F S1x256 .f32) (i : ℕ) :
    FVec F S144x256 .f32 :=
  (upto (i + 1)).foldl (fun a n => addf a (matmul dot_S144x256_S256x256_S144x256_1_0_0_1_n_n none (VT n)
    (weights (bif Nat.blt (n + 1) i then subf M (broadcast S1x256 B) else M) (T n)) (constant S144x256 .f32 0x00000000#32)))
    (broadcast S144x256 (Scalar.ofBits .f32 0x00000000#32))

def finish (acc : FVec F S144x256 .f32) : FVec F S256x128 .bf16 :=
  truncf .bf16 (transpose S256x128 [1, 0]
    (divf (extractStridedSlice S128x256 ![0, 0] acc slices_S144x256_o0_0_S128x256)
      (broadcastTo S128x256 (extractStridedSlice S1x256 ![128, 0] acc slices_S144x256_o128_0_S1x256) broadcasts_S1x256_S128x256))
    transposes_S128x256_p1_0_S256x128) bitsLt_bf16_f32

/-- Query block `i` of the result from its tiles. -/
def outOf (B : F .f32) (VT : ℕ → Vec F S144x256 .bf16) (T : ℕ → FVec F S256x256 .f32) (i : ℕ) : FVec F S256x128 .bf16 :=
  finish (accum B VT T (runMax B T i) i)

/-- Query block `i` of the result. -/
def outBlk (B : F .f32) (km : FVec F S8x128 .f32) (Q : ℕ → Vec F S256x128 .f32) (KB : ℕ → Vec F S256x128 .bf16)
    (VT : ℕ → Vec F S144x256 .bf16) (bo bp : Vec F S256x256 .f32) (i : ℕ) : FVec F S256x128 .bf16 :=
  outOf B VT (tile km (Q i) KB bo bp i) i

theorem hz2 : (![0, 0] : Fin 2 → ℕ) = fun _ => 0 := funext fun a => by fin_cases a <;> rfl

theorem ld_rows {α : EltTy → Type} {e : EltTy} (X : S2048x128.Idx → α e) (n o : ℕ) (ho : o = 256 * n) (hn : n < 8)
    (inb : ∀ a, (![o, 0] : Fin 2 → ℕ) a + (![256, 128] : Fin 2 → ℕ) a ≤ S2048x128.size a) :
    View.ld X (Rect.unit (s := S2048x128) ![o, 0] ![256, 128] inb) = rowsBlk X n := by
  subst ho
  funext y
  have h0 : (y 0).val < 256 := (y 0).isLt
  refine congrArg X (funext fun a => Fin.ext ?_)
  fin_cases a
  · show 256 * n + 1 * (y 0).val = (256 * n + (y 0).val) % 2048
    omega
  · show 0 + 1 * (y 1).val = (y 1).val
    omega

theorem ld_cols {α : EltTy → Type} {e : EltTy} (X : S144x2048.Idx → α e) (n o : ℕ) (ho : o = 256 * n) (hn : n < 8)
    (inb : ∀ a, (![0, o] : Fin 2 → ℕ) a + (![144, 256] : Fin 2 → ℕ) a ≤ S144x2048.size a) :
    View.ld X (Rect.unit (s := S144x2048) ![0, o] ![144, 256] inb) = colsBlk X n := by
  subst ho
  funext y
  have h0 : (y 1).val < 256 := (y 1).isLt
  refine congrArg X (funext fun a => Fin.ext ?_)
  fin_cases a
  · show 0 + 1 * (y 0).val = (y 0).val
    omega
  · show 256 * n + 1 * (y 1).val = (256 * n + (y 1).val) % 2048
    omega

theorem ld_whole {α : EltTy → Type} {e : EltTy} (X : S2048x128.Idx → α e)
    (inb : ∀ a, (![0, 0] : Fin 2 → ℕ) a + (![2048, 128] : Fin 2 → ℕ) a ≤ S2048x128.size a) :
    View.ld X (Rect.unit (s := S2048x128) ![0, 0] ![2048, 128] inb) = X :=
  View.ld_unit_zero (S := S2048x128) hz2 inb X

theorem ld_bias {α : EltTy → Type} {e : EltTy} (X : S256x256.Idx → α e)
    (inb : ∀ a, (![0, 0] : Fin 2 → ℕ) a + (![256, 256] : Fin 2 → ℕ) a ≤ S256x256.size a) :
    View.ld X (Rect.unit (s := S256x256) ![0, 0] ![256, 256] inb) = X :=
  View.ld_unit_zero (S := S256x256) hz2 inb X

/-- One entry of the bias table. -/
theorem ld_entry {α : EltTy → Type} {e : EltTy} (X : S32x8.Idx → α e) (i : grid0.Coords) (k : ℕ) (hk : k < 32)
    (inb : ∀ a, (![k, BitVec.toNat (Scalar.indexCast (BitVec.ofNat 32 (i 0).val))] : Fin 2 → ℕ) a + (![1, 1] : Fin 2 → ℕ) a ≤ S32x8.size a)
    (x : (⟨2, ![1, 1]⟩ : Shape).Idx) :
    View.ld X (Rect.unit (s := S32x8) ![k, BitVec.toNat (Scalar.indexCast (BitVec.ofNat 32 (i 0).val))] ![1, 1] inb) x
      = X (ValueIdx.ix2 ⟨k, hk⟩ ⟨(i 0).val, (i 0).isLt⟩) := by
  have h0 : (x 0).val < 1 := (x 0).isLt
  have h1 : (x 1).val < 1 := (x 1).isLt
  have hi : (i 0).val < 8 := (i 0).isLt
  refine congrArg X (funext fun a => Fin.ext ?_)
  fin_cases a
  · show k + 1 * (x 0).val = k
    omega
  · show BitVec.toNat (Scalar.indexCast (BitVec.ofNat 32 (i 0).val)) + 1 * (x 1).val = (i 0).val
    have : BitVec.toNat (Scalar.indexCast (BitVec.ofNat 32 (i 0).val)) = (i 0).val := by
      show (BitVec.ofNat 32 (i 0).val).toNat = _
      rw [BitVec.toNat_ofNat]
      omega
    omega

theorem kb_leaf {sig : RefSig} {κ : Kind} {sp : Space} (v : View sig κ sp S2048x128 .bf16) (w : FVec F S2048x128 .bf16) (n o : ℕ)
    (ho : o = 256 * n) (hn : n < 8) (inb0 : ∀ a, (![0, 0] : Fin 2 → ℕ) a + S2048x128.size a ≤ S2048x128.size a)
    (inb : ∀ a, (![o, 0] : Fin 2 → ℕ) a + (![256, 128] : Fin 2 → ℕ) a ≤ S2048x128.size a) :
    v.readCov (Val := Elt F) [⟨Rect.unit ![0, 0] ![2048, 128] inb0, w⟩] (Rect.unit (s := S2048x128) ![o, 0] ![256, 128] inb).toLoadRect
      = rowsBlk w n := by
  rw [View.readCov_eq_canon']
  have e : View.canon (Val := Elt F) (e := .bf16) [⟨Rect.unit ![0, 0] ![2048, 128] inb0, w⟩] = w :=
    funext fun y => by
      have hy : (Rect.unit (s := S2048x128) ![0, 0] ![2048, 128] inb0).emb y = y := funext fun a => Fin.ext (by
        fin_cases a
        · show 0 + 1 * (y 0).val = (y 0).val
          omega
        · show 0 + 1 * (y 1).val = (y 1).val
          omega)
      have h := View.canon_cons_emb (Val := Elt F) (e := .bf16) (Rect.unit (s := S2048x128) ![0, 0] ![2048, 128] inb0) w [] y
      rw [hy] at h
      exact h
  rw [e]
  exact ld_rows (α := Elt F) (e := .bf16) w n o ho hn inb

/-- The transposed values over a row of ones. -/
def vtAll (v : Vec F S2048x128 .f32) : Vec F S144x2048 .bf16 :=
  View.canon (Val := Elt F) [⟨Rect.unit ![128, 0] ![16, 2048] inb_S144x2048_S16x2048_128_0, k0_pay60 k0_pay59⟩,
    ⟨Rect.unit ![0, 0] ![128, 2048] inb_S144x2048_S128x2048_0_0, k0_pay58 v⟩]

theorem vt_leaf {sig : RefSig} {κ : Kind} {sp : Space} (v : View sig κ sp S144x2048 .bf16) (x : Vec F S2048x128 .f32) (n o : ℕ)
    (ho : o = 256 * n) (hn : n < 8)
    (inb : ∀ a, (![0, o] : Fin 2 → ℕ) a + (![144, 256] : Fin 2 → ℕ) a ≤ S144x2048.size a) :
    v.readCov (Val := Elt F) [⟨Rect.unit ![128, 0] ![16, 2048] inb_S144x2048_S16x2048_128_0, k0_pay60 k0_pay59⟩,
      ⟨Rect.unit ![0, 0] ![128, 2048] inb_S144x2048_S128x2048_0_0, k0_pay58 x⟩]
      (Rect.unit (s := S144x2048) ![0, o] ![144, 256] inb).toLoadRect = colsBlk (vtAll x) n := by
  rw [View.readCov_eq_canon']
  exact ld_cols (α := Elt F) (e := .bf16) (vtAll x) n o ho hn inb

theorem first_block (B : F .f32) (km : FVec F S8x128 .f32) (Q : ℕ → Vec F S256x128 .f32) (KB : ℕ → Vec F S256x128 .bf16)
    (VT : ℕ → Vec F S144x256 .bf16) (bo bp : Vec F S256x256 .f32) :
    outBlk B km Q KB VT bo bp 0 = k0_pay67 k0_pay65 (k0_pay66 (Q 0) (KB 0) bo) (VT 0) := by
  simp only [outBlk, outOf, runMax, accum, upto, List.nil_append, List.foldl_cons, List.foldl_nil, tile,
    show Nat.beq 0 0 = true from rfl, show Nat.blt (0 + 1) 0 = false from rfl, cond_true, cond_false, k0_pay67, k0_pay66,
    k0_pay65, finish, weights, colMax, raw, qRound, masked, causal, k0_pay61]

/-- One piece that is the whole plane. -/
theorem plane_canon (w : Vec F S256x256 .f32)
    (inb : ∀ a, (![0, 0] : Fin 2 → ℕ) a + (![256, 256] : Fin 2 → ℕ) a ≤ S256x256.size a) :
    View.canon (Val := Elt F) [⟨Rect.unit (s := S256x256) ![0, 0] ![256, 256] inb, w⟩] = w := by
  funext y
  have he : (Rect.unit (s := S256x256) ![0, 0] ![256, 256] inb).emb y = y := by
    funext a
    apply Fin.ext
    fin_cases a
    · show 0 + 1 * (y 0).val = (y 0).val
      omega
    · show 0 + 1 * (y 1).val = (y 1).val
      omega
  have h := View.canon_cons_emb (Val := Elt F) (e := .f32) (Rect.unit (s := S256x256) ![0, 0] ![256, 256] inb) w [] y
  rw [he] at h
  exact h

/-- The bias tile a head stores: entry `kk` of its table column wherever the bucket map says `kk`. -/
def biasTile (bk : Vec F S256x256 .i32) (e : ℕ → F .f32) : Vec F S256x256 .f32 :=
  shapeCast S256x256 ((upto 32).foldl (fun acc kk =>
    select (cmpi .eq (shapeCast S256x256 bk shapeCasts_S256x256_S256x256) (broadcast S256x256 (BitVec.ofNat 32 kk)))
      (broadcast S256x256 (Scalar.mulf (e kk) (Named.named κ "sqrt_d" 0x413504F3#32))) acc)
    (broadcast S256x256 (Scalar.ofBits .f32 0x00000000#32))) shapeCasts_S256x256_S256x256

/-- The bias table's column for the head of grid point `i`. -/
def biasCol (i : grid0.Coords) (x0 : Vec F S32x8 .f32) (kk : ℕ) : F .f32 :=
  x0 (ValueIdx.ix2 ⟨kk % 32, Nat.mod_lt _ (by decide)⟩ ⟨(i 0).val, (i 0).isLt⟩)

/-- The same column as the body loads it. -/
def biasLd (i : grid0.Coords) (x0 : Vec F S32x8 .f32)
    (inb : ∀ kk : ℕ, ∀ a, (![kk % 32, BitVec.toNat (Scalar.indexCast (BitVec.ofNat 32 (i 0).val))] : Fin 2 → ℕ) a + (![1, 1] : Fin 2 → ℕ) a ≤ S32x8.size a)
    (kk : ℕ) : F .f32 :=
  View.ld x0 (Rect.unit (s := S32x8) ![kk % 32, BitVec.toNat (Scalar.indexCast (BitVec.ofNat 32 (i 0).val))] ![1, 1] (inb kk))
    (Shape.Idx.first (by show 0 < (⟨2, ![1, 1]⟩ : Shape).numel; decide))

theorem entry_inb (i : grid0.Coords) (kk : ℕ) (a : Fin 2) :
    (![kk % 32, BitVec.toNat (Scalar.indexCast (BitVec.ofNat 32 (i 0).val))] : Fin 2 → ℕ) a + (![1, 1] : Fin 2 → ℕ) a ≤ S32x8.size a := by
  have hi : (i 0).val < 8 := (i 0).isLt
  have hb : BitVec.toNat (Scalar.indexCast (BitVec.ofNat 32 (i 0).val)) = (i 0).val := by
    show (BitVec.ofNat 32 (i 0).val).toNat = _
    rw [BitVec.toNat_ofNat]
    omega
  rw [hb]
  fin_cases a
  · show kk % 32 + 1 ≤ 32
    omega
  · show (i 0).val + 1 ≤ 8
    omega

theorem biasLd_eq (i : grid0.Coords) (x0 : Vec F S32x8 .f32) :
    biasLd i x0 (entry_inb i) = biasCol i x0 :=
  funext fun kk => ld_entry (α := Elt F) (e := .f32) x0 i (kk % 32) (Nat.mod_lt _ (by decide)) (entry_inb i kk) _

/-- A scratch plane stored whole reads back as stored. -/
theorem plane_leaf {sig : RefSig} {κ : Kind} {sp : Space} (v : View sig κ sp S256x256 .f32) (w : Vec F S256x256 .f32)
    (inb inb' : ∀ a, (![0, 0] : Fin 2 → ℕ) a + (![256, 256] : Fin 2 → ℕ) a ≤ S256x256.size a) :
    v.readCov (Val := Elt F) [⟨Rect.unit ![0, 0] ![256, 256] inb, w⟩]
      (Rect.unit (s := S256x256) ![0, 0] ![256, 256] inb').toLoadRect = w := by
  rw [View.readCov_eq_canon', show View.canon (Val := Elt F) [⟨Rect.unit ![0, 0] ![256, 256] inb, w⟩] = w from plane_canon w inb]
  exact ld_bias (α := Elt F) (e := .f32) w inb'

/-- The whole block a grid point leaves. -/
def outAll (B : F .f32) (q k v : Vec F S2048x128 .f32) (bo bp : Vec F S256x256 .f32) : Vec F S2048x128 .bf16 := fun y =>
  outBlk B (k0_pay56 k) (rowsBlk q) (rowsBlk (k0_pay57 k)) (colsBlk (vtAll v)) bo bp ((y 0).val / 256)
    (ValueIdx.ix2 ⟨(y 0).val % 256, Nat.mod_lt _ (by decide)⟩ ⟨(y 1).val, (y 1).isLt⟩)

theorem outAll_piece (B : F .f32) (q k v : Vec F S2048x128 .f32) (bo bp : Vec F S256x256 .f32) (n o : ℕ) (ho : o = 256 * n)
    (inb : ∀ a, (![o, 0] : Fin 2 → ℕ) a + S256x128.size a ≤ S2048x128.size a) (w : FVec F S256x128 .bf16)
    (hw : w = outBlk B (k0_pay56 k) (rowsBlk q) (rowsBlk (k0_pay57 k)) (colsBlk (vtAll v)) bo bp n)
    (x : (Rect.unit (s := S2048x128) ![o, 0] S256x128.size inb).shape.Idx) :
    w x = outAll B q k v bo bp ((Rect.unit (s := S2048x128) ![o, 0] S256x128.size inb).emb x) := by
  subst ho hw
  have h0 : (x 0).val < 256 := (x 0).isLt
  have e0 : ((Rect.unit (s := S2048x128) ![256 * n, 0] S256x128.size inb).emb x 0).val = 256 * n + 1 * (x 0).val := rfl
  have e1 : ((Rect.unit (s := S2048x128) ![256 * n, 0] S256x128.size inb).emb x 1).val = 0 + 1 * (x 1).val := rfl
  unfold outAll
  have hd : ((Rect.unit (s := S2048x128) ![256 * n, 0] S256x128.size inb).emb x 0).val / 256 = n := by rw [e0]; omega
  rw [hd]
  refine congrArg _ (funext fun a => Fin.ext ?_)
  fin_cases a
  · show (x 0).val = ((Rect.unit (s := S2048x128) ![256 * n, 0] S256x128.size inb).emb x 0).val % 256
    rw [e0]; omega
  · show (x 1).val = ((Rect.unit (s := S2048x128) ![256 * n, 0] S256x128.size inb).emb x 1).val
    rw [e1]; omega

end Cert.KernelIdeal.Moba

end
-- ==== Proof.Softmax.lean ====
/- A weighted mean does not change when all its weights are scaled: the two ways of writing the softmax. -/
module

public import Idealize.ShloMosaic.PureOps.Ideal

@[expose] public section

noncomputable section

namespace Cert.Softmax

open Idealize.ShloMosaic

/-- The weight of a logit: its exponential, zero for a masked one. -/
def wt (x : EReal) : ℝ := (Ideal.exp x).toReal

theorem wt_bot : wt ⊥ = 0 := by
  show (0 : EReal).toReal = 0
  exact EReal.toReal_zero

theorem wt_coe (r : ℝ) : wt (r : EReal) = Real.exp r := by
  show (Ideal.exp (r : EReal)).toReal = _
  rfl

theorem wt_nonneg (x : EReal) (hx : x ≠ ⊤) : 0 ≤ wt x := by
  induction x with
  | bot => rw [wt_bot]
  | top => exact absurd rfl hx
  | coe r => rw [wt_coe]; exact (Real.exp_pos r).le

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- Scaling by a positive number distributes over a sum of extended reals. -/
theorem scale_sum {ι : Type} (s : Finset ι) (α : ℝ) (hα : 0 ≤ α) (f : ι → EReal) :
    (α : EReal) * ∑ i ∈ s, f i = ∑ i ∈ s, (α : EReal) * f i := by
  classical
  induction s using Finset.induction_on with
  | empty => simp
  | insert a s h ih =>
    rw [Finset.sum_insert h, Finset.sum_insert h, ← ih]
    exact EReal.left_distrib_of_nonneg_of_ne_top (by exact_mod_cast hα) (EReal.coe_ne_top α) _ _

/-- The weighted mean. -/
def mean {ι : Type} [Fintype ι] (w : ι → ℝ) (V : ι → EReal) : EReal :=
  (∑ i, (w i : EReal) * V i) * (((∑ i, w i)⁻¹ : ℝ) : EReal)

theorem coe_mul_coe_mul (a b : ℝ) (x : EReal) : ((a * b : ℝ) : EReal) * x = (a : EReal) * ((b : EReal) * x) := by
  rw [EReal.coe_mul, mul_assoc]

theorem mean_of_quotient {ι : Type} [Fintype ι] (w : ι → ℝ) (V : ι → EReal) (α : ℝ) (hα : 0 < α) (hs : 0 < ∑ i, w i) :
    Ideal.div (∑ i, ((α * w i : ℝ) : EReal) * V i) (∑ i, ((α * w i : ℝ) : EReal)) = mean w V := by
  have h1 : (∑ i, ((α * w i : ℝ) : EReal) * V i) = (α : EReal) * ∑ i, (w i : EReal) * V i := by
    rw [scale_sum _ α hα.le]; exact Finset.sum_congr rfl fun i _ => coe_mul_coe_mul _ _ _
  have h2 : (∑ i, ((α * w i : ℝ) : EReal)) = ((α * ∑ i, w i : ℝ) : EReal) := by
    rw [Finset.mul_sum, coe_sum]
  have h3 : α * ∑ i, w i ≠ 0 := (mul_pos hα hs).ne'
  rw [h1, h2, Ideal.div_coe h3, mul_comm (α : EReal), mul_assoc, ← EReal.coe_mul, mean]
  congr 2
  field_simp

theorem mean_of_shares {ι : Type} [Fintype ι] (w : ι → ℝ) (V : ι → EReal) (α : ℝ) (hα : 0 < α) (hs : 0 < ∑ i, w i) :
    (∑ i, Ideal.div ((α * w i : ℝ) : EReal) (∑ i, ((α * w i : ℝ) : EReal)) * V i) = mean w V := by
  have h2 : (∑ i, ((α * w i : ℝ) : EReal)) = ((α * ∑ i, w i : ℝ) : EReal) := by
    rw [Finset.mul_sum, coe_sum]
  have h3 : α * ∑ i, w i ≠ 0 := (mul_pos hα hs).ne'
  rw [h2, mean, mul_comm (∑ i, (w i : EReal) * V i), scale_sum _ _ (inv_nonneg.mpr hs.le)]
  refine Finset.sum_congr rfl fun i _ => ?_
  rw [Ideal.div_coe h3, ← EReal.coe_mul, ← mul_assoc, ← EReal.coe_mul]
  congr 2
  field_simp

/-- The base-two weights, the scale and the base's logarithm taken together. -/
theorem exp2_scaled (x : EReal) (hx : x ≠ ⊤) (M s : ℝ) (hs : 0 < s) :
    Ideal.exp2 ((x - (M : EReal)) * ((s * (Real.log 2)⁻¹ : ℝ) : EReal))
      = ((Real.exp (-(M * s)) * wt (x * (s : EReal)) : ℝ) : EReal) := by
  have hl : 0 < Real.log 2 := Real.log_pos (by norm_num)
  have hp : 0 < s * (Real.log 2)⁻¹ := mul_pos hs (inv_pos.mpr hl)
  induction x with
  | bot =>
    rw [EReal.bot_sub, EReal.bot_mul_coe_of_pos hp, EReal.bot_mul_coe_of_pos hs, wt_bot, mul_zero]
    rfl
  | top => exact absurd rfl hx
  | coe r =>
    rw [← EReal.coe_sub, ← EReal.coe_mul, ← EReal.coe_mul, wt_coe, ← Real.exp_add]
    show ((Real.rpow 2 _ : ℝ) : EReal) = _
    rw [show Real.rpow 2 ((r - M) * (s * (Real.log 2)⁻¹)) = (2 : ℝ) ^ ((r - M) * (s * (Real.log 2)⁻¹)) from rfl,
      Real.rpow_def_of_pos (by norm_num)]
    congr 2
    field_simp
    ring

/-- The natural weights after the maximum is taken off. -/
theorem exp_shifted (x : EReal) (hx : x ≠ ⊤) (M : ℝ) :
    Ideal.exp (x - (M : EReal)) = ((Real.exp (-M) * wt x : ℝ) : EReal) := by
  induction x with
  | bot => rw [EReal.bot_sub, wt_bot, mul_zero]; rfl
  | top => exact absurd rfl hx
  | coe r =>
    rw [← EReal.coe_sub, wt_coe, ← Real.exp_add]
    show ((Real.exp _ : ℝ) : EReal) = _
    congr 2
    ring

end Cert.Softmax

end
-- ==== Proof.Rank.lean ====
/- The three greatest of eight: an entry is among the first three of a stable descending sort exactly when fewer than
   three entries come ahead of it, an earlier equal one counting as ahead. -/
module

public import Idealize.ShloMosaic.Lib.SortFacts
public import Idealize.ShloMosaic.PureOps.Ideal

@[expose] public section

namespace Cert.Rank

open Idealize.ShloMosaic

/-- Two relations that agree on a later entry against an earlier one sort an increasing list alike. -/
theorem sort_later {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem source_later {n : ℕ} (R R' : Fin n → Fin n → Bool) (h : ∀ a b, a < b → R b a = R' b a) :
    sortedFrom R = sortedFrom R' := by
  have e : sortPositions n R = sortPositions n R' := sort_later R R' h _ (List.pairwise_lt_finRange n)
  funext k
  unfold sortedFrom
  rw [List.get_of_eq e]
  rfl

/-- A strict total order leaves at place `s` the entry that `s` others precede. -/
theorem place {n : ℕ} (B : Fin n → Fin n → Bool) (irr : ∀ a, B a a = false) (asym : ∀ a b, B a b = true → B b a = false)
    (tot : ∀ a b, a ≠ b → B a b = true ∨ B b a = true)
    (tr : ∀ a b c, B a b = false → B b c = false → B a c = false) (s : Fin n) :
    (Finset.univ.filter fun m => B m (sortedFrom B s) = true).card = s.val := by
  have inv := sortedFrom_noInversion B B asym (fun _ _ h => h) tr
  have key : (Finset.univ.filter fun m => B m (sortedFrom B s) = true) = (Finset.Iio s).image (sortedFrom B) := by
    ext m
    obtain ⟨t, rfl⟩ := sortedFrom_surjective B m
    simp only [Finset.mem_filter, Finset.mem_univ, true_and, Finset.mem_image, Finset.mem_Iio]
    constructor
    · intro h
      refine ⟨t, ?_, rfl⟩
      rcases lt_trichotomy t s with h' | h' | h'
      · exact h'
      · rw [h', irr] at h; exact absurd h (by decide)
      · rw [inv s t h'] at h; exact absurd h (by decide)
    · rintro ⟨u, hu, e⟩
      rw [← e]
      have hne : sortedFrom B u ≠ sortedFrom B s := fun e' => (ne_of_lt hu) (sortedFrom_injective B e')
      rcases tot _ _ hne with h | h
      · exact h
      · rw [inv u s hu] at h; exact absurd h (by decide)
  rw [key, Finset.card_image_of_injective _ (sortedFrom_injective B), Fin.card_Iio]

/-- An entry stands ahead of another when it is greater, or equal and earlier. -/
noncomputable def ahead {n : ℕ} (x : Fin n → EReal) (a b : Fin n) : Bool := decide (x b < x a ∨ (x b = x a ∧ a < b))

/-- The entry `a` is at one of the first `k` places exactly when fewer than `k` stand ahead of it. -/
theorem among_first {n : ℕ} (x : Fin n → EReal) (a : Fin n) (k : ℕ) :
    (∃ s : Fin n, s.val < k ∧ sortedFrom (fun p q => Ideal.cmp .ogt (x p) (x q) == 1#1) s = a)
      ↔ (Finset.univ.filter fun m => ahead x m a = true).card < k := by
  have e : sortedFrom (fun p q => Ideal.cmp .ogt (x p) (x q) == 1#1) = sortedFrom (ahead x) := by
    refine source_later _ _ fun p q hpq => ?_
    have hn : ¬ q < p := not_lt.mpr hpq.le
    by_cases h : x p < x q <;> simp [Ideal.cmp, ahead, h, hn]
  have hp := place (ahead x) (by intro a; simp [ahead])
    (by intro a b; simp only [ahead, decide_eq_true_eq, decide_eq_false_iff_not]
        rintro (h | ⟨h, h'⟩) (g | ⟨g, g'⟩)
        · exact lt_asymm h g
        · exact absurd g.symm (ne_of_lt h).symm.symm
        · exact absurd h.symm (ne_of_lt g)
        · exact lt_asymm h' g')
    (by intro a b hab; simp only [ahead, decide_eq_true_eq]
        rcases lt_trichotomy (x a) (x b) with h | h | h
        · exact Or.inr (Or.inl h)
        · rcases lt_or_gt_of_ne hab with h' | h'
          · exact Or.inl (Or.inr ⟨h.symm, h'⟩)
          · exact Or.inr (Or.inr ⟨h, h'⟩)
        · exact Or.inl (Or.inl h))
    (by intro a b c; simp only [ahead, decide_eq_false_iff_not, not_or, not_and, not_lt]
        rintro ⟨h1, h2⟩ ⟨g1, g2⟩
        refine ⟨h1.trans g1, fun hca => ?_⟩
        have hab : x a = x b := le_antisymm h1 (by rw [← hca]; exact g1)
        have hbc : x c = x b := le_antisymm (by rw [hca]; exact h1) g1
        exact (g2 hbc).trans (h2 hab.symm))
  rw [e]
  constructor
  · rintro ⟨s, hs, rfl⟩
    rw [hp s]; exact hs
  · intro h
    obtain ⟨s, rfl⟩ := sortedFrom_surjective (ahead x) a
    exact ⟨s, by rw [hp s] at h; exact h, rfl⟩

/-- Where the entries from `i` on are below every other, only earlier entries count. -/
theorem ahead_below (x : Fin 8 → EReal) (i : ℕ) (hi : i ≤ 8) (hb : ∀ a : Fin 8, i ≤ a.val → x a = ⊥) (n : Fin 8)
    (hn : n.val < i) (hx : x n ≠ ⊥) (y : ℕ → EReal) (hy : ∀ a : Fin 8, y a.val = x a) :
    (Finset.univ.filter fun m => ahead x m n = true).card
      = ∑ m ∈ Finset.range i, if m ≠ n.val ∧ (if m < n.val then y n.val ≤ y m else y n.val < y m) then 1 else 0 := by
  rw [Finset.card_filter, Fin.sum_univ_eq_sum_range (fun m => if (if h : m < 8 then ahead x ⟨m, h⟩ n else false) = true then 1 else 0) 8
      |> fun h => (Finset.sum_congr rfl (fun a _ => by simp [a.isLt])).trans h]
  rw [← Finset.sum_subset (Finset.range_subset_range.mpr hi)]
  · refine Finset.sum_congr rfl fun m hm => ?_
    have hm' : m < i := Finset.mem_range.mp hm
    have hm8 : m < 8 := lt_of_lt_of_le hm' hi
    rw [dif_pos hm8]
    have e1 : y n.val = x n := hy n
    have e2 : y m = x ⟨m, hm8⟩ := hy ⟨m, hm8⟩
    rw [e1, e2]
    refine if_congr ?_ rfl rfl
    simp only [ahead, decide_eq_true_eq]
    rcases lt_trichotomy m n.val with h | h | h
    · have : (⟨m, hm8⟩ : Fin 8) < n := h
      simp only [this, and_true, h, if_true, ne_eq, ne_of_lt h, not_false_eq_true, true_and]
      rw [le_iff_lt_or_eq]
    · have : (⟨m, hm8⟩ : Fin 8) = n := Fin.ext h
      simp [this, h]
    · have h1 : ¬ (⟨m, hm8⟩ : Fin 8) < n := not_lt.mpr (le_of_lt h)
      have h2 : ¬ m < n.val := not_lt.mpr h.le
      have h3 : m ≠ n.val := ne_of_gt h
      simp [h1, h2, h3]
  · intro m hm hmi
    have hm8 : m < 8 := Finset.mem_range.mp hm
    have him : i ≤ m := by simpa using hmi
    rw [dif_pos hm8, if_neg]
    simp only [ahead, decide_eq_true_eq, hb ⟨m, hm8⟩ him]
    rintro (h | ⟨h, _⟩)
    · exact absurd h not_lt_bot
    · exact hx h

end Cert.Rank
-- ==== Proof.Spec.lean ====
/- Block-routed attention of one head over one sequence, as real numbers: a query sees its own block up to itself and the
   three earlier blocks whose mean key it likes best; its result is the softmax-weighted mean of the values it sees. -/
module

public import proofs.«01_k».proof.Proof.Bucket
public import proofs.«01_k».proof.Proof.Softmax
public import proofs.«01_k».proof.Proof.Rank

@[expose] public section

noncomputable section

namespace Cert.Spec

open Idealize.ShloMosaic

variable (Q K : ℕ → ℕ → ℝ) (tab : ℕ → ℝ)

/-- The scale of the scores. -/
def scale : ℝ := (Real.sqrt 128)⁻¹

theorem scale_pos : 0 < scale := inv_pos.mpr (Real.sqrt_pos.mpr (by norm_num))

theorem sqrt_mul_scale : Real.sqrt 128 * scale = 1 :=
  mul_inv_cancel₀ (Real.sqrt_pos.mpr (by norm_num)).ne'

/-- The unscaled score of query `c` and key `r`. -/
def raw (c r : ℕ) : ℝ := ∑ d : Fin 128, K r d * Q c d

/-- The mean key of a block. -/
def kmean (n d : ℕ) : ℝ := (∑ r : Fin 256, K (256 * n + r) d) * (1 / 256)

/-- How much query `c` likes block `n`. -/
def route (c n : ℕ) : ℝ := ∑ d : Fin 128, kmean K n d * Q c d

/-- How many of the first `i` blocks come ahead of block `n` for query `c`. -/
def rankAt (i c n : ℕ) : ℕ :=
  ∑ m ∈ Finset.range i, if m ≠ n ∧ (if m < n then route Q K c n ≤ route Q K c m else route Q K c n < route Q K c m) then 1 else 0

/-- Whether query `c` sees key `r`. -/
def sees (c r : ℕ) : Prop :=
  (r / 256 = c / 256 ∧ r ≤ c) ∨ (r / 256 < c / 256 ∧ rankAt Q K (c / 256) c (r / 256) < 3)

open scoped Classical in
/-- The logit of query `c` and key `r`. -/
def logit (c r : ℕ) : EReal :=
  if sees Q K c r then ((raw Q K c r * scale + tab (Bucket.index (c - r)) : ℝ) : EReal) else ⊥

/-- The result of query `c` in one lane whose values are `V`. -/
def out (V : ℕ → EReal) (c : ℕ) : EReal :=
  Softmax.mean (ι := Fin 2048) (fun r => Softmax.wt (logit Q K tab c r)) (fun r => V r)

theorem logit_ne_top (c r : ℕ) : logit Q K tab c r ≠ ⊤ := by
  unfold logit
  split
  · exact EReal.coe_ne_top _
  · exact bot_ne_top

theorem sees_self (c : ℕ) : sees Q K c c := Or.inl ⟨rfl, le_refl c⟩

theorem wt_self (c : ℕ) : 0 < Softmax.wt (logit Q K tab c c) := by
  unfold logit
  rw [if_pos (sees_self Q K c), Softmax.wt_coe]
  exact Real.exp_pos _

theorem total_pos (c : ℕ) (hc : c < 2048) : 0 < ∑ r : Fin 2048, Softmax.wt (logit Q K tab c r) :=
  Finset.sum_pos' (fun r _ => Softmax.wt_nonneg _ (logit_ne_top Q K tab c r)) ⟨⟨c, hc⟩, Finset.mem_univ _, wt_self Q K tab c⟩

/-- Keys after the query's block are not seen. -/
theorem wt_after (c r : ℕ) (h : 256 * (c / 256 + 1) ≤ r) : Softmax.wt (logit Q K tab c r) = 0 := by
  have : ¬ sees Q K c r := by
    rintro (⟨h1, _⟩ | ⟨h1, _⟩) <;> omega
  unfold logit
  rw [if_neg this, Softmax.wt_bot]

/-- Summing block by block up to the query's own block is summing over all keys. -/
theorem sum_blocks (f : ℕ → EReal) (i : ℕ) (hi : i < 8) (h : ∀ r, 256 * (i + 1) ≤ r → f r = 0) :
    ∑ n ∈ Finset.range (i + 1), ∑ r : Fin 256, f (256 * n + r) = ∑ r : Fin 2048, f r := by
  have key : ∀ N, ∑ n ∈ Finset.range N, ∑ r : Fin 256, f (256 * n + r) = ∑ r ∈ Finset.range (256 * N), f r := by
    intro N
    induction N with
    | zero => simp
    | succ N ih =>
      rw [Finset.sum_range_succ, ih, Nat.mul_succ, Finset.sum_range_add, Fin.sum_univ_eq_sum_range (fun r => f (256 * N + r))]
  rw [key, Fin.sum_univ_eq_sum_range]
  refine Finset.sum_subset (Finset.range_subset_range.mpr (by omega)) fun r _ hr => h r ?_
  simpa using hr

end Cert.Spec

end
-- ==== Proof.Reads.lean ====
/- The attention body's pieces read at one index, as extended reals. -/
module

public import proofs.«01_k».proof.Proof.Model
public import proofs.«01_k».proof.Proof.Spec
public import Idealize.ShloMosaic.Lib.Pointwise

@[expose] public section

set_option maxRecDepth 16384

noncomputable section

namespace Cert.KernelIdeal.Moba

open Cert.KernelIdeal Cert.KernelIdeal.Gen
open Idealize.ShloMosaic Idealize.ShloMosaic.TcCoe

theorem named_bot : Named.named (F := Ideal) (φ := .f32) κ "neg_inf" 0xF149F2CA#32 = (⊥ : EReal) :=
  IdealRules.named_const.ideal_named_scalar _ _ _ _ rfl

theorem named_sqrt : Named.named (F := Ideal) (φ := .f32) κ "sqrt_d" 0x413504F3#32 = ((Real.sqrt 128 : ℝ) : EReal) :=
  IdealRules.named_const.ideal_named_scalar _ _ _ _ rfl

theorem named_rate : Named.named (F := Ideal) (φ := .f32) κ "inv_sqrt_d_log2e" 0x3E0293EE#32
    = ((Spec.scale * (Real.log 2)⁻¹ : ℝ) : EReal) :=
  IdealRules.named_const.ideal_named_scalar _ _ _ _ rfl

theorem raw_at (q : Vec Ideal S256x128 .f32) (kb : Vec Ideal S256x128 .bf16) (r c : Fin 256) :
    raw q kb (ix2 r c) = ∑ d : Fin 128, kb (ix2 r d) * q (ix2 c d) := by
  pointwise [raw, qRound]

theorem mean_at (k : Vec Ideal S2048x128 .f32) (n : Fin 8) (d : Fin 128) :
    k0_pay56 k (ix2 n d)
      = Ideal.div (∑ r : Fin 256, k (ix2 ⟨n.val * 256 + r.val, by omega⟩ d)) (Ideal.ofBits .f32 0x43800000#32) := by
  pointwise [k0_pay56, k0_pay55]

theorem routeRow_at (km : FVec Ideal S8x128 .f32) (q : Vec Ideal S256x128 .f32) (n : ℕ) (c : Fin 256) :
    routeRow (routeAll km q) n (ix2 0 c)
      = ∑ d : Fin 128, km (ix2 ⟨n % 8, Nat.mod_lt _ (by decide)⟩ d) * q (ix2 c d) := by
  pointwise [routeRow, routeAll]

theorem keepChosen_at (s : IVec S1x256 1) (t : FVec Ideal S256x256 .f32) (r c : Fin 256) :
    keepChosen s t (ix2 r c) = Scalar.select (s (ix2 0 c)) (t (ix2 r c)) (⊥ : EReal) := by
  pointwise [keepChosen, masked]
  rw [named_bot]

theorem causal_at (t : FVec Ideal S256x256 .f32) (r c : Fin 256) :
    select causal t masked (ix2 r c)
      = Scalar.select (IntOp.cmpi .sle (BitVec.ofNat 32 r.val) (BitVec.ofNat 32 c.val)) (t (ix2 r c)) (⊥ : EReal) := by
  pointwise [causal, masked]
  rw [named_bot]

theorem colMax_at (t : FVec Ideal S256x256 .f32) (c : Fin 256) :
    colMax t (ix2 0 c) = Finset.univ.fold max (⊥ : EReal) fun r : Fin 256 => t (ix2 r c) := by
  pointwise [colMax]
  rw [Consts.cBot]

theorem weights_at (m : FVec Ideal S1x256 .f32) (t : FVec Ideal S256x256 .f32) (r c : Fin 256) :
    weights m t (ix2 r c) = Ideal.exp2 ((t (ix2 r c) - m (ix2 0 c)) * ((Spec.scale * (Real.log 2)⁻¹ : ℝ) : EReal)) := by
  pointwise [weights]
  rw [named_rate]
  rfl

theorem finish_at (a : FVec Ideal S144x256 .f32) (c : Fin 256) (d : Fin 128) :
    finish a (ix2 c d) = Ideal.div (a (ix2 ⟨d.val, by omega⟩ c)) (a (ix2 128 c)) := by
  pointwise [finish]

theorem product_at (vt : FVec Ideal S144x256 .bf16) (w : FVec Ideal S256x256 .bf16) (x : Fin 144) (c : Fin 256) :
    matmul dot_S144x256_S256x256_S144x256_1_0_0_1_n_n none vt w (constant S144x256 .f32 0x00000000#32) (ix2 x c)
      = ∑ r : Fin 256, vt (ix2 x r) * w (ix2 r c) := by
  pointwise

theorem keys_at (k : Vec Ideal S2048x128 .f32) (r : Fin 2048) (d : Fin 128) : k0_pay57 k (ix2 r d) = k (ix2 r d) := by
  pointwise [k0_pay57, k0_pay55]

/-- A one-bit word widened and read as a number. -/
theorem bit_value (b : Bool) : FloatOps.sitofp (F := Ideal) .f32 (BitVec.setWidth 32 (BitVec.ofBool b)) = ((if b then 1 else 0 : ℝ) : EReal) := by
  cases b
  · show (((BitVec.setWidth 32 (BitVec.ofBool false)).toInt : ℝ) : EReal) = _
    simp
  · show (((BitVec.setWidth 32 (BitVec.ofBool true)).toInt : ℝ) : EReal) = _
    simp

theorem word_inj (a b : ℕ) (ha : a < 2048) (hb : b < 2048) : (BitVec.ofNat 32 a == BitVec.ofNat 32 b) = decide (a = b) := by
  rw [Bool.eq_iff_iff, beq_iff_eq, decide_eq_true_eq]
  refine ⟨fun h => ?_, fun h => by rw [h]⟩
  have := congrArg BitVec.toNat h
  rw [BitVec.toNat_ofNat, BitVec.toNat_ofNat] at this
  omega

theorem values_at (v : Vec Ideal S2048x128 .f32) (d : Fin 128) (r : Fin 2048) : k0_pay58 v (ix2 d r) = v (ix2 r d) := by
  pointwise [k0_pay58]
  have e : ∀ x : Fin 128, FloatOps.sitofp (F := Ideal) .f32 (BitVec.setWidth 32
      (IntOp.cmpi CmpIPredicate.eq (BitVec.ofNat 32 d.val) (BitVec.ofNat 32 x.val))) * (v (ix2 r x) : EReal) = if d = x then v (ix2 r x) else (0 : EReal) := by
    intro x
    show FloatOps.sitofp (F := Ideal) .f32 (BitVec.setWidth 32 (BitVec.ofBool (BitVec.ofNat 32 d.val == BitVec.ofNat 32 x.val))) * (v (ix2 r x) : EReal) = _
    rw [word_inj _ _ (by omega) (by omega), bit_value]
    by_cases h : d = x
    · subst h; simp
    · have : d.val ≠ x.val := fun h' => h (Fin.ext h')
      simp [h, this]
  rw [Finset.sum_congr rfl fun x _ => e x, Finset.sum_ite_eq]
  simp

theorem ones_at (r : Fin 2048) : k0_pay60 (F := Ideal) k0_pay59 (ix2 0 r) = (1 : EReal) := by
  pointwise [k0_pay60, k0_pay59]
  exact (bit_value true).trans (by simp)

theorem vtAll_value (v : Vec Ideal S2048x128 .f32) (d : Fin 128) (r : Fin 2048) :
    vtAll v (ix2 ⟨d.val, by omega⟩ r) = v (ix2 r d) := by
  unfold vtAll
  rw [View.canon_cons_of_not_mem]
  · have h := View.canon_cons_emb (Val := Elt Ideal) (e := .bf16) (Rect.unit (s := S144x2048) ![0, 0] ![128, 2048] inb_S144x2048_S128x2048_0_0)
      (k0_pay58 v) [] (ix2 d r)
    rw [show (Rect.unit (s := S144x2048) ![0, 0] ![128, 2048] inb_S144x2048_S128x2048_0_0).emb (ix2 d r)
      = (ix2 (⟨d.val, by omega⟩ : Fin 144) r : S144x2048.Idx) from funext fun a => Fin.ext (by
        fin_cases a
        · show 0 + 1 * d.val = d.val; omega
        · show 0 + 1 * r.val = r.val; omega)] at h
    rw [h, values_at]
  · intro hx
    have h2 : 128 ≤ d.val := (((Rect.mem_set_unit (s := S144x2048) (inb := inb_S144x2048_S16x2048_128_0)).mp hx) 0).1
    omega

theorem vtAll_one (v : Vec Ideal S2048x128 .f32) (r : Fin 2048) : vtAll v (ix2 128 r) = (1 : EReal) := by
  unfold vtAll
  have h := View.canon_cons_emb (Val := Elt Ideal) (e := .bf16) (Rect.unit (s := S144x2048) ![128, 0] ![16, 2048] inb_S144x2048_S16x2048_128_0)
    (k0_pay60 (F := Ideal) (k0_pay59 (F := Ideal))) [⟨Rect.unit ![0, 0] ![128, 2048] inb_S144x2048_S128x2048_0_0, k0_pay58 v⟩] (ix2 0 r)
  rw [show (Rect.unit (s := S144x2048) ![128, 0] ![16, 2048] inb_S144x2048_S16x2048_128_0).emb (ix2 0 r)
    = (ix2 (128 : Fin 144) r : S144x2048.Idx) from funext fun a => Fin.ext (by
      fin_cases a
      · rfl
      · show 0 + 1 * r.val = r.val; omega)] at h
  rw [h, ones_at]

end Cert.KernelIdeal.Moba

end
-- ==== Proof.KerVal.lean ====
/- What one head's block of the kernel holds: the block-routed attention of `Spec`, when the queries, the keys and the bias
   tiles are real numbers. -/
module

public import proofs.«01_k».proof.Proof.Reads

@[expose] public section

set_option maxRecDepth 16384

noncomputable section

namespace Cert.KernelIdeal.Moba

open Cert.KernelIdeal Cert.KernelIdeal.Gen
open Idealize.ShloMosaic Idealize.ShloMosaic.TcCoe

/-! ### The routing choice -/

theorem rank_succ (rc : ℕ → FVec Ideal S1x256 .f32) (i n : ℕ) :
    rank rc (i + 1) n = bif Nat.beq i n then rank rc i n else
      addi (rank rc i n) (extui 32 (cmpf (bif Nat.blt i n then .oge else .ogt) (rc i) (rc n)) natLt_1_32) := by
  unfold rank
  rw [show upto (i + 1) = upto i ++ [i] from rfl, List.foldl_append]
  rfl

theorem rank_at (rc : ℕ → FVec Ideal S1x256 .f32) (c : Fin 256) (ρ : ℕ → ℝ) (n : ℕ) (hn : rc n (ix2 0 c) = (ρ n : EReal)) (i : ℕ)
    (h : ∀ m < i, rc m (ix2 0 c) = (ρ m : EReal)) :
    rank rc i n (ix2 0 c)
      = BitVec.ofNat 32 (∑ m ∈ Finset.range i, if m ≠ n ∧ (if m < n then ρ n ≤ ρ m else ρ n < ρ m) then 1 else 0) := by
  induction i with
  | zero => rfl
  | succ i ih =>
    rw [rank_succ, Finset.sum_range_succ, BitVec.ofNat_add, ← ih fun m hm => h m (by omega)]
    by_cases hin : i = n
    · rw [show Nat.beq i n = true by rw [hin]; exact Nat.beq_refl n, cond_true, if_neg (fun h' => h'.1 hin)]
      simp
    · rw [show Nat.beq i n = false from Bool.eq_false_iff.mpr fun h' => hin (Nat.eq_of_beq_eq_true h'), cond_false]
      have e : ∀ p : CmpFPredicate, addi (rank rc i n) (extui 32 (cmpf p (rc i) (rc n)) natLt_1_32) (ix2 0 c)
          = rank rc i n (ix2 0 c) + BitVec.setWidth 32 (Ideal.cmp p (rc i (ix2 0 c)) (rc n (ix2 0 c))) := fun _ => rfl
      rw [e, hn, h i (by omega)]
      congr 1
      by_cases hlt : i < n
      · rw [show Nat.blt i n = true from (Nat.blt_eq).mpr hlt, cond_true]
        by_cases hle : ρ n ≤ ρ i
        · rw [if_pos ⟨hin, by rw [if_pos hlt]; exact hle⟩]
          simp [Ideal.cmp, hle]
        · rw [if_neg (fun h' => hle (by have := h'.2; rwa [if_pos hlt] at this))]
          simp [Ideal.cmp, hle]
      · rw [show Nat.blt i n = false from Bool.eq_false_iff.mpr fun h' => hlt (Nat.blt_eq.mp h'), cond_false]
        by_cases hle : ρ n < ρ i
        · rw [if_pos ⟨hin, by rw [if_neg hlt]; exact hle⟩]
          simp [Ideal.cmp, hle]
        · rw [if_neg (fun h' => hle (by have := h'.2; rwa [if_neg hlt] at this))]
          simp [Ideal.cmp, hle]

/-- Only the other earlier blocks can come ahead. -/
theorem rankAt_le (Q K : ℕ → ℕ → ℝ) (i c n : ℕ) (hn : n < i) : Spec.rankAt Q K i c n ≤ i - 1 := by
  unfold Spec.rankAt
  rw [← Finset.card_filter]
  refine (Finset.card_le_card (t := (Finset.range i).erase n) fun m hm => ?_).trans ?_
  · rw [Finset.mem_filter] at hm
    exact Finset.mem_erase.mpr ⟨hm.2.1, hm.1⟩
  · rw [Finset.card_erase_of_mem (Finset.mem_range.mpr hn), Finset.card_range]

theorem small_word (N : ℕ) (hN : N < 8) : IntOp.cmpi .slt (BitVec.ofNat 32 N) 3#32 = BitVec.ofBool (decide (N < 3)) := by
  show BitVec.ofBool ((BitVec.ofNat 32 N).slt 3#32) = _
  rw [BitVec.slt_eq_decide, Bucket.word_toInt N (by omega)]
  congr 1
  rw [decide_eq_decide]
  show (N : ℤ) < 3 ↔ N < 3
  omega

theorem causal_word (r c : ℕ) (hr : r < 256) (hc : c < 256) :
    IntOp.cmpi .sle (BitVec.ofNat 32 r) (BitVec.ofNat 32 c) = BitVec.ofBool (decide (r ≤ c)) := by
  show BitVec.ofBool ((BitVec.ofNat 32 r).sle (BitVec.ofNat 32 c)) = _
  rw [BitVec.sle_eq_decide, Bucket.word_toInt r (by omega), Bucket.word_toInt c (by omega)]
  congr 1
  rw [decide_eq_decide]
  omega

theorem select_ofBool {α : Type} (p : Prop) [Decidable p] (a b : α) :
    Scalar.select (BitVec.ofBool (decide p)) a b = if p then a else b := by
  by_cases h : p
  · rw [decide_eq_true h, if_pos h]; rfl
  · rw [decide_eq_false h, if_neg h]; rfl

/-! ### The tiles of a head -/

section Head

variable (q k v : Vec Ideal S2048x128 .f32) (bo bp : Vec Ideal S256x256 .f32) (Q K : ℕ → ℕ → ℝ) (tab : ℕ → ℝ)

/-- The head's inputs hold these real numbers. -/
structure Holds : Prop where
  queries : ∀ (r : Fin 2048) (d : Fin 128), q (ix2 r d) = ((Q r.val d.val : ℝ) : EReal)
  keys : ∀ (r : Fin 2048) (d : Fin 128), k (ix2 r d) = ((K r.val d.val : ℝ) : EReal)
  own : ∀ r c : Fin 256, r.val ≤ c.val → bo (ix2 r c) = ((tab (Bucket.index (c.val - r.val)) * Real.sqrt 128 : ℝ) : EReal)
  before : ∀ r c : Fin 256, bp (ix2 r c) = ((tab (Bucket.index (256 + c.val - r.val)) * Real.sqrt 128 : ℝ) : EReal)

variable {q k bo bp Q K tab}

theorem rows_at {e : EltTy} (X : Vec Ideal S2048x128 e) (n : ℕ) (r : Fin 256) (d : Fin 128) (h : 256 * n + r.val < 2048) :
    rowsBlk X n (ix2 r d) = X (ix2 ⟨256 * n + r.val, h⟩ d) := by
  unfold rowsBlk
  refine congrArg X (funext fun a => Fin.ext ?_)
  fin_cases a
  · exact Nat.mod_eq_of_lt h
  · rfl

theorem cols_at {e : EltTy} (X : Vec Ideal S144x2048 e) (n : ℕ) (x : Fin 144) (r : Fin 256) (h : 256 * n + r.val < 2048) :
    colsBlk X n (ix2 x r) = X (ix2 x ⟨256 * n + r.val, h⟩) := by
  unfold colsBlk
  refine congrArg X (funext fun a => Fin.ext ?_)
  fin_cases a
  · rfl
  · exact Nat.mod_eq_of_lt h

theorem kmean_at (H : Holds q k bo bp Q K tab) (n : Fin 8) (d : Fin 128) :
    k0_pay56 k (ix2 n d) = ((Spec.kmean K n.val d.val : ℝ) : EReal) := by
  rw [mean_at, Consts.c256, Ideal.div_coe (by norm_num), Finset.sum_congr rfl fun r _ => H.keys _ d, ← Softmax.coe_sum, ← EReal.coe_mul]
  unfold Spec.kmean
  simp only [Nat.mul_comm]

theorem route_at (H : Holds q k bo bp Q K tab) (i n : ℕ) (hi : i < 8) (hn : n < 8) (c : Fin 256) :
    routeRow (routeAll (k0_pay56 k) (rowsBlk q i)) n (ix2 0 c) = ((Spec.route Q K (256 * i + c.val) n : ℝ) : EReal) := by
  rw [routeRow_at]
  unfold Spec.route
  rw [Softmax.coe_sum]
  refine Finset.sum_congr rfl fun d _ => ?_
  rw [kmean_at H, rows_at q i c d (by omega), H.queries, ← EReal.coe_mul]
  simp only [Nat.mod_eq_of_lt hn]

theorem chosen_at (H : Holds q k bo bp Q K tab) (i n : ℕ) (hi : i < 8) (hn : n < i) (c : Fin 256) :
    chosen (routeRow (routeAll (k0_pay56 k) (rowsBlk q i))) i n (ix2 0 c)
      = BitVec.ofBool (decide (Spec.rankAt Q K i (256 * i + c.val) n < 3)) := by
  have e := rank_at (routeRow (routeAll (k0_pay56 k) (rowsBlk q i))) c (Spec.route Q K (256 * i + c.val)) n
    (route_at H i n hi (by omega) c) i fun m hm => route_at H i m hi (by omega) c
  show IntOp.cmpi .slt (rank (routeRow (routeAll (k0_pay56 k) (rowsBlk q i))) i n (ix2 0 c)) 3#32 = _
  rw [e]
  have := rankAt_le Q K i (256 * i + c.val) n hn
  exact small_word _ (by unfold Spec.rankAt at this; omega)

theorem score_at (H : Holds q k bo bp Q K tab) (i n : ℕ) (hi : i < 8) (hn : n < 8) (r c : Fin 256) :
    raw (rowsBlk q i) (rowsBlk (k0_pay57 k) n) (ix2 r c)
      = ((Spec.raw Q K (256 * i + c.val) (256 * n + r.val) : ℝ) : EReal) := by
  rw [raw_at]
  unfold Spec.raw
  rw [Softmax.coe_sum]
  refine Finset.sum_congr rfl fun d _ => ?_
  rw [rows_at q i c d (by omega), H.queries, rows_at (e := .bf16) (k0_pay57 k) n r d (by omega), keys_at, H.keys, ← EReal.coe_mul]

theorem sees_iff (i n : ℕ) (r c : Fin 256) :
    Spec.sees Q K (256 * i + c.val) (256 * n + r.val)
      ↔ (n = i ∧ r.val ≤ c.val) ∨ (n < i ∧ Spec.rankAt Q K i (256 * i + c.val) n < 3) := by
  unfold Spec.sees
  rw [show (256 * n + r.val) / 256 = n by omega, show (256 * i + c.val) / 256 = i by omega]
  refine or_congr ⟨fun h => ⟨h.1, by omega⟩, fun h => ⟨h.1, by omega⟩⟩ Iff.rfl

/-- The part of the bias a tile already holds. -/
def near (tab : ℕ → ℝ) (i n r c : ℕ) : ℝ :=
  if n + 1 < i then 0 else tab (Bucket.index (256 * i + c - (256 * n + r))) * Real.sqrt 128

/-- The part of the bias that is added by shifting the maximum. -/
def far (tab : ℕ → ℝ) (i n : ℕ) : ℝ := if n + 1 < i then tab 31 * Real.sqrt 128 else 0

theorem added (a b : FVec Ideal S256x256 .f32) (j : S256x256.Idx) : addf a b j = (a j : EReal) + b j := rfl

open scoped Classical in
theorem tile_at (H : Holds q k bo bp Q K tab) (i n : ℕ) (hi : i < 8) (hn : n ≤ i) (r c : Fin 256) :
    tile (k0_pay56 k) (rowsBlk q i) (rowsBlk (k0_pay57 k)) bo bp i n (ix2 r c)
      = if Spec.sees Q K (256 * i + c.val) (256 * n + r.val)
        then ((Spec.raw Q K (256 * i + c.val) (256 * n + r.val) + near tab i n r.val c.val : ℝ) : EReal) else ⊥ := by
  have hs := score_at H i n hi (by omega) r c
  unfold tile
  by_cases hni : n = i
  · subst hni
    rw [show Nat.beq n n = true from Nat.beq_refl n, cond_true, causal_at, causal_word _ _ r.isLt c.isLt, select_ofBool]
    by_cases hrc : r.val ≤ c.val
    · rw [if_pos hrc, if_pos ((sees_iff n n r c).mpr (Or.inl ⟨rfl, hrc⟩))]
      rw [added, hs, H.own r c hrc, ← EReal.coe_add, near, if_neg (by omega),
        show 256 * n + c.val - (256 * n + r.val) = c.val - r.val by omega]
    · rw [if_neg hrc, if_neg]
      rw [sees_iff]
      rintro (⟨_, h⟩ | ⟨h, _⟩)
      · exact hrc h
      · omega
  · have hlt : n < i := by omega
    have eb : Nat.beq n i = false := Bool.eq_false_iff.mpr fun h' => hni (Nat.eq_of_beq_eq_true h')
    have es : (bif Nat.beq (n + 1) i then addf (raw (rowsBlk q i) (rowsBlk (k0_pay57 k) n)) bp
        else raw (rowsBlk q i) (rowsBlk (k0_pay57 k) n)) (ix2 r c)
        = ((Spec.raw Q K (256 * i + c.val) (256 * n + r.val) + near tab i n r.val c.val : ℝ) : EReal) := by
      by_cases h1 : n + 1 = i
      · rw [show Nat.beq (n + 1) i = true by rw [h1]; exact Nat.beq_refl i, cond_true]
        rw [added, hs, H.before r c, ← EReal.coe_add, near, if_neg (by omega),
          show 256 * i + c.val - (256 * n + r.val) = 256 + c.val - r.val by omega]
      · rw [show Nat.beq (n + 1) i = false from Bool.eq_false_iff.mpr fun h' => h1 (Nat.eq_of_beq_eq_true h'), cond_false, hs,
          near, if_pos (by omega), add_zero]
    rw [eb, cond_false]
    by_cases h3 : 3 < i
    · rw [show Nat.blt 3 i = true from Nat.blt_eq.mpr h3, cond_true, keepChosen_at, chosen_at H i n hi hlt c, select_ofBool, es]
      refine if_congr ?_ rfl rfl
      rw [sees_iff]
      exact ⟨fun h => Or.inr ⟨hlt, h⟩, fun h => h.elim (fun h' => absurd h'.1 hni) (fun h' => h'.2)⟩
    · rw [show Nat.blt 3 i = false from Bool.eq_false_iff.mpr fun h' => h3 (Nat.blt_eq.mp h'), cond_false, es, if_pos]
      rw [sees_iff]
      have := rankAt_le Q K i (256 * i + c.val) n hlt
      exact Or.inr ⟨hlt, by omega⟩

/-- The whole bias is the part held and the part shifted in. -/
theorem near_far (i n : ℕ) (hi : i < 8) (hn : n ≤ i) (r c : Fin 256) :
    near tab i n r.val c.val + far tab i n = tab (Bucket.index (256 * i + c.val - (256 * n + r.val))) * Real.sqrt 128 := by
  unfold near far
  by_cases h : n + 1 < i
  · rw [if_pos h, if_pos h, zero_add, Bucket.index_far _ (by omega) (by omega)]
  · rw [if_neg h, if_neg h, add_zero]

/-! ### The maximum -/

theorem colMax_ne_top (t : FVec Ideal S256x256 .f32) (c : Fin 256) (h : ∀ r : Fin 256, t (ix2 r c) ≠ (⊤ : EReal)) :
    (colMax t (ix2 0 c) : EReal) ≠ ⊤ := by
  rw [colMax_at]
  refine ne_of_lt ((Finset.fold_max_lt _).mpr ⟨bot_lt_top, fun r _ => lt_top_iff_ne_top.mpr (h r)⟩)

theorem le_fold (f : Fin 256 → EReal) (r : Fin 256) : f r ≤ Finset.univ.fold max ⊥ f :=
  (Finset.le_fold_max _).mpr (Or.inr ⟨r, Finset.mem_univ r, le_refl _⟩)

theorem le_colMax (t : FVec Ideal S256x256 .f32) (c r : Fin 256) : (t (ix2 r c) : EReal) ≤ colMax t (ix2 0 c) := by
  have h := le_fold (fun r : Fin 256 => (t (ix2 r c) : EReal)) r
  rw [← colMax_at t c] at h
  exact h

theorem max_ne_top {a b : EReal} (ha : a ≠ ⊤) (hb : b ≠ ⊤) : max a b ≠ ⊤ :=
  ne_of_lt (max_lt (lt_top_iff_ne_top.mpr ha) (lt_top_iff_ne_top.mpr hb))

theorem farMax_ne_top (T : ℕ → FVec Ideal S256x256 .f32) (c : Fin 256) (n : ℕ)
    (h : ∀ m ≤ n, (colMax (T m) (ix2 0 c) : EReal) ≠ ⊤) : (farMax T n (ix2 0 c) : EReal) ≠ ⊤ := by
  induction n with
  | zero =>
    have e : farMax T 0 = colMax (T 0) := by
      unfold farMax
      rw [show upto 0 = [] from rfl, List.foldl_nil]
    rw [e]
    exact h 0 (le_refl 0)
  | succ n ih =>
    have e : farMax T (n + 1) = maximumf (farMax T n) (colMax (T (n + 1))) := by
      unfold farMax
      rw [show upto (n + 1) = upto n ++ [n] from rfl, List.foldl_append]
      rfl
    rw [e]
    exact max_ne_top (ih fun m hm => h m (by omega)) (h (n + 1) (le_refl _))

theorem runMax_zero (B : EReal) (T : ℕ → FVec Ideal S256x256 .f32) (j : S1x256.Idx) :
    runMax (F := Ideal) B T 0 j = (colMax (T 0) j : EReal) := by
  rw [runMax]

theorem runMax_one (B : EReal) (T : ℕ → FVec Ideal S256x256 .f32) (j : S1x256.Idx) :
    runMax (F := Ideal) B T (0 + 1) j = max (colMax (T 0) j : EReal) (colMax (T 1) j) := by
  rw [runMax]
  rfl

theorem runMax_more (B : EReal) (T : ℕ → FVec Ideal S256x256 .f32) (n : ℕ) (j : S1x256.Idx) :
    runMax (F := Ideal) B T (n + 1 + 1) j
      = max (max (colMax (T (n + 1)) j : EReal) (colMax (T (n + 2)) j)) ((farMax T n j : EReal) + B) := by
  rw [runMax]
  rfl

theorem runMax_real (B : ℝ) (T : ℕ → FVec Ideal S256x256 .f32) (i : ℕ) (c : Fin 256)
    (h : ∀ m ≤ i, ∀ r : Fin 256, T m (ix2 r c) ≠ (⊤ : EReal)) (hd : T i (ix2 c c) ≠ (⊥ : EReal)) :
    ∃ M : ℝ, runMax (F := Ideal) (B : EReal) T i (ix2 0 c) = (M : EReal) := by
  have hc : ∀ m ≤ i, (colMax (T m) (ix2 0 c) : EReal) ≠ ⊤ := fun m hm => colMax_ne_top _ c (h m hm)
  have hb : (⊥ : EReal) < colMax (T i) (ix2 0 c) := lt_of_lt_of_le (bot_lt_iff_ne_bot.mpr hd) (le_colMax (T i) c c)
  have fin : ∀ x : EReal, x ≠ ⊤ → ⊥ < x → ∃ M : ℝ, x = (M : EReal) := fun x h1 h2 =>
    ⟨x.toReal, (EReal.coe_toReal h1 (ne_of_gt h2)).symm⟩
  rcases i with _ | _ | n
  · rw [runMax_zero]
    exact fin _ (hc 0 (le_refl 0)) hb
  · rw [runMax_one]
    exact fin _ (max_ne_top (hc 0 (by omega)) (hc 1 (by omega))) (lt_of_lt_of_le hb (le_max_right _ _))
  · rw [runMax_more]
    exact fin _ (max_ne_top (max_ne_top (hc (n + 1) (by omega)) (hc (n + 2) (by omega)))
        (EReal.add_ne_top (farMax_ne_top T c n fun m hm => hc m (by omega)) (EReal.coe_ne_top B)))
      (lt_of_lt_of_le hb ((le_max_right _ _).trans (le_max_left _ _)))

/-! ### The weighted sum -/

theorem accum_at (B : ℝ) (VT : ℕ → Vec Ideal S144x256 .bf16) (T : ℕ → FVec Ideal S256x256 .f32) (M : FVec Ideal S1x256 .f32) (i N : ℕ)
    (x : Fin 144) (c : Fin 256) :
    ((upto N).foldl (fun a n => addf a (matmul (φ₁ := .bf16) (φ₂ := .bf16) dot_S144x256_S256x256_S144x256_1_0_0_1_n_n none (VT n)
      (weights (bif Nat.blt (n + 1) i then subf M (broadcast S1x256 ((B : EReal) : Ideal .f32)) else M) (T n))
        (constant S144x256 .f32 0x00000000#32)))
      (broadcast S144x256 (Scalar.ofBits (F := Ideal) .f32 0x00000000#32)) : FVec Ideal S144x256 .f32) (ix2 x c)
      = ∑ n ∈ Finset.range N, ∑ r : Fin 256, VT n (ix2 x r)
          * weights (bif Nat.blt (n + 1) i then subf M (broadcast S1x256 ((B : EReal) : Ideal .f32)) else M) (T n) (ix2 r c) := by
  induction N with
  | zero =>
    rw [Finset.sum_range_zero]
    exact Ideal.ofBits_zero_f32
  | succ N ih =>
    rw [show upto (N + 1) = upto N ++ [N] from rfl, List.foldl_append, Finset.sum_range_succ, ← ih, ← product_at]
    rfl

theorem weight_at (H : Holds q k bo bp Q K tab) (i n : ℕ) (hi : i < 8) (hn : n ≤ i) (r c : Fin 256) (M : FVec Ideal S1x256 .f32)
    (μ : ℝ) (hM : M (ix2 0 c) = (μ : EReal)) :
    weights (bif Nat.blt (n + 1) i then subf M (broadcast S1x256 (((tab 31 * Real.sqrt 128 : ℝ) : EReal) : Ideal .f32)) else M)
        (tile (k0_pay56 k) (rowsBlk q i) (rowsBlk (k0_pay57 k)) bo bp i n) (ix2 r c)
      = ((Real.exp (-(μ * Spec.scale)) * Softmax.wt (Spec.logit Q K tab (256 * i + c.val) (256 * n + r.val)) : ℝ) : EReal) := by
  have e : (bif Nat.blt (n + 1) i then subf M (broadcast S1x256 (((tab 31 * Real.sqrt 128 : ℝ) : EReal) : Ideal .f32)) else M) (ix2 0 c)
      = ((μ - far tab i n : ℝ) : EReal) := by
    unfold far
    by_cases h : n + 1 < i
    · rw [show Nat.blt (n + 1) i = true from Nat.blt_eq.mpr h, cond_true, if_pos h, EReal.coe_sub, ← hM]
      rfl
    · rw [show Nat.blt (n + 1) i = false from Bool.eq_false_iff.mpr fun h' => h (Nat.blt_eq.mp h'), cond_false, if_neg h, sub_zero, hM]
  have hnf := near_far (tab := tab) i n hi hn r c
  rw [weights_at, e, tile_at H i n hi hn r c, Softmax.exp2_scaled _ (by split; exacts [EReal.coe_ne_top _, bot_ne_top]) _ _ Spec.scale_pos]
  unfold Spec.logit
  by_cases hs : Spec.sees Q K (256 * i + c.val) (256 * n + r.val)
  · rw [if_pos hs, if_pos hs, ← EReal.coe_mul, Softmax.wt_coe, Softmax.wt_coe, ← Real.exp_add, ← Real.exp_add]
    congr 2
    have h1 := Spec.sqrt_mul_scale
    have h2 : tab (Bucket.index (256 * i + c.val - (256 * n + r.val)))
        = (near tab i n r.val c.val + far tab i n) * Spec.scale := by rw [hnf, mul_assoc, h1, mul_one]
    rw [h2]
    ring
  · rw [if_neg hs, if_neg hs, EReal.bot_mul_coe_of_pos Spec.scale_pos, Softmax.wt_bot, mul_zero, mul_zero]

theorem outAll_at (H : Holds q k bo bp Q K tab) (v : Vec Ideal S2048x128 .f32) (B : Ideal .f32)
    (hB : B = ((tab 31 * Real.sqrt 128 : ℝ) : EReal)) (y : Fin 2048) (d : Fin 128) (V : ℕ → EReal)
    (hV : ∀ r : Fin 2048, v (ix2 r d) = V r.val) :
    outAll B q k v bo bp (ix2 y d) = Spec.out Q K tab V y.val := by
  subst hB
  obtain ⟨i, hi⟩ : ∃ i, i = y.val / 256 := ⟨_, rfl⟩
  have hi8 : i < 8 := by omega
  obtain ⟨c, hc⟩ : ∃ c : Fin 256, c.val = y.val % 256 := ⟨⟨y.val % 256, Nat.mod_lt _ (by decide)⟩, rfl⟩
  have hy : y.val = 256 * i + c.val := by omega
  show outBlk _ _ _ _ _ bo bp (y.val / 256) (ValueIdx.ix2 ⟨y.val % 256, Nat.mod_lt _ (by decide)⟩ ⟨d.val, d.isLt⟩) = _
  rw [show (⟨y.val % 256, Nat.mod_lt _ (by decide)⟩ : Fin 256) = c from Fin.ext hc.symm, ← ix2_eq_valueIdx, ← hi]
  unfold outBlk outOf
  rw [show (⟨d.val, d.isLt⟩ : Fin 128) = d from rfl, finish_at]
  obtain ⟨T, hT⟩ : ∃ T, T = tile (k0_pay56 k) (rowsBlk q i) (rowsBlk (k0_pay57 k)) bo bp i := ⟨_, rfl⟩
  rw [← hT]
  have top : ∀ m ≤ i, ∀ r : Fin 256, T m (ix2 r c) ≠ (⊤ : EReal) := fun m hm r => by
    rw [hT, tile_at H i m hi8 hm r c]
    split
    · exact EReal.coe_ne_top _
    · exact bot_ne_top
  have diag : T i (ix2 c c) ≠ (⊥ : EReal) := by
    rw [hT, tile_at H i i hi8 (le_refl i) c c, if_pos (Spec.sees_self _ _ _)]
    exact EReal.coe_ne_bot _
  obtain ⟨μ, hμ⟩ := runMax_real (tab 31 * Real.sqrt 128) T i c top diag
  have acc : ∀ (x : Fin 144) (W : ℕ → EReal), (∀ r : Fin 2048, vtAll v (ix2 x r) = W r.val) →
      (accum (((tab 31 * Real.sqrt 128 : ℝ) : EReal) : Ideal .f32) (colsBlk (vtAll v)) T
        (runMax (((tab 31 * Real.sqrt 128 : ℝ) : EReal) : Ideal .f32) T i) i (ix2 x c) : EReal)
        = ∑ r : Fin 2048, ((Real.exp (-(μ * Spec.scale)) * Softmax.wt (Spec.logit Q K tab y.val r.val) : ℝ) : EReal) * W r.val := by
    intro x W hW
    unfold accum
    rw [accum_at, ← Spec.sum_blocks (fun r => ((Real.exp (-(μ * Spec.scale)) * Softmax.wt (Spec.logit Q K tab y.val r) : ℝ) : EReal) * W r) i hi8
      (fun r hr => by rw [Spec.wt_after Q K tab y.val r (by omega), mul_zero, EReal.coe_zero, zero_mul])]
    refine Finset.sum_congr rfl fun n hn => Finset.sum_congr rfl fun r _ => ?_
    have hni : n ≤ i := by have := Finset.mem_range.mp hn; omega
    rw [cols_at (vtAll v) n x r (by omega), hW, hT, weight_at H i n hi8 hni r c _ μ (by rw [← hT]; exact hμ), mul_comm, hy]
  have e1 := acc ⟨d.val, by omega⟩ V (fun r => (vtAll_value v d r).trans (hV r))
  have e2 := acc 128 (fun _ => 1) (fun r => vtAll_one v r)
  rw [e1, e2]
  simp only [mul_one]
  exact Softmax.mean_of_quotient (fun r : Fin 2048 => Softmax.wt (Spec.logit Q K tab y.val r.val)) (fun r => V r.val) _
    (Real.exp_pos _) (Spec.total_pos Q K tab y.val y.isLt)

end Head

end Cert.KernelIdeal.Moba

end
-- ==== Proof.Blocks.lean ====
/- Each stored block of the body is the model's block: the eight payloads, opened. -/
module

public import proofs.«01_k».proof.Proof.Model

@[expose] public section

set_option maxRecDepth 16384

noncomputable section

namespace Cert.KernelIdeal.Moba

open Cert.KernelIdeal Cert.KernelIdeal.Gen
open Idealize.ShloMosaic Idealize.ShloMosaic.TcCoe Idealize.SL.Sem

variable {F : FTy → Type} [FloatOps F] [Named F]
variable (B : F .f32) (km : FVec F S8x128 .f32) (Q : ℕ → Vec F S256x128 .f32) (KB : ℕ → Vec F S256x128 .bf16)
    (VT : ℕ → Vec F S144x256 .bf16) (bo bp : Vec F S256x256 .f32)

theorem block0 :
    k0_pay67 k0_pay65 (k0_pay66 (Q 0) (KB 0) bo) (VT 0)
      = outBlk B km Q KB VT bo bp 0 := (first_block B km Q KB VT bo bp).symm

theorem block1 :
    k0_pay75 (k0_pay64 (Q 1) (KB 1) bo) (k0_pay72 (k0_pay63 (Q 1) (KB 0) bp) (k0_pay64 (Q 1) (KB 1) bo)) k0_pay73
    (k0_pay74 (k0_pay63 (Q 1) (KB 0) bp) (k0_pay64 (Q 1) (KB 1) bo)) (Named.named κ "inv_sqrt_d_log2e" 0x3e0293ee#32 :
    F .f32) (VT 0) (VT 1)
      = outBlk B km Q KB VT bo bp 1 := by
  show _ = outOf _ _ _ _
  rfl

theorem block2 :
    k0_pay84 (k0_pay82 B (k0_pay69 (Q 2) (KB 0)) (k0_pay70 (Q 2) (KB 1) bp) (k0_pay71 k0_pay61 (Q 2) (KB 2) bo) (VT 0)
    (VT 1)) (k0_pay83 B (k0_pay69 (Q 2) (KB 0)) (k0_pay70 (Q 2) (KB 1) bp) (k0_pay71 k0_pay61 (Q 2) (KB 2) bo)) (VT 2)
      = outBlk B km Q KB VT bo bp 2 := by
  simp only [outBlk, outOf, runMax, farMax, accum, upto, List.nil_append, List.cons_append, List.foldl_cons, List.foldl_nil]
  rfl

theorem block3 :
    k0_pay106 (k0_pay79 (Q 3) (KB 2) bp) (k0_pay80 k0_pay61 (k0_pay76 (Q 3)) (KB 3) bo) (k0_pay103 B (k0_pay77 (Q 3)
    (KB 0)) (k0_pay78 (Q 3) (KB 1)) (k0_pay79 (Q 3) (KB 2) bp) (k0_pay80 k0_pay61 (k0_pay76 (Q 3)) (KB 3) bo))
    (k0_pay104 B (k0_pay77 (Q 3) (KB 0)) (k0_pay78 (Q 3) (KB 1)) (k0_pay79 (Q 3) (KB 2) bp) (k0_pay80 k0_pay61
    (k0_pay76 (Q 3)) (KB 3) bo) (VT 0)) (k0_pay105 B (k0_pay77 (Q 3) (KB 0)) (k0_pay78 (Q 3) (KB 1)) (k0_pay79 (Q 3)
    (KB 2) bp) (k0_pay80 k0_pay61 (k0_pay76 (Q 3)) (KB 3) bo)) (VT 1) (VT 2) (VT 3)
      = outBlk B km Q KB VT bo bp 3 := by
  show _ = outOf _ _ _ _
  rfl

theorem block4 :
    k0_pay131 (k0_pay130 B (k0_pay98 (k0_pay86 (Q 4)) (k0_pay93 km (Q 4)) (KB 1)) (k0_pay99 (k0_pay86 (Q 4)) (k0_pay90
    km (Q 4)) (k0_pay91 km (Q 4)) (k0_pay94 km (Q 4)) (k0_pay95 km (Q 4)) (KB 2)) (k0_pay101 (k0_pay96 (k0_pay88 km (Q
    4)) (k0_pay89 km (Q 4)) (k0_pay90 km (Q 4)) (k0_pay91 km (Q 4))) (k0_pay100 (k0_pay86 (Q 4)) (KB 3)) bp) (k0_pay102
    k0_pay61 (k0_pay86 (Q 4)) (KB 4) bo) (k0_pay127 B (k0_pay97 (k0_pay86 (Q 4)) (k0_pay92 km (Q 4)) (KB 0)) (k0_pay98
    (k0_pay86 (Q 4)) (k0_pay93 km (Q 4)) (KB 1)) (k0_pay99 (k0_pay86 (Q 4)) (k0_pay90 km (Q 4)) (k0_pay91 km (Q 4))
    (k0_pay94 km (Q 4)) (k0_pay95 km (Q 4)) (KB 2)) (k0_pay101 (k0_pay96 (k0_pay88 km (Q 4)) (k0_pay89 km (Q 4))
    (k0_pay90 km (Q 4)) (k0_pay91 km (Q 4))) (k0_pay100 (k0_pay86 (Q 4)) (KB 3)) bp) (k0_pay102 k0_pay61 (k0_pay86 (Q
    4)) (KB 4) bo)) k0_pay128 (k0_pay129 B (k0_pay97 (k0_pay86 (Q 4)) (k0_pay92 km (Q 4)) (KB 0)) (k0_pay98 (k0_pay86
    (Q 4)) (k0_pay93 km (Q 4)) (KB 1)) (k0_pay99 (k0_pay86 (Q 4)) (k0_pay90 km (Q 4)) (k0_pay91 km (Q 4)) (k0_pay94 km
    (Q 4)) (k0_pay95 km (Q 4)) (KB 2)) (k0_pay101 (k0_pay96 (k0_pay88 km (Q 4)) (k0_pay89 km (Q 4)) (k0_pay90 km (Q 4))
    (k0_pay91 km (Q 4))) (k0_pay100 (k0_pay86 (Q 4)) (KB 3)) bp) (k0_pay102 k0_pay61 (k0_pay86 (Q 4)) (KB 4) bo)) (VT
    0) (VT 1) (VT 2) (VT 3) (VT 4))
      = outBlk B km Q KB VT bo bp 4 := by
  show _ = outOf _ _ _ _
  rfl

theorem block5 :
    k0_pay164 (k0_pay125 (k0_pay108 (Q 5)) (k0_pay120 (k0_pay110 km (Q 5)) (k0_pay111 km (Q 5)) (k0_pay112 km (Q 5))
    (k0_pay113 km (Q 5)) (k0_pay114 km (Q 5))) (KB 4) bp) (k0_pay126 k0_pay61 (k0_pay108 (Q 5)) (KB 5) bo) (k0_pay161 B
    (k0_pay158 (k0_pay125 (k0_pay108 (Q 5)) (k0_pay120 (k0_pay110 km (Q 5)) (k0_pay111 km (Q 5)) (k0_pay112 km (Q 5))
    (k0_pay113 km (Q 5)) (k0_pay114 km (Q 5))) (KB 4) bp) (k0_pay126 k0_pay61 (k0_pay108 (Q 5)) (KB 5) bo)) (k0_pay159
    (k0_pay121 (k0_pay108 (Q 5)) (k0_pay116 (k0_pay110 km (Q 5)) (k0_pay112 km (Q 5)) (k0_pay113 km (Q 5)) (k0_pay114
    km (Q 5)) (k0_pay115 km (Q 5))) (KB 0)) (k0_pay122 (k0_pay108 (Q 5)) (k0_pay117 (k0_pay110 km (Q 5)) (k0_pay111 km
    (Q 5)) (k0_pay112 km (Q 5)) (k0_pay113 km (Q 5)) (k0_pay114 km (Q 5))) (KB 1)) (k0_pay123 (k0_pay108 (Q 5))
    (k0_pay118 (k0_pay110 km (Q 5)) (k0_pay111 km (Q 5)) (k0_pay112 km (Q 5)) (k0_pay113 km (Q 5)) (k0_pay114 km (Q
    5))) (KB 2))) (k0_pay160 (k0_pay124 (k0_pay108 (Q 5)) (k0_pay119 (k0_pay110 km (Q 5)) (k0_pay111 km (Q 5))
    (k0_pay112 km (Q 5)) (k0_pay113 km (Q 5)) (k0_pay114 km (Q 5))) (KB 3)))) (k0_pay162 B (k0_pay121 (k0_pay108 (Q 5))
    (k0_pay116 (k0_pay110 km (Q 5)) (k0_pay112 km (Q 5)) (k0_pay113 km (Q 5)) (k0_pay114 km (Q 5)) (k0_pay115 km (Q
    5))) (KB 0)) (k0_pay122 (k0_pay108 (Q 5)) (k0_pay117 (k0_pay110 km (Q 5)) (k0_pay111 km (Q 5)) (k0_pay112 km (Q 5))
    (k0_pay113 km (Q 5)) (k0_pay114 km (Q 5))) (KB 1)) (k0_pay123 (k0_pay108 (Q 5)) (k0_pay118 (k0_pay110 km (Q 5))
    (k0_pay111 km (Q 5)) (k0_pay112 km (Q 5)) (k0_pay113 km (Q 5)) (k0_pay114 km (Q 5))) (KB 2)) (k0_pay158 (k0_pay125
    (k0_pay108 (Q 5)) (k0_pay120 (k0_pay110 km (Q 5)) (k0_pay111 km (Q 5)) (k0_pay112 km (Q 5)) (k0_pay113 km (Q 5))
    (k0_pay114 km (Q 5))) (KB 4) bp) (k0_pay126 k0_pay61 (k0_pay108 (Q 5)) (KB 5) bo)) (k0_pay159 (k0_pay121 (k0_pay108
    (Q 5)) (k0_pay116 (k0_pay110 km (Q 5)) (k0_pay112 km (Q 5)) (k0_pay113 km (Q 5)) (k0_pay114 km (Q 5)) (k0_pay115 km
    (Q 5))) (KB 0)) (k0_pay122 (k0_pay108 (Q 5)) (k0_pay117 (k0_pay110 km (Q 5)) (k0_pay111 km (Q 5)) (k0_pay112 km (Q
    5)) (k0_pay113 km (Q 5)) (k0_pay114 km (Q 5))) (KB 1)) (k0_pay123 (k0_pay108 (Q 5)) (k0_pay118 (k0_pay110 km (Q 5))
    (k0_pay111 km (Q 5)) (k0_pay112 km (Q 5)) (k0_pay113 km (Q 5)) (k0_pay114 km (Q 5))) (KB 2))) (k0_pay160 (k0_pay124
    (k0_pay108 (Q 5)) (k0_pay119 (k0_pay110 km (Q 5)) (k0_pay111 km (Q 5)) (k0_pay112 km (Q 5)) (k0_pay113 km (Q 5))
    (k0_pay114 km (Q 5))) (KB 3))) (VT 0) (VT 1) (VT 2)) (k0_pay163 B (k0_pay124 (k0_pay108 (Q 5)) (k0_pay119
    (k0_pay110 km (Q 5)) (k0_pay111 km (Q 5)) (k0_pay112 km (Q 5)) (k0_pay113 km (Q 5)) (k0_pay114 km (Q 5))) (KB 3))
    (k0_pay158 (k0_pay125 (k0_pay108 (Q 5)) (k0_pay120 (k0_pay110 km (Q 5)) (k0_pay111 km (Q 5)) (k0_pay112 km (Q 5))
    (k0_pay113 km (Q 5)) (k0_pay114 km (Q 5))) (KB 4) bp) (k0_pay126 k0_pay61 (k0_pay108 (Q 5)) (KB 5) bo)) (k0_pay159
    (k0_pay121 (k0_pay108 (Q 5)) (k0_pay116 (k0_pay110 km (Q 5)) (k0_pay112 km (Q 5)) (k0_pay113 km (Q 5)) (k0_pay114
    km (Q 5)) (k0_pay115 km (Q 5))) (KB 0)) (k0_pay122 (k0_pay108 (Q 5)) (k0_pay117 (k0_pay110 km (Q 5)) (k0_pay111 km
    (Q 5)) (k0_pay112 km (Q 5)) (k0_pay113 km (Q 5)) (k0_pay114 km (Q 5))) (KB 1)) (k0_pay123 (k0_pay108 (Q 5))
    (k0_pay118 (k0_pay110 km (Q 5)) (k0_pay111 km (Q 5)) (k0_pay112 km (Q 5)) (k0_pay113 km (Q 5)) (k0_pay114 km (Q
    5))) (KB 2))) (k0_pay160 (k0_pay124 (k0_pay108 (Q 5)) (k0_pay119 (k0_pay110 km (Q 5)) (k0_pay111 km (Q 5))
    (k0_pay112 km (Q 5)) (k0_pay113 km (Q 5)) (k0_pay114 km (Q 5))) (KB 3)))) (VT 3) (VT 4) (VT 5)
      = outBlk B km Q KB VT bo bp 5 := by
  show _ = outOf _ _ _ _
  rfl

theorem block6 :
    k0_pay202 (k0_pay157 k0_pay61 (k0_pay133 (Q 6)) (KB 6) bo) (k0_pay197 B (k0_pay149 (k0_pay133 (Q 6)) (k0_pay141 km
    (Q 6)) (KB 0)) (k0_pay150 (k0_pay133 (Q 6)) (k0_pay143 (k0_pay142 km (Q 6))) (KB 1)) (k0_pay151 (k0_pay133 (Q 6))
    (k0_pay144 (k0_pay135 km (Q 6)) (k0_pay136 km (Q 6)) (k0_pay137 km (Q 6)) (k0_pay138 km (Q 6)) (k0_pay139 km (Q 6))
    (k0_pay140 km (Q 6))) (KB 2)) (k0_pay154 (k0_pay152 (k0_pay133 (Q 6)) (KB 3)) (Named.named κ "neg_inf"
    0xf149f2ca#32 : F .f32) (k0_pay153 (k0_pay145 (k0_pay135 km (Q 6)) (k0_pay136 km (Q 6)) (k0_pay137 km (Q 6))
    (k0_pay138 km (Q 6)) (k0_pay139 km (Q 6)) (k0_pay140 km (Q 6))))) (k0_pay155 (k0_pay133 (Q 6)) (k0_pay147
    (k0_pay146 (k0_pay135 km (Q 6)) (k0_pay136 km (Q 6)) (k0_pay137 km (Q 6)) (k0_pay138 km (Q 6)) (k0_pay139 km (Q 6))
    (k0_pay140 km (Q 6)))) (KB 4)) (k0_pay156 (k0_pay133 (Q 6)) (k0_pay148 (k0_pay135 km (Q 6)) (k0_pay136 km (Q 6))
    (k0_pay137 km (Q 6)) (k0_pay138 km (Q 6)) (k0_pay139 km (Q 6)) (k0_pay140 km (Q 6))) (KB 5) bp) (k0_pay157 k0_pay61
    (k0_pay133 (Q 6)) (KB 6) bo)) (k0_pay200 B (k0_pay151 (k0_pay133 (Q 6)) (k0_pay144 (k0_pay135 km (Q 6)) (k0_pay136
    km (Q 6)) (k0_pay137 km (Q 6)) (k0_pay138 km (Q 6)) (k0_pay139 km (Q 6)) (k0_pay140 km (Q 6))) (KB 2)) (k0_pay154
    (k0_pay152 (k0_pay133 (Q 6)) (KB 3)) (Named.named κ "neg_inf" 0xf149f2ca#32 : F .f32) (k0_pay153 (k0_pay145
    (k0_pay135 km (Q 6)) (k0_pay136 km (Q 6)) (k0_pay137 km (Q 6)) (k0_pay138 km (Q 6)) (k0_pay139 km (Q 6)) (k0_pay140
    km (Q 6))))) (k0_pay155 (k0_pay133 (Q 6)) (k0_pay147 (k0_pay146 (k0_pay135 km (Q 6)) (k0_pay136 km (Q 6))
    (k0_pay137 km (Q 6)) (k0_pay138 km (Q 6)) (k0_pay139 km (Q 6)) (k0_pay140 km (Q 6)))) (KB 4)) (k0_pay197 B
    (k0_pay149 (k0_pay133 (Q 6)) (k0_pay141 km (Q 6)) (KB 0)) (k0_pay150 (k0_pay133 (Q 6)) (k0_pay143 (k0_pay142 km (Q
    6))) (KB 1)) (k0_pay151 (k0_pay133 (Q 6)) (k0_pay144 (k0_pay135 km (Q 6)) (k0_pay136 km (Q 6)) (k0_pay137 km (Q 6))
    (k0_pay138 km (Q 6)) (k0_pay139 km (Q 6)) (k0_pay140 km (Q 6))) (KB 2)) (k0_pay154 (k0_pay152 (k0_pay133 (Q 6)) (KB
    3)) (Named.named κ "neg_inf" 0xf149f2ca#32 : F .f32) (k0_pay153 (k0_pay145 (k0_pay135 km (Q 6)) (k0_pay136 km (Q
    6)) (k0_pay137 km (Q 6)) (k0_pay138 km (Q 6)) (k0_pay139 km (Q 6)) (k0_pay140 km (Q 6))))) (k0_pay155 (k0_pay133 (Q
    6)) (k0_pay147 (k0_pay146 (k0_pay135 km (Q 6)) (k0_pay136 km (Q 6)) (k0_pay137 km (Q 6)) (k0_pay138 km (Q 6))
    (k0_pay139 km (Q 6)) (k0_pay140 km (Q 6)))) (KB 4)) (k0_pay156 (k0_pay133 (Q 6)) (k0_pay148 (k0_pay135 km (Q 6))
    (k0_pay136 km (Q 6)) (k0_pay137 km (Q 6)) (k0_pay138 km (Q 6)) (k0_pay139 km (Q 6)) (k0_pay140 km (Q 6))) (KB 5)
    bp) (k0_pay157 k0_pay61 (k0_pay133 (Q 6)) (KB 6) bo)) (k0_pay198 B (k0_pay149 (k0_pay133 (Q 6)) (k0_pay141 km (Q
    6)) (KB 0)) (k0_pay150 (k0_pay133 (Q 6)) (k0_pay143 (k0_pay142 km (Q 6))) (KB 1)) (k0_pay151 (k0_pay133 (Q 6))
    (k0_pay144 (k0_pay135 km (Q 6)) (k0_pay136 km (Q 6)) (k0_pay137 km (Q 6)) (k0_pay138 km (Q 6)) (k0_pay139 km (Q 6))
    (k0_pay140 km (Q 6))) (KB 2)) (k0_pay154 (k0_pay152 (k0_pay133 (Q 6)) (KB 3)) (Named.named κ "neg_inf"
    0xf149f2ca#32 : F .f32) (k0_pay153 (k0_pay145 (k0_pay135 km (Q 6)) (k0_pay136 km (Q 6)) (k0_pay137 km (Q 6))
    (k0_pay138 km (Q 6)) (k0_pay139 km (Q 6)) (k0_pay140 km (Q 6))))) (k0_pay155 (k0_pay133 (Q 6)) (k0_pay147
    (k0_pay146 (k0_pay135 km (Q 6)) (k0_pay136 km (Q 6)) (k0_pay137 km (Q 6)) (k0_pay138 km (Q 6)) (k0_pay139 km (Q 6))
    (k0_pay140 km (Q 6)))) (KB 4)) (k0_pay156 (k0_pay133 (Q 6)) (k0_pay148 (k0_pay135 km (Q 6)) (k0_pay136 km (Q 6))
    (k0_pay137 km (Q 6)) (k0_pay138 km (Q 6)) (k0_pay139 km (Q 6)) (k0_pay140 km (Q 6))) (KB 5) bp) (k0_pay157 k0_pay61
    (k0_pay133 (Q 6)) (KB 6) bo) (VT 0)) (k0_pay199 B (k0_pay149 (k0_pay133 (Q 6)) (k0_pay141 km (Q 6)) (KB 0))
    (k0_pay150 (k0_pay133 (Q 6)) (k0_pay143 (k0_pay142 km (Q 6))) (KB 1)) (k0_pay151 (k0_pay133 (Q 6)) (k0_pay144
    (k0_pay135 km (Q 6)) (k0_pay136 km (Q 6)) (k0_pay137 km (Q 6)) (k0_pay138 km (Q 6)) (k0_pay139 km (Q 6)) (k0_pay140
    km (Q 6))) (KB 2)) (k0_pay154 (k0_pay152 (k0_pay133 (Q 6)) (KB 3)) (Named.named κ "neg_inf" 0xf149f2ca#32 : F .f32)
    (k0_pay153 (k0_pay145 (k0_pay135 km (Q 6)) (k0_pay136 km (Q 6)) (k0_pay137 km (Q 6)) (k0_pay138 km (Q 6))
    (k0_pay139 km (Q 6)) (k0_pay140 km (Q 6))))) (k0_pay155 (k0_pay133 (Q 6)) (k0_pay147 (k0_pay146 (k0_pay135 km (Q
    6)) (k0_pay136 km (Q 6)) (k0_pay137 km (Q 6)) (k0_pay138 km (Q 6)) (k0_pay139 km (Q 6)) (k0_pay140 km (Q 6)))) (KB
    4)) (k0_pay156 (k0_pay133 (Q 6)) (k0_pay148 (k0_pay135 km (Q 6)) (k0_pay136 km (Q 6)) (k0_pay137 km (Q 6))
    (k0_pay138 km (Q 6)) (k0_pay139 km (Q 6)) (k0_pay140 km (Q 6))) (KB 5) bp) (k0_pay157 k0_pay61 (k0_pay133 (Q 6))
    (KB 6) bo)) (VT 1) (VT 2) (VT 3) (VT 4)) (VT 5) (k0_pay201 (k0_pay156 (k0_pay133 (Q 6)) (k0_pay148 (k0_pay135 km (Q
    6)) (k0_pay136 km (Q 6)) (k0_pay137 km (Q 6)) (k0_pay138 km (Q 6)) (k0_pay139 km (Q 6)) (k0_pay140 km (Q 6))) (KB
    5) bp) (k0_pay197 B (k0_pay149 (k0_pay133 (Q 6)) (k0_pay141 km (Q 6)) (KB 0)) (k0_pay150 (k0_pay133 (Q 6))
    (k0_pay143 (k0_pay142 km (Q 6))) (KB 1)) (k0_pay151 (k0_pay133 (Q 6)) (k0_pay144 (k0_pay135 km (Q 6)) (k0_pay136 km
    (Q 6)) (k0_pay137 km (Q 6)) (k0_pay138 km (Q 6)) (k0_pay139 km (Q 6)) (k0_pay140 km (Q 6))) (KB 2)) (k0_pay154
    (k0_pay152 (k0_pay133 (Q 6)) (KB 3)) (Named.named κ "neg_inf" 0xf149f2ca#32 : F .f32) (k0_pay153 (k0_pay145
    (k0_pay135 km (Q 6)) (k0_pay136 km (Q 6)) (k0_pay137 km (Q 6)) (k0_pay138 km (Q 6)) (k0_pay139 km (Q 6)) (k0_pay140
    km (Q 6))))) (k0_pay155 (k0_pay133 (Q 6)) (k0_pay147 (k0_pay146 (k0_pay135 km (Q 6)) (k0_pay136 km (Q 6))
    (k0_pay137 km (Q 6)) (k0_pay138 km (Q 6)) (k0_pay139 km (Q 6)) (k0_pay140 km (Q 6)))) (KB 4)) (k0_pay156 (k0_pay133
    (Q 6)) (k0_pay148 (k0_pay135 km (Q 6)) (k0_pay136 km (Q 6)) (k0_pay137 km (Q 6)) (k0_pay138 km (Q 6)) (k0_pay139 km
    (Q 6)) (k0_pay140 km (Q 6))) (KB 5) bp) (k0_pay157 k0_pay61 (k0_pay133 (Q 6)) (KB 6) bo))) (constant S144x256
    FTy.f32 0#32) (VT 6)
      = outBlk B km Q KB VT bo bp 6 := by
  show _ = outOf _ _ _ _
  rfl

theorem block7 :
    k0_pay1 (k0_pay206 B (k0_pay192 (k0_pay166 (Q 7)) (k0_pay183 (k0_pay168 km (Q 7)) (k0_pay169 km (Q 7)) (k0_pay170
    km (Q 7)) (k0_pay171 km (Q 7)) (k0_pay172 km (Q 7)) (k0_pay173 km (Q 7)) (k0_pay174 km (Q 7))) (KB 4)) (k0_pay193
    (k0_pay166 (Q 7)) (k0_pay186 (k0_pay171 km (Q 7)) (k0_pay172 km (Q 7)) (k0_pay173 km (Q 7)) (k0_pay174 km (Q 7))
    (k0_pay184 (k0_pay168 km (Q 7)) (k0_pay169 km (Q 7)) (k0_pay173 km (Q 7))) (k0_pay185 (k0_pay170 km (Q 7))
    (k0_pay173 km (Q 7)))) (KB 5)) (k0_pay194 (k0_pay166 (Q 7)) (k0_pay187 (k0_pay168 km (Q 7)) (k0_pay169 km (Q 7))
    (k0_pay170 km (Q 7)) (k0_pay171 km (Q 7)) (k0_pay172 km (Q 7)) (k0_pay173 km (Q 7)) (k0_pay174 km (Q 7))) (KB 6)
    bp) (k0_pay196 k0_pay61 (k0_pay195 (k0_pay166 (Q 7)) (KB 7) bo)) (k0_pay203 B (k0_pay188 (k0_pay166 (Q 7))
    (k0_pay177 (k0_pay168 km (Q 7)) (k0_pay170 km (Q 7)) (k0_pay171 km (Q 7)) (k0_pay172 km (Q 7)) (k0_pay173 km (Q 7))
    (k0_pay174 km (Q 7)) k0_pay175 (k0_pay176 km (Q 7))) (KB 0)) (k0_pay189 (k0_pay166 (Q 7)) (k0_pay178 (k0_pay168 km
    (Q 7)) (k0_pay169 km (Q 7)) (k0_pay170 km (Q 7)) (k0_pay171 km (Q 7)) (k0_pay172 km (Q 7)) (k0_pay173 km (Q 7))
    (k0_pay174 km (Q 7))) (KB 1)) (k0_pay190 (k0_pay166 (Q 7)) (k0_pay181 (k0_pay179 (k0_pay168 km (Q 7)) (k0_pay169 km
    (Q 7)) (k0_pay170 km (Q 7)) (k0_pay171 km (Q 7)) (k0_pay172 km (Q 7)) (k0_pay173 km (Q 7))) (k0_pay180 (k0_pay170
    km (Q 7)) (k0_pay174 km (Q 7)))) (KB 2)) (k0_pay191 (k0_pay166 (Q 7)) (k0_pay182 (k0_pay168 km (Q 7)) (k0_pay169 km
    (Q 7)) (k0_pay170 km (Q 7)) (k0_pay171 km (Q 7)) (k0_pay172 km (Q 7)) (k0_pay173 km (Q 7)) (k0_pay174 km (Q 7)))
    (KB 3)) (k0_pay192 (k0_pay166 (Q 7)) (k0_pay183 (k0_pay168 km (Q 7)) (k0_pay169 km (Q 7)) (k0_pay170 km (Q 7))
    (k0_pay171 km (Q 7)) (k0_pay172 km (Q 7)) (k0_pay173 km (Q 7)) (k0_pay174 km (Q 7))) (KB 4)) (k0_pay193 (k0_pay166
    (Q 7)) (k0_pay186 (k0_pay171 km (Q 7)) (k0_pay172 km (Q 7)) (k0_pay173 km (Q 7)) (k0_pay174 km (Q 7)) (k0_pay184
    (k0_pay168 km (Q 7)) (k0_pay169 km (Q 7)) (k0_pay173 km (Q 7))) (k0_pay185 (k0_pay170 km (Q 7)) (k0_pay173 km (Q
    7)))) (KB 5)) (k0_pay194 (k0_pay166 (Q 7)) (k0_pay187 (k0_pay168 km (Q 7)) (k0_pay169 km (Q 7)) (k0_pay170 km (Q
    7)) (k0_pay171 km (Q 7)) (k0_pay172 km (Q 7)) (k0_pay173 km (Q 7)) (k0_pay174 km (Q 7))) (KB 6) bp) (k0_pay196
    k0_pay61 (k0_pay195 (k0_pay166 (Q 7)) (KB 7) bo))) (k0_pay205 B (k0_pay188 (k0_pay166 (Q 7)) (k0_pay177 (k0_pay168
    km (Q 7)) (k0_pay170 km (Q 7)) (k0_pay171 km (Q 7)) (k0_pay172 km (Q 7)) (k0_pay173 km (Q 7)) (k0_pay174 km (Q 7))
    k0_pay175 (k0_pay176 km (Q 7))) (KB 0)) (k0_pay189 (k0_pay166 (Q 7)) (k0_pay178 (k0_pay168 km (Q 7)) (k0_pay169 km
    (Q 7)) (k0_pay170 km (Q 7)) (k0_pay171 km (Q 7)) (k0_pay172 km (Q 7)) (k0_pay173 km (Q 7)) (k0_pay174 km (Q 7)))
    (KB 1)) (k0_pay190 (k0_pay166 (Q 7)) (k0_pay181 (k0_pay179 (k0_pay168 km (Q 7)) (k0_pay169 km (Q 7)) (k0_pay170 km
    (Q 7)) (k0_pay171 km (Q 7)) (k0_pay172 km (Q 7)) (k0_pay173 km (Q 7))) (k0_pay180 (k0_pay170 km (Q 7)) (k0_pay174
    km (Q 7)))) (KB 2)) (k0_pay191 (k0_pay166 (Q 7)) (k0_pay182 (k0_pay168 km (Q 7)) (k0_pay169 km (Q 7)) (k0_pay170 km
    (Q 7)) (k0_pay171 km (Q 7)) (k0_pay172 km (Q 7)) (k0_pay173 km (Q 7)) (k0_pay174 km (Q 7))) (KB 3)) (k0_pay203 B
    (k0_pay188 (k0_pay166 (Q 7)) (k0_pay177 (k0_pay168 km (Q 7)) (k0_pay170 km (Q 7)) (k0_pay171 km (Q 7)) (k0_pay172
    km (Q 7)) (k0_pay173 km (Q 7)) (k0_pay174 km (Q 7)) k0_pay175 (k0_pay176 km (Q 7))) (KB 0)) (k0_pay189 (k0_pay166
    (Q 7)) (k0_pay178 (k0_pay168 km (Q 7)) (k0_pay169 km (Q 7)) (k0_pay170 km (Q 7)) (k0_pay171 km (Q 7)) (k0_pay172 km
    (Q 7)) (k0_pay173 km (Q 7)) (k0_pay174 km (Q 7))) (KB 1)) (k0_pay190 (k0_pay166 (Q 7)) (k0_pay181 (k0_pay179
    (k0_pay168 km (Q 7)) (k0_pay169 km (Q 7)) (k0_pay170 km (Q 7)) (k0_pay171 km (Q 7)) (k0_pay172 km (Q 7)) (k0_pay173
    km (Q 7))) (k0_pay180 (k0_pay170 km (Q 7)) (k0_pay174 km (Q 7)))) (KB 2)) (k0_pay191 (k0_pay166 (Q 7)) (k0_pay182
    (k0_pay168 km (Q 7)) (k0_pay169 km (Q 7)) (k0_pay170 km (Q 7)) (k0_pay171 km (Q 7)) (k0_pay172 km (Q 7)) (k0_pay173
    km (Q 7)) (k0_pay174 km (Q 7))) (KB 3)) (k0_pay192 (k0_pay166 (Q 7)) (k0_pay183 (k0_pay168 km (Q 7)) (k0_pay169 km
    (Q 7)) (k0_pay170 km (Q 7)) (k0_pay171 km (Q 7)) (k0_pay172 km (Q 7)) (k0_pay173 km (Q 7)) (k0_pay174 km (Q 7)))
    (KB 4)) (k0_pay193 (k0_pay166 (Q 7)) (k0_pay186 (k0_pay171 km (Q 7)) (k0_pay172 km (Q 7)) (k0_pay173 km (Q 7))
    (k0_pay174 km (Q 7)) (k0_pay184 (k0_pay168 km (Q 7)) (k0_pay169 km (Q 7)) (k0_pay173 km (Q 7))) (k0_pay185
    (k0_pay170 km (Q 7)) (k0_pay173 km (Q 7)))) (KB 5)) (k0_pay194 (k0_pay166 (Q 7)) (k0_pay187 (k0_pay168 km (Q 7))
    (k0_pay169 km (Q 7)) (k0_pay170 km (Q 7)) (k0_pay171 km (Q 7)) (k0_pay172 km (Q 7)) (k0_pay173 km (Q 7)) (k0_pay174
    km (Q 7))) (KB 6) bp) (k0_pay196 k0_pay61 (k0_pay195 (k0_pay166 (Q 7)) (KB 7) bo))) k0_pay204 (VT 0) (VT 1) (VT 2)
    (VT 3)) (VT 4) (VT 5) (VT 6) (VT 7))
      = outBlk B km Q KB VT bo bp 7 := by
  show _ = outOf _ _ _ _
  rfl

end Cert.KernelIdeal.Moba

end
-- ==== Proof.BodyB.lean ====
/- The body's stores at a grid point, read as the model of Model.lean: the case that carries the bias tiles. -/
module

public import proofs.«01_k».proof.Proof.Blocks

@[expose] public section

set_option maxRecDepth 16384

noncomputable section

namespace Cert.KernelIdeal.Moba

open Cert.KernelIdeal Cert.KernelIdeal.Gen
open Idealize.ShloMosaic Idealize.ShloMosaic.TcCoe Idealize.SL.Sem

variable {F : FTy → Type} [FloatOps F] [Named F]

/-- The last bias entry of the point's head, scaled. -/
def farBias (i : grid0.Coords) (x0 : Vec F S32x8 .f32) : F .f32 :=
  k0_pay54 (x0 (ValueIdx.ix2 31 ⟨(i 0).val, (i 0).isLt⟩))

set_option maxHeartbeats 2000000 in
theorem out_B (c : Dev nD) (i : grid0.Coords) (arg2 : Memref sig .tc .smem S32x8 .f32) (harg2 : arg2.IsWhole) (arg3 : Memref sig .tc .vmem S256x256 .i32) (harg3 : arg3.IsWhole) (arg4 : Memref sig .tc .vmem S256x256 .i32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S256x256 .f32) (harg9 : arg9.IsWhole) (arg10 : Memref sig .tc .vmem S256x256 .f32) (harg10 : arg10.IsWhole) (arg11 : Memref sig .tc .vmem S2048x128 .bf16) (harg11 : arg11.IsWhole) (arg12 : Memref sig .tc .vmem S144x2048 .bf16) (harg12 : arg12.IsWhole) (hc0 : ¬cond0_0 i)
    (x0 : Vec F S32x8 .f32) (x1 : Vec F S256x256 .i32) (x2 : Vec F S256x256 .i32) (x3 : Vec F S2048x128 .f32) (x4 : Vec F S2048x128 .f32) (x5 : Vec F S2048x128 .f32) (xs0 : Vec F S256x256 .f32) (xs1 : Vec F S256x256 .f32) :
    out0_B_6 c i arg2 harg2 arg3 harg3 arg4 harg4 arg5 harg5 arg6 harg6 arg7 harg7 arg8 harg8 arg9 harg9 arg10 harg10 arg11 harg11 arg12 harg12 hc0 x0 x1 x2 x3 x4 x5 xs0 xs1 = outAll (farBias i x0) x3 x4 x5 xs0 xs1 := by
  unfold out0_B_6
  have hcov := cover0_B_6 c i arg2 harg2 arg3 harg3 arg4 harg4 arg5 harg5 arg6 harg6 arg7 harg7 arg8 harg8 arg9 harg9 arg10 harg10 arg11 harg11 arg12 harg12 hc0 x0 x1 x2 x3 x4 x5 xs0 xs1
  rw [View.read_writes_eq_canon _ _ _ hcov]
  funext y
  refine View.canon_apply_of_pieces (outAll (farBias i x0) x3 x4 x5 xs0 xs1) _ ?_ y (hcov y)
  clear hcov
  unfold kernelRun0_B
  dsimp only
  sl_unfold_words
  simp only [View.readAt_eq_ld, harg3.read_unread, harg2.read_unread, harg5.read_unread, harg6.read_unread, harg7.read_unread, harg9.read_unread,
    harg10.read_unread]
  simp only [ld_whole, ld_bias]
  have hE := ld_entry (α := Elt F) (e := .f32) x0 i 31 (by decide)
  have r0 := ld_rows (α := Elt F) (e := .f32) x3 0 0 rfl (by decide)
  have k0 := kb_leaf arg11.view (k0_pay57 x4) 0 0 rfl (by decide)
  have v0 := vt_leaf arg12.view x5 0 0 rfl (by decide)
  have r1 := ld_rows (α := Elt F) (e := .f32) x3 1 256 rfl (by decide)
  have k1 := kb_leaf arg11.view (k0_pay57 x4) 1 256 rfl (by decide)
  have v1 := vt_leaf arg12.view x5 1 256 rfl (by decide)
  have r2 := ld_rows (α := Elt F) (e := .f32) x3 2 512 rfl (by decide)
  have k2 := kb_leaf arg11.view (k0_pay57 x4) 2 512 rfl (by decide)
  have v2 := vt_leaf arg12.view x5 2 512 rfl (by decide)
  have r3 := ld_rows (α := Elt F) (e := .f32) x3 3 768 rfl (by decide)
  have k3 := kb_leaf arg11.view (k0_pay57 x4) 3 768 rfl (by decide)
  have v3 := vt_leaf arg12.view x5 3 768 rfl (by decide)
  have r4 := ld_rows (α := Elt F) (e := .f32) x3 4 1024 rfl (by decide)
  have k4 := kb_leaf arg11.view (k0_pay57 x4) 4 1024 rfl (by decide)
  have v4 := vt_leaf arg12.view x5 4 1024 rfl (by decide)
  have r5 := ld_rows (α := Elt F) (e := .f32) x3 5 1280 rfl (by decide)
  have k5 := kb_leaf arg11.view (k0_pay57 x4) 5 1280 rfl (by decide)
  have v5 := vt_leaf arg12.view x5 5 1280 rfl (by decide)
  have r6 := ld_rows (α := Elt F) (e := .f32) x3 6 1536 rfl (by decide)
  have k6 := kb_leaf arg11.view (k0_pay57 x4) 6 1536 rfl (by decide)
  have v6 := vt_leaf arg12.view x5 6 1536 rfl (by decide)
  have r7 := ld_rows (α := Elt F) (e := .f32) x3 7 1792 rfl (by decide)
  have k7 := kb_leaf arg11.view (k0_pay57 x4) 7 1792 rfl (by decide)
  have v7 := vt_leaf arg12.view x5 7 1792 rfl (by decide)
  simp only [r0, r1, r2, r3, r4, r5, r6, r7, k0, k1, k2, k3, k4, k5, k6, k7, v0, v1, v2, v3, v4, v5, v6, v7]
  erw [hE]
  change ∀ p : View.Piece (Elt F) S2048x128 .bf16, p ∈ _ → ∀ x, p.2 x = outAll (farBias i x0) x3 x4 x5 xs0 xs1 (p.1.emb x)
  intro p hp
  simp only [List.mem_cons, List.not_mem_nil, or_false] at hp
  clear hE r0 r1 r2 r3 r4 r5 r6 r7 k0 k1 k2 k3 k4 k5 k6 k7 v0 v1 v2 v3 v4 v5 v6 v7
  rcases hp with rfl | rfl | rfl | rfl | rfl | rfl | rfl | rfl
  all_goals dsimp only
  all_goals intro x
  · exact outAll_piece _ x3 x4 x5 xs0 xs1 7 1792 rfl inb_S2048x128_S256x128_1792_0 _
      (block7 (farBias i x0) (k0_pay56 x4) (rowsBlk x3) (rowsBlk (k0_pay57 x4)) (colsBlk (vtAll x5)) xs0 xs1) x
  · exact outAll_piece _ x3 x4 x5 xs0 xs1 6 1536 rfl inb_S2048x128_S256x128_1536_0 _
      (block6 (farBias i x0) (k0_pay56 x4) (rowsBlk x3) (rowsBlk (k0_pay57 x4)) (colsBlk (vtAll x5)) xs0 xs1) x
  · exact outAll_piece _ x3 x4 x5 xs0 xs1 5 1280 rfl inb_S2048x128_S256x128_1280_0 _
      (block5 (farBias i x0) (k0_pay56 x4) (rowsBlk x3) (rowsBlk (k0_pay57 x4)) (colsBlk (vtAll x5)) xs0 xs1) x
  · exact outAll_piece _ x3 x4 x5 xs0 xs1 4 1024 rfl inb_S2048x128_S256x128_1024_0 _
      (block4 (farBias i x0) (k0_pay56 x4) (rowsBlk x3) (rowsBlk (k0_pay57 x4)) (colsBlk (vtAll x5)) xs0 xs1) x
  · exact outAll_piece _ x3 x4 x5 xs0 xs1 3 768 rfl inb_S2048x128_S256x128_768_0 _
      (block3 (farBias i x0) (k0_pay56 x4) (rowsBlk x3) (rowsBlk (k0_pay57 x4)) (colsBlk (vtAll x5)) xs0 xs1) x
  · exact outAll_piece _ x3 x4 x5 xs0 xs1 2 512 rfl inb_S2048x128_S256x128_512_0 _
      (block2 (farBias i x0) (k0_pay56 x4) (rowsBlk x3) (rowsBlk (k0_pay57 x4)) (colsBlk (vtAll x5)) xs0 xs1) x
  · exact outAll_piece _ x3 x4 x5 xs0 xs1 1 256 rfl inb_S2048x128_S256x128_256_0 _
      (block1 (farBias i x0) (k0_pay56 x4) (rowsBlk x3) (rowsBlk (k0_pay57 x4)) (colsBlk (vtAll x5)) xs0 xs1) x
  · exact outAll_piece _ x3 x4 x5 xs0 xs1 0 0 rfl inb_S2048x128_S256x128_0_0 _
      (block0 (farBias i x0) (k0_pay56 x4) (rowsBlk x3) (rowsBlk (k0_pay57 x4)) (colsBlk (vtAll x5)) xs0 xs1) x

end Cert.KernelIdeal.Moba

end
-- ==== Proof.BodyA.lean ====
/- The body's stores at a grid point, read as the model of Model.lean: the case that carries the bias tiles. -/
module

public import proofs.«01_k».proof.Proof.BodyB

@[expose] public section

set_option maxRecDepth 16384
set_option pp.maxSteps 100000000
set_option pp.deepTerms true
set_option pp.proofs false

noncomputable section

namespace Cert.KernelIdeal.Moba

open Cert.KernelIdeal Cert.KernelIdeal.Gen
open Idealize.ShloMosaic Idealize.ShloMosaic.TcCoe Idealize.SL.Sem

variable {F : FTy → Type} [FloatOps F] [Named F]

set_option maxHeartbeats 2000000 in
theorem out_A (c : Dev nD) (i : grid0.Coords) (arg2 : Memref sig .tc .smem S32x8 .f32) (harg2 : arg2.IsWhole) (arg3 : Memref sig .tc .vmem S256x256 .i32) (harg3 : arg3.IsWhole) (arg4 : Memref sig .tc .vmem S256x256 .i32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S256x256 .f32) (harg9 : arg9.IsWhole) (arg10 : Memref sig .tc .vmem S256x256 .f32) (harg10 : arg10.IsWhole) (arg11 : Memref sig .tc .vmem S2048x128 .bf16) (harg11 : arg11.IsWhole) (arg12 : Memref sig .tc .vmem S144x2048 .bf16) (harg12 : arg12.IsWhole) (hc0 : cond0_0 i)
    (x0 : Vec F S32x8 .f32) (x1 : Vec F S256x256 .i32) (x2 : Vec F S256x256 .i32) (x3 : Vec F S2048x128 .f32) (x4 : Vec F S2048x128 .f32) (x5 : Vec F S2048x128 .f32) :
    out0_A_6 c i arg2 harg2 arg3 harg3 arg4 harg4 arg5 harg5 arg6 harg6 arg7 harg7 arg8 harg8 arg9 harg9 arg10 harg10 arg11 harg11 arg12 harg12 hc0 x0 x1 x2 x3 x4 x5 = outAll (farBias i x0) x3 x4 x5 (biasTile x1 (biasCol i x0)) (biasTile x2 (biasCol i x0)) := by
  unfold out0_A_6
  have hcov := cover0_A_6 c i arg2 harg2 arg3 harg3 arg4 harg4 arg5 harg5 arg6 harg6 arg7 harg7 arg8 harg8 arg9 harg9 arg10 harg10 arg11 harg11 arg12 harg12 hc0 x0 x1 x2 x3 x4 x5
  rw [View.read_writes_eq_canon _ _ _ hcov]
  funext y
  refine View.canon_apply_of_pieces (outAll (farBias i x0) x3 x4 x5 (biasTile x1 (biasCol i x0)) (biasTile x2 (biasCol i x0))) _ ?_ y (hcov y)
  clear hcov
  unfold kernelRun0_A
  dsimp only
  sl_unfold_words
  simp only [View.readAt_eq_ld, harg3.read_unread, harg2.read_unread, harg5.read_unread, harg6.read_unread, harg7.read_unread, harg4.read_unread]
  simp only [ld_whole, ld_bias]
  have hE := ld_entry (α := Elt F) (e := .f32) x0 i 31 (by decide)
  have r0 := ld_rows (α := Elt F) (e := .f32) x3 0 0 rfl (by decide)
  have k0 := kb_leaf arg11.view (k0_pay57 x4) 0 0 rfl (by decide)
  have v0 := vt_leaf arg12.view x5 0 0 rfl (by decide)
  have r1 := ld_rows (α := Elt F) (e := .f32) x3 1 256 rfl (by decide)
  have k1 := kb_leaf arg11.view (k0_pay57 x4) 1 256 rfl (by decide)
  have v1 := vt_leaf arg12.view x5 1 256 rfl (by decide)
  have r2 := ld_rows (α := Elt F) (e := .f32) x3 2 512 rfl (by decide)
  have k2 := kb_leaf arg11.view (k0_pay57 x4) 2 512 rfl (by decide)
  have v2 := vt_leaf arg12.view x5 2 512 rfl (by decide)
  have r3 := ld_rows (α := Elt F) (e := .f32) x3 3 768 rfl (by decide)
  have k3 := kb_leaf arg11.view (k0_pay57 x4) 3 768 rfl (by decide)
  have v3 := vt_leaf arg12.view x5 3 768 rfl (by decide)
  have r4 := ld_rows (α := Elt F) (e := .f32) x3 4 1024 rfl (by decide)
  have k4 := kb_leaf arg11.view (k0_pay57 x4) 4 1024 rfl (by decide)
  have v4 := vt_leaf arg12.view x5 4 1024 rfl (by decide)
  have r5 := ld_rows (α := Elt F) (e := .f32) x3 5 1280 rfl (by decide)
  have k5 := kb_leaf arg11.view (k0_pay57 x4) 5 1280 rfl (by decide)
  have v5 := vt_leaf arg12.view x5 5 1280 rfl (by decide)
  have r6 := ld_rows (α := Elt F) (e := .f32) x3 6 1536 rfl (by decide)
  have k6 := kb_leaf arg11.view (k0_pay57 x4) 6 1536 rfl (by decide)
  have v6 := vt_leaf arg12.view x5 6 1536 rfl (by decide)
  have r7 := ld_rows (α := Elt F) (e := .f32) x3 7 1792 rfl (by decide)
  have k7 := kb_leaf arg11.view (k0_pay57 x4) 7 1792 rfl (by decide)
  have v7 := vt_leaf arg12.view x5 7 1792 rfl (by decide)
  simp only [r0, r1, r2, r3, r4, r5, r6, r7, k0, k1, k2, k3, k4, k5, k6, k7, v0, v1, v2, v3, v4, v5, v6, v7]
  simp only [plane_leaf]
  clear r0 r1 r2 r3 r4 r5 r6 r7 k0 k1 k2 k3 k4 k5 k6 k7 v0 v1 v2 v3 v4 v5 v6 v7
  generalize hown : k0_pay52 (F := F) (k0_pay2 x1) _ _ = own
  generalize hprev : k0_pay53 (F := F) (k0_pay3 x2) _ _ = prev
  have h1 : own = biasTile x1 (biasCol i x0) := by
    rw [← biasLd_eq, ← hown]
    show _ = biasTile _ _
    rfl
  have h2 : prev = biasTile x2 (biasCol i x0) := by
    rw [← biasLd_eq, ← hprev]
    show _ = biasTile _ _
    rfl
  rw [← h1, ← h2]
  erw [hE]
  change ∀ p : View.Piece (Elt F) S2048x128 .bf16, p ∈ _ → ∀ x, p.2 x = outAll (farBias i x0) x3 x4 x5 own prev (p.1.emb x)
  intro p hp
  simp only [List.mem_cons, List.not_mem_nil, or_false] at hp
  clear hE hown hprev h1 h2
  rcases hp with rfl | rfl | rfl | rfl | rfl | rfl | rfl | rfl
  all_goals dsimp only
  all_goals intro x
  · exact outAll_piece _ x3 x4 x5 own prev 7 1792 rfl inb_S2048x128_S256x128_1792_0 _
      (block7 (farBias i x0) (k0_pay56 x4) (rowsBlk x3) (rowsBlk (k0_pay57 x4)) (colsBlk (vtAll x5)) own prev) x
  · exact outAll_piece _ x3 x4 x5 own prev 6 1536 rfl inb_S2048x128_S256x128_1536_0 _
      (block6 (farBias i x0) (k0_pay56 x4) (rowsBlk x3) (rowsBlk (k0_pay57 x4)) (colsBlk (vtAll x5)) own prev) x
  · exact outAll_piece _ x3 x4 x5 own prev 5 1280 rfl inb_S2048x128_S256x128_1280_0 _
      (block5 (farBias i x0) (k0_pay56 x4) (rowsBlk x3) (rowsBlk (k0_pay57 x4)) (colsBlk (vtAll x5)) own prev) x
  · exact outAll_piece _ x3 x4 x5 own prev 4 1024 rfl inb_S2048x128_S256x128_1024_0 _
      (block4 (farBias i x0) (k0_pay56 x4) (rowsBlk x3) (rowsBlk (k0_pay57 x4)) (colsBlk (vtAll x5)) own prev) x
  · exact outAll_piece _ x3 x4 x5 own prev 3 768 rfl inb_S2048x128_S256x128_768_0 _
      (block3 (farBias i x0) (k0_pay56 x4) (rowsBlk x3) (rowsBlk (k0_pay57 x4)) (colsBlk (vtAll x5)) own prev) x
  · exact outAll_piece _ x3 x4 x5 own prev 2 512 rfl inb_S2048x128_S256x128_512_0 _
      (block2 (farBias i x0) (k0_pay56 x4) (rowsBlk x3) (rowsBlk (k0_pay57 x4)) (colsBlk (vtAll x5)) own prev) x
  · exact outAll_piece _ x3 x4 x5 own prev 1 256 rfl inb_S2048x128_S256x128_256_0 _
      (block1 (farBias i x0) (k0_pay56 x4) (rowsBlk x3) (rowsBlk (k0_pay57 x4)) (colsBlk (vtAll x5)) own prev) x
  · exact outAll_piece _ x3 x4 x5 own prev 0 0 rfl inb_S2048x128_S256x128_0_0 _
      (block0 (farBias i x0) (k0_pay56 x4) (rowsBlk x3) (rowsBlk (k0_pay57 x4)) (colsBlk (vtAll x5)) own prev) x

/-- The first grid point of a head leaves the head's own-block bias tile in the scratch. -/
theorem own_A (c : Dev nD) (i : grid0.Coords) (arg2 : Memref sig .tc .smem S32x8 .f32) (harg2 : arg2.IsWhole) (arg3 : Memref sig .tc .vmem S256x256 .i32) (harg3 : arg3.IsWhole) (arg4 : Memref sig .tc .vmem S256x256 .i32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S256x256 .f32) (harg9 : arg9.IsWhole) (arg10 : Memref sig .tc .vmem S256x256 .f32) (harg10 : arg10.IsWhole) (arg11 : Memref sig .tc .vmem S2048x128 .bf16) (harg11 : arg11.IsWhole) (arg12 : Memref sig .tc .vmem S144x2048 .bf16) (harg12 : arg12.IsWhole) (hc0 : cond0_0 i)
    (x0 : Vec F S32x8 .f32) (x1 : Vec F S256x256 .i32) (x2 : Vec F S256x256 .i32) (x3 : Vec F S2048x128 .f32) (x4 : Vec F S2048x128 .f32) (x5 : Vec F S2048x128 .f32) :
    sout0_A_0 c i arg2 harg2 arg3 harg3 arg4 harg4 arg5 harg5 arg6 harg6 arg7 harg7 arg8 harg8 arg9 harg9 arg10 harg10 arg11 harg11 arg12 harg12 hc0 x0 x1 x2 x3 x4 x5 = biasTile x1 (biasCol i x0) := by
  unfold sout0_A_0
  have hcov := scover0_A_0 c i arg2 harg2 arg3 harg3 arg4 harg4 arg5 harg5 arg6 harg6 arg7 harg7 arg8 harg8 arg9 harg9 arg10 harg10 arg11 harg11 arg12 harg12 hc0 x0 x1 x2 x3 x4 x5
  rw [View.read_writes_eq_canon _ _ _ hcov]
  clear hcov
  unfold kernelRun0_A
  dsimp only
  sl_unfold_words
  simp only [View.readAt_eq_ld, harg2.read_unread, harg3.read_unread, harg4.read_unread]
  simp only [ld_bias]
  rw [← biasLd_eq]
  refine (plane_canon _ _).trans ?_
  show _ = biasTile _ _
  rfl

/-- The first grid point of a head leaves the head's previous-block bias tile in the scratch. -/
theorem prev_A (c : Dev nD) (i : grid0.Coords) (arg2 : Memref sig .tc .smem S32x8 .f32) (harg2 : arg2.IsWhole) (arg3 : Memref sig .tc .vmem S256x256 .i32) (harg3 : arg3.IsWhole) (arg4 : Memref sig .tc .vmem S256x256 .i32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .bf16) (harg8 : arg8.IsWhole) (arg9 : Memref sig .tc .vmem S256x256 .f32) (harg9 : arg9.IsWhole) (arg10 : Memref sig .tc .vmem S256x256 .f32) (harg10 : arg10.IsWhole) (arg11 : Memref sig .tc .vmem S2048x128 .bf16) (harg11 : arg11.IsWhole) (arg12 : Memref sig .tc .vmem S144x2048 .bf16) (harg12 : arg12.IsWhole) (hc0 : cond0_0 i)
    (x0 : Vec F S32x8 .f32) (x1 : Vec F S256x256 .i32) (x2 : Vec F S256x256 .i32) (x3 : Vec F S2048x128 .f32) (x4 : Vec F S2048x128 .f32) (x5 : Vec F S2048x128 .f32) :
    sout0_A_1 c i arg2 harg2 arg3 harg3 arg4 harg4 arg5 harg5 arg6 harg6 arg7 harg7 arg8 harg8 arg9 harg9 arg10 harg10 arg11 harg11 arg12 harg12 hc0 x0 x1 x2 x3 x4 x5 = biasTile x2 (biasCol i x0) := by
  unfold sout0_A_1
  have hcov := scover0_A_1 c i arg2 harg2 arg3 harg3 arg4 harg4 arg5 harg5 arg6 harg6 arg7 harg7 arg8 harg8 arg9 harg9 arg10 harg10 arg11 harg11 arg12 harg12 hc0 x0 x1 x2 x3 x4 x5
  rw [View.read_writes_eq_canon _ _ _ hcov]
  clear hcov
  unfold kernelRun0_A
  dsimp only
  sl_unfold_words
  simp only [View.readAt_eq_ld, harg2.read_unread, harg3.read_unread, harg4.read_unread]
  simp only [ld_bias]
  rw [← biasLd_eq]
  refine (plane_canon _ _).trans ?_
  show _ = biasTile _ _
  rfl

end Cert.KernelIdeal.Moba

end
-- ==== Proof.Fold.lean ====
module

public import proofs.«01_k».proof.Proof.BodyA
public import proofs.«01_k».proof.Proof.Gen.KernelIdeal.Value

@[expose] public section

set_option maxRecDepth 16384

noncomputable section

namespace Cert.KernelIdeal.Moba

open Cert.KernelIdeal Cert.KernelIdeal.Gen Idealize.ShloMosaic Idealize.ShloMosaic.TcCoe Idealize.SL.Sem

variable {F : FTy → Type} [FloatOps F] [Named F]
variable (m : (ℓ : Loc nD τ sig) → Buf (Elt F) ℓ)

/-- The block indices of the windows that do not move. -/
theorem still : ∀ t : Fin cfg0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0) :=
  (by decide +kernel : ∀ t : Fin grid0.N, (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0))

/-- The block indices of the three projection windows: batch row block, head column block. -/
theorem moving : ∀ t : Fin cfg0.N, (win0_3.index t (0 : Fin 2) = t.val % 8 ∧ win0_3.index t (1 : Fin 2) = 32 + t.val / 8)
    ∧ (win0_4.index t (0 : Fin 2) = t.val % 8 ∧ win0_4.index t (1 : Fin 2) = 40 + t.val / 8)
    ∧ (win0_5.index t (0 : Fin 2) = t.val % 8 ∧ win0_5.index t (1 : Fin 2) = 48 + t.val / 8)
    ∧ ((grid0.coords t) 0).val = t.val / 8 :=
  (by decide +kernel : ∀ t : Fin grid0.N, (win0_3.index t (0 : Fin 2) = t.val % 8 ∧ win0_3.index t (1 : Fin 2) = 32 + t.val / 8)
    ∧ (win0_4.index t (0 : Fin 2) = t.val % 8 ∧ win0_4.index t (1 : Fin 2) = 40 + t.val / 8)
    ∧ (win0_5.index t (0 : Fin 2) = t.val % 8 ∧ win0_5.index t (1 : Fin 2) = 48 + t.val / 8)
    ∧ ((grid0.coords t) 0).val = t.val / 8)

theorem iblk0_eq (c : Dev nD) (t : Fin cfg0.N) : iblk m c 0 t = m ((c : Thread nD τ).loc main_arg1) := by
  rw [← V_main_arg1 m c]
  funext j
  show V m c main_arg1 (((cfg0.win 0).blk t).view.emb j) = V m c main_arg1 j
  refine congrArg _ (funext fun a => Fin.ext ?_)
  obtain ⟨⟨e0, e1⟩, -, -⟩ := still t
  match a with
  | ⟨0, _⟩ => show win0_0.index t (0 : Fin 2) * 32 + 1 * (j 0).val = (j 0).val; omega
  | ⟨1, _⟩ => show win0_0.index t (1 : Fin 2) * 8 + 1 * (j 1).val = (j 1).val; omega

theorem iblk1_eq (c : Dev nD) (t : Fin cfg0.N) : iblk m c 1 t = V m c main_v29 := by
  funext j
  show V m c main_v29 (((cfg0.win 1).blk t).view.emb j) = V m c main_v29 j
  refine congrArg _ (funext fun a => Fin.ext ?_)
  obtain ⟨-, ⟨e0, e1⟩, -⟩ := still t
  match a with
  | ⟨0, _⟩ => show win0_1.index t (0 : Fin 2) * 256 + 1 * (j 0).val = (j 0).val; omega
  | ⟨1, _⟩ => show win0_1.index t (1 : Fin 2) * 256 + 1 * (j 1).val = (j 1).val; omega

theorem iblk2_eq (c : Dev nD) (t : Fin cfg0.N) : iblk m c 2 t = V m c main_v51 := by
  funext j
  show V m c main_v51 (((cfg0.win 2).blk t).view.emb j) = V m c main_v51 j
  refine congrArg _ (funext fun a => Fin.ext ?_)
  obtain ⟨-, -, ⟨e0, e1⟩⟩ := still t
  match a with
  | ⟨0, _⟩ => show win0_2.index t (0 : Fin 2) * 256 + 1 * (j 0).val = (j 0).val; omega
  | ⟨1, _⟩ => show win0_2.index t (1 : Fin 2) * 256 + 1 * (j 1).val = (j 1).val; omega

/-- Rows of one batch and columns of one 128-wide block of the projection matrix. -/
def window (P : Vec F S16384x13312 .f32) (b w : ℕ) : Vec F S2048x128 .f32 := fun y =>
  P (ValueIdx.ix2 ⟨(2048 * b + (y 0).val) % 16384, Nat.mod_lt _ (by decide)⟩ ⟨(128 * w + (y 1).val) % 13312, Nat.mod_lt _ (by decide)⟩)

theorem iblk3_eq (c : Dev nD) (t : Fin cfg0.N) : iblk m c 3 t = window (V m c main_v3) (t.val % 8) (32 + t.val / 8) := by
  funext j
  show V m c main_v3 (((cfg0.win 3).blk t).view.emb j) = _
  obtain ⟨⟨e0, e1⟩, -, -, -⟩ := moving t
  have hj0 : (j 0).val < 2048 := (j 0).isLt
  have hj1 : (j 1).val < 128 := (j 1).isLt
  have ht : t.val < 64 := t.isLt
  refine congrArg _ (funext fun a => Fin.ext ?_)
  match a with
  | ⟨0, _⟩ => show win0_3.index t (0 : Fin 2) * 2048 + 1 * (j 0).val = (2048 * (t.val % 8) + (j 0).val) % 16384; omega
  | ⟨1, _⟩ => show win0_3.index t (1 : Fin 2) * 128 + 1 * (j 1).val = (128 * (32 + t.val / 8) + (j 1).val) % 13312; omega

theorem iblk4_eq (c : Dev nD) (t : Fin cfg0.N) : iblk m c 4 t = window (V m c main_v3) (t.val % 8) (40 + t.val / 8) := by
  funext j
  show V m c main_v3 (((cfg0.win 4).blk t).view.emb j) = _
  obtain ⟨-, ⟨e0, e1⟩, -, -⟩ := moving t
  have hj0 : (j 0).val < 2048 := (j 0).isLt
  have hj1 : (j 1).val < 128 := (j 1).isLt
  have ht : t.val < 64 := t.isLt
  refine congrArg _ (funext fun a => Fin.ext ?_)
  match a with
  | ⟨0, _⟩ => show win0_4.index t (0 : Fin 2) * 2048 + 1 * (j 0).val = (2048 * (t.val % 8) + (j 0).val) % 16384; omega
  | ⟨1, _⟩ => show win0_4.index t (1 : Fin 2) * 128 + 1 * (j 1).val = (128 * (40 + t.val / 8) + (j 1).val) % 13312; omega

theorem iblk5_eq (c : Dev nD) (t : Fin cfg0.N) : iblk m c 5 t = window (V m c main_v3) (t.val % 8) (48 + t.val / 8) := by
  funext j
  show V m c main_v3 (((cfg0.win 5).blk t).view.emb j) = _
  obtain ⟨-, -, ⟨e0, e1⟩, -⟩ := moving t
  have hj0 : (j 0).val < 2048 := (j 0).isLt
  have hj1 : (j 1).val < 128 := (j 1).isLt
  have ht : t.val < 64 := t.isLt
  refine congrArg _ (funext fun a => Fin.ext ?_)
  match a with
  | ⟨0, _⟩ => show win0_5.index t (0 : Fin 2) * 2048 + 1 * (j 0).val = (2048 * (t.val % 8) + (j 0).val) % 16384; omega
  | ⟨1, _⟩ => show win0_5.index t (1 : Fin 2) * 128 + 1 * (j 1).val = (128 * (48 + t.val / 8) + (j 1).val) % 13312; omega

/-- Column `h` of the bias table. -/
def tabCol (T : Vec F S32x8 .f32) (h kk : ℕ) : F .f32 :=
  T (ValueIdx.ix2 ⟨kk % 32, Nat.mod_lt _ (by decide)⟩ ⟨h % 8, Nat.mod_lt _ (by decide)⟩)

theorem biasCol_eq (T : Vec F S32x8 .f32) (t : Fin cfg0.N) : biasCol (grid0.coords t) T = tabCol T (t.val / 8) := by
  funext kk
  refine congrArg T (funext fun a => Fin.ext ?_)
  have h := (moving t).2.2.2
  have ht : t.val < 64 := t.isLt
  match a with
  | ⟨0, _⟩ => rfl
  | ⟨1, _⟩ => show ((grid0.coords t) 0).val = t.val / 8 % 8; omega

theorem farBias_eq (T : Vec F S32x8 .f32) (t : Fin cfg0.N) : farBias (grid0.coords t) T = k0_pay54 (tabCol T (t.val / 8) 31) := by
  rw [← biasCol_eq]
  rfl

/-- What one grid point, head `h` and batch `b`, leaves in its block of the result. -/
def headOut (c : Dev nD) (b h : ℕ) : Vec F S2048x128 .bf16 :=
  outAll (k0_pay54 (tabCol (m ((c : Thread nD τ).loc main_arg1)) h 31))
    (window (V m c main_v3) b (32 + h)) (window (V m c main_v3) b (40 + h)) (window (V m c main_v3) b (48 + h))
    (biasTile (V m c main_v29) (tabCol (m ((c : Thread nD τ).loc main_arg1)) h))
    (biasTile (V m c main_v51) (tabCol (m ((c : Thread nD τ).loc main_arg1)) h))

theorem second {α β γ : Type} {x : α × β × γ} {a : α} {b b' : β} {c : γ} (h : x = (a, b, c)) (hb : b = b') : x.2.1 = b' := by
  subst h
  exact hb

theorem third {α β γ : Type} {x : α × β × γ} {a : α} {b : β} {c c' : γ} (h : x = (a, b, c)) (hc : c = c') : x.2.2 = c' := by
  subst h
  exact hc

theorem triple {α β γ : Type} {a a' : α} {b b' : β} {c c' : γ} (ha : a = a') (hb : b = b') (hc : c = c') :
    (a, b, c) = (a', b', c') := by
  subst ha hb hc
  rfl

set_option maxHeartbeats 400000 in
/-- The state after grid point `n`: its block of the result, and its head's two bias tiles carried in scratch. -/
theorem state (c : Dev nD) : ∀ (n : ℕ) (hn : n < cfg0.N), outsAt0 m c n hn =
    (headOut m c (n % 8) (n / 8), biasTile (V m c main_v29) (tabCol (m ((c : Thread nD τ).loc main_arg1)) (n / 8)),
      biasTile (V m c main_v51) (tabCol (m ((c : Thread nD τ).loc main_arg1)) (n / 8))) := by
  intro n
  induction n with
  | zero =>
    intro hn
    refine (outsAt0_A m c ⟨0, hn⟩ rfl).trans ?_
    rw [out_A, own_A, prev_A, iblk0_eq, iblk1_eq, iblk2_eq, iblk3_eq, iblk4_eq, iblk5_eq, biasCol_eq, farBias_eq]
    rfl
  | succ n ih =>
    intro hn
    by_cases h0 : (n + 1) % 8 = 0
    · refine (outsAt0_A m c ⟨n + 1, hn⟩ h0).trans ?_
      rw [out_A, own_A, prev_A, iblk0_eq, iblk1_eq, iblk2_eq, iblk3_eq, iblk4_eq, iblk5_eq, biasCol_eq, farBias_eq]
      rfl
    · refine (outsAt0_B m c ⟨n + 1, hn⟩ h0).trans ?_
      have hd : n / 8 = (n + 1) / 8 := by omega
      have hp1 : (outsAt0 m c n (Nat.lt_of_succ_lt hn)).2.1
          = biasTile (V m c main_v29) (tabCol (m ((c : Thread nD τ).loc main_arg1)) ((n + 1) / 8)) := by
        exact second (ih (Nat.lt_of_succ_lt hn)) (congrArg (fun h => biasTile (V m c main_v29) (tabCol (m ((c : Thread nD τ).loc main_arg1)) h)) hd)
      have hp2 : (outsAt0 m c n (Nat.lt_of_succ_lt hn)).2.2
          = biasTile (V m c main_v51) (tabCol (m ((c : Thread nD τ).loc main_arg1)) ((n + 1) / 8)) := by
        exact third (ih (Nat.lt_of_succ_lt hn)) (congrArg (fun h => biasTile (V m c main_v51) (tabCol (m ((c : Thread nD τ).loc main_arg1)) h)) hd)
      refine triple ?_ ?_ ?_
      · refine (out_B (F := F) ..).trans ?_
        rw [iblk0_eq, iblk3_eq, iblk4_eq, iblk5_eq, farBias_eq]
        exact congrArg₂ (outAll _ _ _ _) hp1 hp2
      · exact hp1
      · exact hp2

/-- The result array of the run, index by index. -/
theorem G6_eq (c : Dev nD) (i : S16384x1024.Idx) : Value.G6 m c i =
    headOut m c ((i 0).val / 2048) ((i 1).val / 128)
      (ValueIdx.ix2 ⟨(i 0).val % 2048, Nat.mod_lt _ (by decide)⟩ ⟨(i 1).val % 128, Nat.mod_lt _ (by decide)⟩) := by
  have h0 : (i 0).val < 16384 := (i 0).isLt
  have h1 : (i 1).val < 1024 := (i 1).isLt
  have hp : Value.pt6Of i = (i 0).val / 2048 + 8 * ((i 1).val / 128) := by
    show 1 * ((i 0).val / 2048 - 0) + 8 * ((i 1).val / 128 - 0) = _
    omega
  have hlt : Value.pt6Of i < cfg0.N := by
    rw [hp]
    show _ < 64
    omega
  unfold Value.G6
  rw [dif_pos hlt, ← Value.outsAt0_sweep m c _ hlt, state m c _ hlt]
  have e1 : Value.pt6Of i % 8 = (i 0).val / 2048 := by omega
  have e2 : Value.pt6Of i / 8 = (i 1).val / 128 := by omega
  rw [e1, e2]
  refine congrArg _ (funext fun a => Fin.ext ?_)
  match a with
  | ⟨0, _⟩ => rfl
  | ⟨1, _⟩ => rfl

end Cert.KernelIdeal.Moba

end
-- ==== Proof.HostTile.lean ====
/- The bias tiles, and what one head reads: the hypotheses of the attention body. -/
module

public import proofs.«01_k».proof.Proof.HostVal
public import proofs.«01_k».proof.Proof.KerVal
public import proofs.«01_k».proof.Proof.Fold

@[expose] public section

set_option maxRecDepth 16384

noncomputable section

namespace Cert.KernelIdeal.Moba

open Cert.KernelIdeal Cert.KernelIdeal.Gen Idealize.ShloMosaic Idealize.ShloMosaic.TcCoe Idealize.SL.Sem

/-- A fold that keeps the entry whose number is `j`. -/
theorem fold_pick {α : Type} (f : ℕ → α) (z : α) (j : ℕ) : ∀ n, (upto n).foldl (fun a kk => if j = kk then f kk else a) z
    = if j < n then f j else z := by
  intro n
  induction n with
  | zero => simp [upto]
  | succ n ih =>
    rw [show upto (n + 1) = upto n ++ [n] from rfl, List.foldl_append, ih]
    simp only [List.foldl_cons, List.foldl_nil]
    by_cases h : j = n
    · subst h; simp
    · rw [if_neg h]
      by_cases h' : j < n
      · rw [if_pos h', if_pos (by omega)]
      · rw [if_neg h', if_neg (by omega)]

theorem fold_at (bk : Vec Ideal S256x256 .i32) (e : ℕ → EReal) (s : EReal) (j : ℕ) (hj : j < 32) (r c : Fin 256) (z : FVec Ideal S256x256 .f32)
    (h : bk (ix2 r c) = BitVec.ofNat 32 j) : ∀ l : List ℕ, (∀ kk ∈ l, kk < 32) →
    (l.foldl (fun acc kk => select (cmpi .eq (shapeCast S256x256 bk shapeCasts_S256x256_S256x256) (broadcast S256x256 (BitVec.ofNat 32 kk)))
      (broadcast S256x256 (Scalar.mulf (F := Ideal) (φ := .f32) (e kk) s)) acc) z) (ix2 r c)
    = l.foldl (fun a kk => if j = kk then e kk * s else a) (z (ix2 r c) : EReal) := by
  intro l
  induction l generalizing z with
  | nil => intro _; rfl
  | cons kk l ih =>
    intro hl
    rw [List.foldl_cons, List.foldl_cons, ih _ fun k hk => hl k (List.mem_cons_of_mem _ hk)]
    congr 1
    pointwise
    rw [h]
    have hk := hl kk List.mem_cons_self
    show Scalar.select (BitVec.ofBool (BitVec.ofNat 32 j == BitVec.ofNat 32 kk)) _ _ = _
    rw [word_inj _ _ (by omega) (by omega)]
    by_cases hjk : j = kk
    · subst hjk; simp [Scalar.select]
    · simp [Scalar.select, hjk]

theorem upto_lt (n : ℕ) : ∀ k ∈ upto n, k < n := by
  induction n with
  | zero => intro k hk; simp [upto] at hk
  | succ n ih =>
    intro k hk
    rw [show upto (n + 1) = upto n ++ [n] from rfl, List.mem_append, List.mem_singleton] at hk
    rcases hk with hk | hk
    · have := ih k hk; omega
    · omega

theorem shapeCast_at (x : FVec Ideal S256x256 .f32) (r c : Fin 256) :
    shapeCast S256x256 x shapeCasts_S256x256_S256x256 (ix2 r c) = x (ix2 r c) := by
  pointwise

theorem biasTile_at (bk : Vec Ideal S256x256 .i32) (e : ℕ → EReal) (j : ℕ) (hj : j < 32) (r c : Fin 256)
    (h : bk (ix2 r c) = BitVec.ofNat 32 j) :
    biasTile (F := Ideal) bk e (ix2 r c) = e j * ((Real.sqrt 128 : ℝ) : EReal) := by
  unfold biasTile
  rw [shapeCast_at, named_sqrt, fold_at bk e _ j hj r c _ h _ (upto_lt 32), fold_pick, if_pos hj]

theorem words_ahead (a b : ℕ) (h : b ≤ a) : IntOp.subi (BitVec.ofNat 32 a) (BitVec.ofNat 32 b) = BitVec.ofNat 32 (a - b) := by
  show BitVec.ofNat 32 a - BitVec.ofNat 32 b = _
  refine BitVec.eq_of_toNat_eq ?_
  rw [BitVec.toNat_sub, BitVec.toNat_ofNat, BitVec.toNat_ofNat, BitVec.toNat_ofNat]
  omega

theorem words_further (a b : ℕ) (h : b ≤ 256) :
    IntOp.addi (IntOp.subi (BitVec.ofNat 32 a) (BitVec.ofNat 32 b)) 256#32 = BitVec.ofNat 32 (256 + a - b) := by
  show BitVec.ofNat 32 a - BitVec.ofNat 32 b + BitVec.ofNat 32 256 = _
  refine BitVec.eq_of_toNat_eq ?_
  rw [BitVec.toNat_add, BitVec.toNat_sub, BitVec.toNat_ofNat, BitVec.toNat_ofNat, BitVec.toNat_ofNat, BitVec.toNat_ofNat]
  omega

variable (m : (ℓ : Loc nD τ sig) → Buf (Elt Ideal) ℓ) (c : Dev nD)

/-- The two arguments of the kernel. -/
abbrev argX : FVec Ideal S8x2048x13344 .f32 := m ((c.tc : Thread nD τ).loc main_arg0)
abbrev argT : FVec Ideal S32x8 .f32 := m ((c.tc : Thread nD τ).loc main_arg1)

theorem window_at (b h : Fin 8) (g : ℕ) (w : ℕ) (hw : w = 32 + 8 * g + h.val) (hg : g < 3) (r : Fin 2048) (d : Fin 128) :
    window (V m c main_v3 : FVec Ideal S16384x13312 .f32) b.val w (ix2 r d)
      = argX m c (ix3 b r ⟨1024 * g + (h.val * 128 + d.val), by omega⟩) := by
  subst hw
  have e := rows_entry m c ⟨2048 * b.val + r.val, by omega⟩ ⟨1024 * g + (h.val * 128 + d.val), by omega⟩
  have eb : (⟨(2048 * b.val + r.val) / 2048, by omega⟩ : Fin 8) = b := Fin.ext (by show (2048 * b.val + r.val) / 2048 = b.val; omega)
  have er : (⟨(2048 * b.val + r.val) % 2048, by omega⟩ : Fin 2048) = r := Fin.ext (by show (2048 * b.val + r.val) % 2048 = r.val; omega)
  rw [eb, er] at e
  refine Eq.trans ?_ e
  unfold window
  refine congrArg _ (funext fun a => Fin.ext ?_)
  fin_cases a
  · show (2048 * b.val + r.val) % 16384 = 2048 * b.val + r.val; omega
  · show (128 * (32 + 8 * g + h.val) + d.val) % 13312 = 4096 + (1024 * g + (h.val * 128 + d.val)); omega

/-- The value of one head where the arguments are numbers. -/
theorem headOut_at (b h : Fin 8) (Q K : ℕ → ℕ → ℝ) (tab : ℕ → ℝ)
    (hQ : ∀ (r : Fin 2048) (d : Fin 128), argX m c (ix3 b r ⟨h.val * 128 + d.val, by omega⟩) = ((Q r.val d.val : ℝ) : EReal))
    (hK : ∀ (r : Fin 2048) (d : Fin 128), argX m c (ix3 b r ⟨1024 + (h.val * 128 + d.val), by omega⟩) = ((K r.val d.val : ℝ) : EReal))
    (hT : ∀ j : Fin 32, argT m c (ix2 j h) = ((tab j.val : ℝ) : EReal)) (V : ℕ → EReal) (y : Fin 2048) (d : Fin 128)
    (hV : ∀ r : Fin 2048, argX m c (ix3 b r ⟨2048 + (h.val * 128 + d.val), by omega⟩) = V r.val) :
    headOut m c b.val h.val (ix2 y d) = Spec.out Q K tab V y.val := by
  have hcol : ∀ j : ℕ, j < 32 → (tabCol (F := Ideal) (argT m c) h.val j : EReal) = ((tab j : ℝ) : EReal) := by
    intro j hj
    rw [← hT ⟨j, hj⟩]
    unfold tabCol
    refine congrArg (argT m c) (funext fun a => Fin.ext ?_)
    fin_cases a
    · exact Nat.mod_eq_of_lt hj
    · exact Nat.mod_eq_of_lt h.isLt
  unfold headOut
  refine outAll_at ⟨fun r d => ?_, fun r d => ?_, fun r x hrx => ?_, fun r x => ?_⟩ _ _ ?_ y d V fun r => ?_
  · rw [window_at m c b h 0 _ (by omega) (by omega),
      show (⟨1024 * 0 + (h.val * 128 + d.val), by omega⟩ : Fin 13344) = ⟨h.val * 128 + d.val, by omega⟩ from
        Fin.ext (by show 1024 * 0 + (h.val * 128 + d.val) = h.val * 128 + d.val; omega)]
    exact hQ r d
  · rw [window_at m c b h 1 _ (by omega) (by omega)]
    exact hK r d
  · rw [biasTile_at _ _ (Bucket.index (x.val - r.val)) (Bucket.index_lt _ (by omega)) r x
      (by rw [own_entry, words_ahead _ _ hrx, Bucket.bucket_index]), EReal.coe_mul, ← hcol _ (Bucket.index_lt _ (by omega))]
  · rw [biasTile_at _ _ (Bucket.index (256 + x.val - r.val)) (Bucket.index_lt _ (by omega)) r x
      (by rw [before_entry, words_further _ _ (by omega), Bucket.bucket_index]), EReal.coe_mul, ← hcol _ (Bucket.index_lt _ (by omega))]
  · rw [EReal.coe_mul, ← hcol 31 (by decide), ← named_sqrt]
    rfl
  · rw [window_at m c b h 2 _ (by omega) (by omega)]
    exact hV r

end Cert.KernelIdeal.Moba

end
-- ==== Proof.RefStages.lean ====
/- The reference's value named step by step. -/
module

public import proofs.«01_k».proof.Proof.Gen.ReferenceIdeal.Run

@[expose] public section

set_option maxRecDepth 16384

noncomputable section

namespace Cert.ReferenceIdeal.Stages

open Cert.ReferenceIdeal Cert.ReferenceIdeal.Gen Idealize.ShloMosaic Idealize.ShloMosaic.TcCoe Idealize.SL.Sem

variable {F : FTy → Type} [FloatOps F]

/-- The queries, keys and values together. -/
def wide (X : FVec F S8x2048x13344 .f32) : FVec F S8x2048x3072 .f32 :=
  extractStridedSlice S8x2048x3072 ![0, 0, 0] X slices_S8x2048x13344_S8x2048x3072_0_0_0

/-- One of the three, head by head. -/
def heads (x : FVec F S8x2048x1024 .f32) : FVec F S8x8x2048x128 .f32 :=
  transpose S8x8x2048x128 [0, 2, 1, 3] (shapeCast S8x2048x8x128 x shapeCasts_S8x2048x1024_S8x2048x8x128)
    transposes_S8x2048x8x128_S8x8x2048x128_0_2_1_3

def queries (X : FVec F S8x2048x13344 .f32) : FVec F S8x8x2048x128 .f32 :=
  heads (extractStridedSlice S8x2048x1024 ![0, 0, 0] (wide X) slices_S8x2048x3072_S8x2048x1024_0_0_0)

def keys (X : FVec F S8x2048x13344 .f32) : FVec F S8x8x2048x128 .f32 :=
  heads (extractStridedSlice S8x2048x1024 ![0, 0, 1024] (wide X) slices_S8x2048x3072_S8x2048x1024_0_0_1024)

def values (X : FVec F S8x2048x13344 .f32) : FVec F S8x8x2048x128 .f32 :=
  heads (extractStridedSlice S8x2048x1024 ![0, 0, 2048] (wide X) slices_S8x2048x3072_S8x2048x1024_0_0_2048)

/-- The mean key of every block. -/
def meanKeys (k : FVec F S8x8x2048x128 .f32) : FVec F S8x8x8x128 .f32 :=
  Host.divf (Host.reduceAdd (shapeCast S8x8x8x256x128 k shapeCasts_S8x8x2048x128_S8x8x8x256x128) (constant S_ .f32 0x00000000#32)
    reducesTo_S8x8x8x256x128_S8x8x8x128_d3 h_S_) (broadcastInDim S8x8x8x128 ![] bcast_S_S8x8x8x128 (constant S_ .f32 0x43800000#32))

/-- The block of a position. -/
def block : IVec S2048 32 :=
  shapeCast S2048 (broadcastInDim S8x256 ![0, 1] bcast_S8x1_S8x256_0_1 (broadcastInDim S8x1 ![0] bcast_S8_S8x1_0 (iotaInDim S8 32 0)))
    shapeCasts_S8x256_S2048

def past : IVec S2048x8 1 :=
  cmpi .slt (broadcastInDim S2048x8 ![0, 1] bcast_S1x8_S2048x8_0_1 (broadcastInDim S1x8 ![1] bcast_S8_S1x8_1 (iotaInDim S8 32 0)))
    (broadcastInDim S2048x8 ![0, 1] bcast_S2048x1_S2048x8_0_1 (broadcastInDim S2048x1 ![0] bcast_S2048_S2048x1_0 block))

def routing (q : FVec F S8x8x2048x128 .f32) (km : FVec F S8x8x8x128 .f32) : FVec F S8x8x2048x8 .f32 :=
  select (broadcastInDim S8x8x2048x8 ![2, 3] bcast_S2048x8_S8x8x2048x8_2_3 past)
    (Host.dotGeneral dot_S8x8x2048x128_S8x8x8x128_S8x8x2048x8_3_3_2_2_01_01 none q km)
    (broadcastInDim S8x8x2048x8 ![] bcast_S_S8x8x2048x8 (id (constant S_ .f32 0xFF800000#32)))

def best (r : FVec F S8x8x2048x8 .f32) : IVec S8x8x2048x3 32 :=
  (Host.topK S8x8x2048x3 3 (FloatOps.cmpfTotal .gt) r sliceFits_S8x8x2048x8_S8x8x2048x3).2

def blockNumbers : IVec S8x8x2048x8 32 :=
  broadcastInDim S8x8x2048x8 ![0, 1, 2, 3] bcast_S1x1x1x8_S8x8x2048x8_0_1_2_3 (broadcastInDim S1x1x1x8 ![3] bcast_S8_S1x1x1x8_3 (iotaInDim S8 32 0))

def picked (s : IVec S8x8x2048x3 32) : IVec S8x8x2048x8 1 :=
  ori (ori (cmpi .eq (broadcastInDim S8x8x2048x8 ![0, 1, 2, 3] bcast_S8x8x2048x1_S8x8x2048x8_0_1_2_3
        (extractStridedSlice S8x8x2048x1 ![0, 0, 0, 0] s slices_S8x8x2048x3_S8x8x2048x1_0_0_0_0)) blockNumbers)
      (cmpi .eq (broadcastInDim S8x8x2048x8 ![0, 1, 2, 3] bcast_S8x8x2048x1_S8x8x2048x8_0_1_2_3
        (extractStridedSlice S8x8x2048x1 ![0, 0, 0, 1] s slices_S8x8x2048x3_S8x8x2048x1_0_0_0_1)) blockNumbers))
    (cmpi .eq (broadcastInDim S8x8x2048x8 ![0, 1, 2, 3] bcast_S8x8x2048x1_S8x8x2048x8_0_1_2_3
      (extractStridedSlice S8x8x2048x1 ![0, 0, 0, 2] s slices_S8x8x2048x3_S8x8x2048x1_0_0_0_2)) blockNumbers)

/-- Whether the block of a key is chosen by a query. -/
def chosenKeys (s : IVec S8x8x2048x3 32) : IVec S8x8x2048x2048 1 :=
  shapeCast S8x8x2048x2048 (broadcastInDim S8x8x2048x8x256 ![0, 1, 2, 3, 4] bcast_S8x8x2048x8x1_S8x8x2048x8x256_0_1_2_3_4
    (broadcastInDim S8x8x2048x8x1 ![0, 1, 2, 3] bcast_S8x8x2048x8_S8x8x2048x8x1_0_1_2_3
      (andi (picked s) (broadcastInDim S8x8x2048x8 ![0, 1, 2, 3] bcast_S1x1x2048x8_S8x8x2048x8_0_1_2_3
        (broadcastInDim S1x1x2048x8 ![2, 3] bcast_S2048x8_S1x1x2048x8_2_3 past))))) shapeCasts_S8x8x2048x8x256_S8x8x2048x2048

/-- A vector over the queries, and one over the keys, as squares. -/
def overQueries (x : IVec S2048 32) : IVec S2048x2048 32 :=
  broadcastInDim S2048x2048 ![0, 1] bcast_S2048x1_S2048x2048_0_1 (broadcastInDim S2048x1 ![0] bcast_S2048_S2048x1_0 x)

def overKeys (x : IVec S2048 32) : IVec S2048x2048 32 :=
  broadcastInDim S2048x2048 ![0, 1] bcast_S1x2048_S2048x2048_0_1 (broadcastInDim S1x2048 ![1] bcast_S2048_S1x2048_1 x)

def everywhere (w : BitVec 32) : IVec S2048x2048 32 := broadcastInDim S2048x2048 ![] bcast_S_S2048x2048 (constantI S_ 32 w)

def distances : IVec S2048x2048 32 := subi (overQueries (iotaInDim S2048 32 0)) (overKeys (iotaInDim S2048 32 0))

def own : IVec S2048x2048 1 := andi (cmpi .eq (overQueries block) (overKeys block)) (cmpi .sge distances (everywhere 0#32))

def clipped : IVec S2048x2048 32 := maxsi distances (everywhere 0#32)

def buckets : IVec S2048x2048 32 :=
  select (cmpi .slt clipped (everywhere 16#32)) clipped (minsi (addi (everywhere 16#32) (fptosi 32
    (mulf (Host.divf (Host.log (Host.divf (sitofp (F := F) .f32 (maxsi clipped (everywhere 1#32)))
      (broadcastInDim S2048x2048 ![] bcast_S_S2048x2048 (constant S_ .f32 0x41800000#32))))
      (broadcastInDim S2048x2048 ![] bcast_S_S2048x2048 (constant S_ .f32 0x40051592#32)))
      (broadcastInDim S2048x2048 ![] bcast_S_S2048x2048 (constant S_ .f32 0x41800000#32))))) (everywhere 31#32))

/-- The table's rows named by the buckets, laid out head by head. -/
def biases (T : FVec F S32x8 .f32) (bk : IVec S2048x2048 32) : FVec F S8x2048x2048 .f32 :=
  transpose S8x2048x2048 [2, 0, 1] (Host.gather gather_S32x8_S2048x2048x1_S2048x2048x8_2_0_n_n_0_2_18 T
    (broadcastInDim S2048x2048x1 ![0, 1] bcast_S2048x2048_S2048x2048x1_0_1
      (select (cmpi .slt bk (everywhere 0#32)) (addi bk (everywhere 32#32)) bk))) transposes_S2048x2048x8_S8x2048x2048_2_0_1

def logits (q k : FVec F S8x8x2048x128 .f32) (bias : FVec F S8x2048x2048 .f32) (ck : IVec S8x8x2048x2048 1) :
    FVec F S8x8x2048x2048 .f32 :=
  select (ori (broadcastInDim S8x8x2048x2048 ![0, 1, 2, 3] bcast_S1x1x2048x2048_S8x8x2048x2048_0_1_2_3
      (broadcastInDim S1x1x2048x2048 ![2, 3] bcast_S2048x2048_S1x1x2048x2048_2_3 own)) ck)
    (addf (Host.divf (Host.dotGeneral dot_S8x8x2048x128_S8x8x2048x128_S8x8x2048x2048_3_3_2_2_01_01 none q k)
        (broadcastInDim S8x8x2048x2048 ![] bcast_S_S8x8x2048x2048 (Host.sqrt (constant S_ .f32 0x43000000#32))))
      (broadcastInDim S8x8x2048x2048 ![0, 1, 2, 3] bcast_S1x8x2048x2048_S8x8x2048x2048_0_1_2_3
        (broadcastInDim S1x8x2048x2048 ![1, 2, 3] bcast_S8x2048x2048_S1x8x2048x2048_1_2_3 bias)))
    (broadcastInDim S8x8x2048x2048 ![] bcast_S_S8x8x2048x2048 (id (constant S_ .f32 0xFF800000#32)))

def along (x : FVec F S8x8x2048 .f32) : FVec F S8x8x2048x2048 .f32 :=
  broadcastInDim S8x8x2048x2048 ![0, 1, 2, 3] bcast_S8x8x2048x1_S8x8x2048x2048_0_1_2_3
    (broadcastInDim S8x8x2048x1 ![0, 1, 2] bcast_S8x8x2048_S8x8x2048x1_0_1_2 x)

def greatest (x : FVec F S8x8x2048x2048 .f32) : FVec F S8x8x2048 .f32 :=
  maximumf (broadcastInDim S8x8x2048 ![] bcast_S_S8x8x2048 (constant S_ .f32 0xFF800000#32))
    (Host.reduce FloatOps.maximumf x (constant S_ .f32 0xFF800000#32) reducesTo_S8x8x2048x2048_S8x8x2048_d3 h_S_)

def exponentials (x : FVec F S8x8x2048x2048 .f32) : FVec F S8x8x2048x2048 .f32 := Host.exp (subf x (along (greatest x)))

def mixed (e : FVec F S8x8x2048x2048 .f32) (v : FVec F S8x8x2048x128 .f32) : FVec F S16384x1024 .bf16 :=
  truncf .bf16 (shapeCast S16384x1024 (transpose S8x2048x8x128 [0, 2, 1, 3]
    (Host.dotGeneral dot_S8x8x2048x2048_S8x8x2048x128_S8x8x2048x128_3_2_2_3_01_01 none
      (Host.divf e (along (Host.reduceAdd e (constant S_ .f32 0x00000000#32) reducesTo_S8x8x2048x2048_S8x8x2048_d3 h_S_))) v)
    transposes_S8x8x2048x128_S8x2048x8x128_0_2_1_3) shapeCasts_S8x2048x8x128_S16384x1024) bitsLt_bf16_f32

/-- The reference's value from its two arguments. -/
def whole (X : FVec F S8x2048x13344 .f32) (T : FVec F S32x8 .f32) : FVec F S16384x1024 .bf16 :=
  mixed (exponentials (logits (queries X) (keys X) (biases T (buckets (F := F)))
    (chosenKeys (best (routing (queries X) (meanKeys (keys X))))))) (values X)

theorem result (m : (ℓ : Loc nD τ sig) → Buf (Elt F) ℓ) (c : Dev nD) :
    Value.res_out0 m c = whole (F := F) (m ((c.tc : Thread nD τ).loc main_arg0)) (m ((c.tc : Thread nD τ).loc main_arg1)) := by
  show Value.res_main_v115 m c = _
  unfold Value.res_main_v115
  rfl

end Cert.ReferenceIdeal.Stages

end
-- ==== Proof.RefVal.lean ====
/- The reference's steps read at an index. -/
module

public import proofs.«01_k».proof.Proof.RefStages
public import proofs.«01_k».proof.Proof.Consts
public import proofs.«01_k».proof.Proof.Bucket
public import Idealize.ShloMosaic.Lib.Pointwise

@[expose] public section

set_option maxRecDepth 16384

noncomputable section

namespace Cert.ReferenceIdeal.Stages

open Cert.ReferenceIdeal Cert.ReferenceIdeal.Gen Idealize.ShloMosaic Idealize.ShloMosaic.TcCoe Idealize.SL.Sem

variable (X : FVec Ideal S8x2048x13344 .f32) (T : FVec Ideal S32x8 .f32)

theorem queries_at (b h : Fin 8) (r : Fin 2048) (d : Fin 128) :
    queries X (ix4 b h r d) = X (ix3 b r ⟨h.val * 128 + d.val, by omega⟩) := by
  pointwise [queries, heads, wide]

theorem keys_at (b h : Fin 8) (r : Fin 2048) (d : Fin 128) :
    keys X (ix4 b h r d) = X (ix3 b r ⟨1024 + (h.val * 128 + d.val), by omega⟩) := by
  pointwise [keys, heads, wide]

theorem values_at (b h : Fin 8) (r : Fin 2048) (d : Fin 128) :
    values X (ix4 b h r d) = X (ix3 b r ⟨2048 + (h.val * 128 + d.val), by omega⟩) := by
  pointwise [values, heads, wide]

theorem meanKeys_at (k : FVec Ideal S8x8x2048x128 .f32) (b h n : Fin 8) (d : Fin 128) :
    meanKeys k (ix4 b h n d)
      = Ideal.div (∑ x : Fin 256, k (ix4 b h ⟨n.val * 256 + x.val, by omega⟩ d)) (Ideal.ofBits .f32 0x43800000#32) := by
  pointwise [meanKeys]

theorem block_at (r : Fin 2048) : block (ix1 r) = BitVec.ofNat 32 (r.val / 256) := by
  pointwise [block]

theorem past_at (r : Fin 2048) (n : Fin 8) :
    past (ix2 r n) = IntOp.cmpi .slt (BitVec.ofNat 32 n.val) (BitVec.ofNat 32 (r.val / 256)) := by
  unfold past
  pointwise
  rw [block_at]

theorem routing_at (q : FVec Ideal S8x8x2048x128 .f32) (km : FVec Ideal S8x8x8x128 .f32) (b h : Fin 8) (r : Fin 2048) (n : Fin 8) :
    routing q km (ix4 b h r n) = Scalar.select (past (ix2 r n)) (∑ x : Fin 128, q (ix4 b h r x) * km (ix4 b h n x)) (⊥ : EReal) := by
  unfold routing
  pointwise
  rw [show id (constant (F := Ideal) S_ FTy.f32 0xFF800000#32) ix0 = (⊥ : EReal) from Consts.cBot]

theorem picked_at (s : IVec S8x8x2048x3 32) (b h : Fin 8) (r : Fin 2048) (n : Fin 8) :
    picked s (ix4 b h r n) = IntOp.ori (IntOp.ori (IntOp.cmpi .eq (s (ix4 b h r 0)) (BitVec.ofNat 32 n.val))
        (IntOp.cmpi .eq (s (ix4 b h r 1)) (BitVec.ofNat 32 n.val))) (IntOp.cmpi .eq (s (ix4 b h r 2)) (BitVec.ofNat 32 n.val)) := by
  pointwise [picked, blockNumbers]

theorem chosenKeys_at (s : IVec S8x8x2048x3 32) (b h : Fin 8) (r c : Fin 2048) :
    chosenKeys s (ix4 b h r c) = IntOp.andi (picked s (ix4 b h r ⟨c.val / 256, by omega⟩)) (past (ix2 r ⟨c.val / 256, by omega⟩)) := by
  pointwise [chosenKeys]

theorem own_at (r c : Fin 2048) : own (ix2 r c)
    = IntOp.andi (IntOp.cmpi .eq (BitVec.ofNat 32 (r.val / 256)) (BitVec.ofNat 32 (c.val / 256)))
      (IntOp.cmpi .sge (IntOp.subi (BitVec.ofNat 32 r.val) (BitVec.ofNat 32 c.val)) 0#32) := by
  unfold own distances overQueries overKeys everywhere
  pointwise
  rw [block_at, block_at]

theorem buckets_at (r c : Fin 2048) :
    buckets (F := Ideal) (ix2 r c) = Bucket.bucket (IntOp.subi (BitVec.ofNat 32 r.val) (BitVec.ofNat 32 c.val)) := by
  unfold buckets clipped distances overQueries overKeys everywhere
  pointwise
  rfl

theorem logits_at (q k : FVec Ideal S8x8x2048x128 .f32) (bias : FVec Ideal S8x2048x2048 .f32) (ck : IVec S8x8x2048x2048 1)
    (b h : Fin 8) (r c : Fin 2048) :
    logits q k bias ck (ix4 b h r c) = Scalar.select (IntOp.ori (own (ix2 r c)) (ck (ix4 b h r c)))
      (Ideal.div (∑ x : Fin 128, q (ix4 b h r x) * k (ix4 b h c x)) (Ideal.sqrt (Ideal.ofBits .f32 0x43000000#32)) + bias (ix3 h r c)) (⊥ : EReal) := by
  unfold logits
  pointwise
  rw [show id (constant (F := Ideal) S_ FTy.f32 0xFF800000#32) ix0 = (⊥ : EReal) from Consts.cBot]

theorem exponentials_at (x : FVec Ideal S8x8x2048x2048 .f32) (b h : Fin 8) (r c : Fin 2048) :
    exponentials x (ix4 b h r c) = Ideal.exp (x (ix4 b h r c) - greatest x (ix3 b h r)) := by
  pointwise [exponentials, along]

theorem mixed_at (e : FVec Ideal S8x8x2048x2048 .f32) (v : FVec Ideal S8x8x2048x128 .f32) (r : Fin 16384) (c : Fin 1024)
    (b h : Fin 8) (y : Fin 2048) (d : Fin 128) (hb : r.val / 2048 = b.val) (hh : c.val / 128 = h.val) (hy : r.val % 2048 = y.val)
    (hd : c.val % 128 = d.val) :
    mixed e v (ix2 r c) = ∑ x : Fin 2048, Ideal.div (e (ix4 b h y x)) (∑ x' : Fin 2048, e (ix4 b h y x')) * v (ix4 b h x d) := by
  unfold mixed along
  pointwise
  simp only [hb, hh, hy, hd, Fin.eta]

theorem gather_at (idx : IVec S2048x2048x1 32) (r c : Fin 2048) (h : Fin 8) (j : Fin 32)
    (hj : idx (ix3 r c 0) = BitVec.ofNat 32 j.val) :
    Host.gather gather_S32x8_S2048x2048x1_S2048x2048x8_2_0_n_n_0_2_18 T idx (ix3 r c h) = T (ix2 j h) := by
  unfold Host.gather
  refine congrArg T (funext fun a => Fin.ext ?_)
  fin_cases a
  · show gather_S32x8_S2048x2048x1_S2048x2048x8_2_0_n_n_0_2_18.start (ix3 r c h) idx 0
      + gather_S32x8_S2048x2048x1_S2048x2048x8_2_0_n_n_0_2_18.batchCoord (ix3 r c h) 0
      + gather_S32x8_S2048x2048x1_S2048x2048x8_2_0_n_n_0_2_18.offCoord (ix3 r c h) 0 = j.val
    rw [GatherDims.batchCoord_eq_zero _ _ _ (by decide), GatherDims.offCoord_eq_zero _ _ _ (by decide)]
    unfold GatherDims.start
    rw [dif_pos (by decide)]
    have e : gather_S32x8_S2048x2048x1_S2048x2048x8_2_0_n_n_0_2_18.siIdx (ix3 r c h)
        ⟨gather_S32x8_S2048x2048x1_S2048x2048x8_2_0_n_n_0_2_18.startIndexMap.idxOf 0, by decide⟩ = ix3 r c 0 := by
      funext b
      refine Fin.ext ?_
      fin_cases b <;> rfl
    rw [e, hj, Bucket.word_toInt _ (by omega)]
    show min ((j.val : ℤ).toNat) 31 + 0 + 0 = j.val
    omega
  · show gather_S32x8_S2048x2048x1_S2048x2048x8_2_0_n_n_0_2_18.start (ix3 r c h) idx 1
      + gather_S32x8_S2048x2048x1_S2048x2048x8_2_0_n_n_0_2_18.batchCoord (ix3 r c h) 1
      + gather_S32x8_S2048x2048x1_S2048x2048x8_2_0_n_n_0_2_18.offCoord (ix3 r c h) 1 = h.val
    rw [GatherDims.batchCoord_eq_zero _ _ _ (by decide)]
    unfold GatherDims.start
    rw [dif_neg (by decide)]
    show 0 + 0 + h.val = h.val
    omega

theorem biases_at (bk : IVec S2048x2048 32) (h : Fin 8) (r c : Fin 2048) (j : Fin 32) (hj : bk (ix2 r c) = BitVec.ofNat 32 j.val) :
    biases T bk (ix3 h r c) = T (ix2 j h) := by
  have e : biases T bk (ix3 h r c) = Host.gather gather_S32x8_S2048x2048x1_S2048x2048x8_2_0_n_n_0_2_18 T
      (broadcastInDim S2048x2048x1 ![0, 1] bcast_S2048x2048_S2048x2048x1_0_1
        (select (cmpi .slt bk (everywhere 0#32)) (addi bk (everywhere 32#32)) bk)) (ix3 r c h) := by
    pointwise [biases]
  rw [e]
  refine gather_at T _ r c h j ?_
  unfold everywhere
  pointwise
  rw [hj]
  show Scalar.select (BitVec.ofBool ((BitVec.ofNat 32 j.val).slt 0#32)) _ _ = _
  rw [BitVec.slt_eq_decide, Bucket.word_toInt _ (by omega)]
  rw [show decide ((j.val : ℤ) < (0#32).toInt) = false from decide_eq_false (by show ¬ ((j.val : ℤ) < 0); omega)]
  rfl

end Cert.ReferenceIdeal.Stages

end
-- ==== Proof.RefTop.lean ====
/- The reference's greatest logit and its choice of blocks. -/
module

public import proofs.«01_k».proof.Proof.RefStages
public import proofs.«01_k».proof.Proof.Consts
public import Idealize.ShloMosaic.Lib.Pointwise

@[expose] public section

set_option maxRecDepth 16384

noncomputable section

namespace Cert.ReferenceIdeal.Stages

open Cert.ReferenceIdeal Cert.ReferenceIdeal.Gen Idealize.ShloMosaic Idealize.ShloMosaic.TcCoe Idealize.SL.Sem

/-- The greatest of extended reals is a number when none is infinite upwards and one is a number. -/
theorem reduce_real {s t u : Shape} {axes : List (Fin s.rank)} (x : FVec Ideal s .f32) (init : FVec Ideal u .f32)
    (h : s.ReducesTo axes t) (hu : 0 < u.numel) (j : t.Idx) (i : s.Idx) (hi : h.drop i = j)
    (h0 : init (Shape.Idx.first hu) = (⊥ : EReal)) (ht : ∀ i, x i ≠ (⊤ : EReal)) (hb : x i ≠ (⊥ : EReal)) :
    ∃ M : ℝ, Host.reduce (FloatOps.maximumf (F := Ideal) (φ := .f32)) x init h hu j = (M : EReal) := by
  classical
  have e : Host.reduce (FloatOps.maximumf (F := Ideal) (φ := .f32)) x init h hu j
      = Host.reduce (max : EReal → EReal → EReal) x init h hu j := rfl
  rw [e, Host.reduce_eq_fold, h0]
  generalize hG : ((Finset.univ.filter fun i => h.drop i = j).fold (max : EReal → EReal → EReal) ⊥ x) = G
  have h1 : G < ⊤ := by
    rw [← hG, Finset.fold_max_lt]
    exact ⟨bot_lt_top, fun i _ => lt_top_iff_ne_top.mpr (ht i)⟩
  have h2 : x i ≤ G := by
    rw [← hG, Finset.le_fold_max]
    exact Or.inr ⟨_, Finset.mem_filter.mpr ⟨Finset.mem_univ _, hi⟩, le_refl _⟩
  have h3 : G ≠ ⊥ := fun h => hb (le_bot_iff.mp (h ▸ h2))
  induction G with
  | bot => exact absurd rfl h3
  | top => exact absurd rfl h1.ne
  | coe M => exact ⟨M, rfl⟩

theorem drop_at (b h : Fin 8) (r c : Fin 2048) :
    reducesTo_S8x8x2048x2048_S8x8x2048_d3.drop (ix4 b h r c) = ix3 b h r := by
  funext a
  fin_cases a <;> rfl

theorem start_bot (j : S_.Idx) : constant (F := Ideal) S_ .f32 0xFF800000#32 j = (⊥ : EReal) := Consts.cBot

theorem spread_bot (j : S8x8x2048.Idx) :
    broadcastInDim S8x8x2048 ![] bcast_S_S8x8x2048 (constant (F := Ideal) S_ .f32 0xFF800000#32) j = (⊥ : EReal) := start_bot _

theorem coords (i : S8x8x2048x2048.Idx) : ∃ (b h : Fin 8) (r c : Fin 2048), i = ix4 b h r c := by
  refine ⟨i 0, i 1, i 2, i 3, funext fun a => ?_⟩
  fin_cases a <;> rfl

theorem greater_at {t : Shape} (x y : FVec Ideal t .f32) (j : t.Idx) (M : ℝ) (hx : x j = (⊥ : EReal)) (hy : y j = (M : EReal)) :
    maximumf x y j = (M : EReal) := by
  show max (x j : EReal) (y j) = _
  rw [hx, hy]
  exact max_eq_right bot_le

theorem greatest_real (x : FVec Ideal S8x8x2048x2048 .f32) (b h : Fin 8) (r c : Fin 2048)
    (ht : ∀ i, x i ≠ (⊤ : EReal)) (hb : x (ix4 b h r c) ≠ (⊥ : EReal)) :
    ∃ M : ℝ, greatest x (ix3 b h r) = (M : EReal) := by
  obtain ⟨M, hM⟩ := reduce_real x (constant (F := Ideal) S_ .f32 0xFF800000#32) reducesTo_S8x8x2048x2048_S8x8x2048_d3 h_S_
    (ix3 b h r) (ix4 b h r c) (drop_at b h r c) (start_bot _) ht hb
  refine ⟨M, ?_⟩
  unfold greatest
  exact greater_at _ _ _ M (spread_bot _) hM

theorem first_three (G : S8x8x2048x8.Idx → BitVec 32) (b h : Fin 8) (c : Fin 2048) (s : Fin 3) :
    extractStridedSlice S8x8x2048x3 (fun _ => 0) G sliceFits_S8x8x2048x8_S8x8x2048x3 (ix4 b h c s) = G (ix4 b h c ⟨s.val, by omega⟩) := by
  unfold extractStridedSlice
  refine congrArg G (funext fun a => Fin.ext ?_)
  fin_cases a
  · show 0 + b.val = b.val; omega
  · show 0 + h.val = h.val; omega
  · show 0 + c.val = c.val; omega
  · show 0 + s.val = s.val; omega

theorem along_last (b h : Fin 8) (c : Fin 2048) (s k : Fin 8) :
    Shape.Idx.along (ix4 b h c s : S8x8x2048x8.Idx) 3 k = ix4 b h c k := by
  funext a
  fin_cases a <;> rfl

/-- The place an index takes after sorting along the last axis. -/
def placed (r : FVec Ideal S8x8x2048x8 .f32) (j : S8x8x2048x8.Idx) : Fin 8 :=
  sortedFrom (fun k k' : Fin 8 => FloatOps.cmpfTotal (F := Ideal) .gt (r (Shape.Idx.along j 3 k)) (r (Shape.Idx.along j 3 k')) == 1#1) (j 3)

theorem placed_at (r : FVec Ideal S8x8x2048x8 .f32) (b h : Fin 8) (c : Fin 2048) (s : Fin 8) :
    placed r (ix4 b h c s) = sortedFrom (fun p q : Fin 8 => Ideal.cmp .ogt (r (ix4 b h c p)) (r (ix4 b h c q)) == 1#1) s := by
  unfold placed
  simp only [along_last]
  rfl

theorem best_of (r : FVec Ideal S8x8x2048x8 .f32) : best r = extractStridedSlice S8x8x2048x3 (fun _ => 0)
    (fun j => BitVec.ofNat 32 (Shape.Idx.along j 3 (placed r j) 3).val) sliceFits_S8x8x2048x8_S8x8x2048x3 := by
  unfold best Host.topK Host.sort2
  simp only [show (3 : ℕ) < S8x8x2048x8.rank from by decide, dite_true]
  rfl

theorem best_at (r : FVec Ideal S8x8x2048x8 .f32) (b h : Fin 8) (c : Fin 2048) (s : Fin 3) :
    best r (ix4 b h c s) = BitVec.ofNat 32 (sortedFrom (fun p q : Fin 8 => Ideal.cmp .ogt (r (ix4 b h c p)) (r (ix4 b h c q)) == 1#1) ⟨s.val, by omega⟩).val := by
  rw [best_of, first_three, along_last, placed_at]
  rfl

end Cert.ReferenceIdeal.Stages

end
-- ==== Proof.RefOut.lean ====
/- The reference's value at an index: the attention of one query in one lane. -/
module

public import proofs.«01_k».proof.Proof.RefVal
public import proofs.«01_k».proof.Proof.RefTop
public import proofs.«01_k».proof.Proof.Spec
public import proofs.«01_k».proof.Proof.Rank

@[expose] public section

set_option maxRecDepth 16384

noncomputable section

namespace Cert.ReferenceIdeal.Stages

open Cert.ReferenceIdeal Cert.ReferenceIdeal.Gen Idealize.ShloMosaic Idealize.ShloMosaic.TcCoe Idealize.SL.Sem

theorem select_bit {α : Type} (p : Bool) (a b : α) : Scalar.select (BitVec.ofBool p) a b = if p then a else b := by
  cases p <;> rfl

theorem words_eq (a b : ℕ) (ha : a < 2048) (hb : b < 2048) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_eq]
  refine ⟨fun h => ?_, fun h => by rw [h]⟩
  have := congrArg BitVec.toNat h
  rw [BitVec.toNat_ofNat, BitVec.toNat_ofNat] at this
  omega

theorem words_lt (a b : ℕ) (ha : a < 2048) (hb : b < 2048) :
    IntOp.cmpi .slt (BitVec.ofNat 32 a) (BitVec.ofNat 32 b) = BitVec.ofBool (decide (a < b)) := by
  show BitVec.ofBool ((BitVec.ofNat 32 a).slt (BitVec.ofNat 32 b)) = _
  rw [BitVec.slt_eq_decide, Bucket.word_toInt a ha, Bucket.word_toInt b hb]
  simp

theorem words_sub (a b : ℕ) (h : b ≤ a) : IntOp.subi (BitVec.ofNat 32 a) (BitVec.ofNat 32 b) = BitVec.ofNat 32 (a - b) := by
  show BitVec.ofNat 32 a - BitVec.ofNat 32 b = _
  refine BitVec.eq_of_toNat_eq ?_
  rw [BitVec.toNat_sub, BitVec.toNat_ofNat, BitVec.toNat_ofNat, BitVec.toNat_ofNat]
  omega

theorem words_after (a b : ℕ) (ha : a < 2048) (hb : b < 2048) :
    IntOp.cmpi .sge (IntOp.subi (BitVec.ofNat 32 a) (BitVec.ofNat 32 b)) 0#32 = BitVec.ofBool (decide (b ≤ a)) := by
  show BitVec.ofBool ((0#32).sle (BitVec.ofNat 32 a - BitVec.ofNat 32 b)) = _
  rw [BitVec.sle_eq_decide, BitVec.toInt_sub, Bucket.word_toInt a ha, Bucket.word_toInt b hb, Int.bmod_eq_of_le (by omega) (by omega)]
  congr 1
  simp

theorem and_bits (p q : Bool) : IntOp.andi (BitVec.ofBool p) (BitVec.ofBool q) = BitVec.ofBool (p && q) := by
  cases p <;> cases q <;> rfl

theorem or_bits (p q : Bool) : IntOp.ori (BitVec.ofBool p) (BitVec.ofBool q) = BitVec.ofBool (p || q) := by
  cases p <;> cases q <;> rfl

theorem own_bit (r c : Fin 2048) : own (ix2 r c) = BitVec.ofBool (decide (r.val / 256 = c.val / 256) && decide (c.val ≤ r.val)) := by
  rw [own_at, words_eq _ _ (by omega) (by omega), words_after _ _ r.isLt c.isLt, and_bits]

theorem past_bit (r : Fin 2048) (n : Fin 8) : past (ix2 r n) = BitVec.ofBool (decide (n.val < r.val / 256)) := by
  rw [past_at, words_lt _ _ (by omega) (by omega)]

/-- A block is picked exactly when it is among the first three of the order. -/
theorem picked_bit (rt : FVec Ideal S8x8x2048x8 .f32) (b h : Fin 8) (r : Fin 2048) (n : Fin 8) :
    picked (best rt) (ix4 b h r n)
      = BitVec.ofBool (decide ((Finset.univ.filter fun m => Rank.ahead (fun p : Fin 8 => (rt (ix4 b h r p) : EReal)) m n = true).card < 3)) := by
  rw [picked_at, best_at, best_at, best_at, words_eq _ _ (by omega) (by omega), words_eq _ _ (by omega) (by omega),
    words_eq _ _ (by omega) (by omega), or_bits, or_bits]
  congr 1
  rw [Bool.eq_iff_iff, decide_eq_true_eq, ← Rank.among_first]
  simp only [Bool.or_eq_true, decide_eq_true_eq]
  constructor
  · rintro ((h | h) | h)
    · exact ⟨0, by decide, Fin.ext h⟩
    · exact ⟨1, by decide, Fin.ext h⟩
    · exact ⟨2, by decide, Fin.ext h⟩
  · rintro ⟨s, hs, e⟩
    obtain h | h | h : s = 0 ∨ s = 1 ∨ s = 2 := by
      rcases s with ⟨s, hs'⟩
      simp only at hs
      interval_cases s
      · exact Or.inl rfl
      · exact Or.inr (Or.inl rfl)
      · exact Or.inr (Or.inr rfl)
    · subst h; exact Or.inl (Or.inl (congrArg Fin.val e))
    · subst h; exact Or.inl (Or.inr (congrArg Fin.val e))
    · subst h; exact Or.inr (congrArg Fin.val e)

/-- The arguments' real values in one batch entry and head. -/
structure Lane (q k : FVec Ideal S8x8x2048x128 .f32) (T : FVec Ideal S32x8 .f32) (b h : Fin 8) (Q K : ℕ → ℕ → ℝ) (tab : ℕ → ℝ) : Prop where
  queries : ∀ (r : Fin 2048) (d : Fin 128), q (ix4 b h r d) = ((Q r.val d.val : ℝ) : EReal)
  keys : ∀ (r : Fin 2048) (d : Fin 128), k (ix4 b h r d) = ((K r.val d.val : ℝ) : EReal)
  table : ∀ j : Fin 32, T (ix2 j h) = ((tab j.val : ℝ) : EReal)

variable {q k : FVec Ideal S8x8x2048x128 .f32} {T : FVec Ideal S32x8 .f32} {b h : Fin 8} {Q K : ℕ → ℕ → ℝ} {tab : ℕ → ℝ}

theorem Lane.meanKeys (L : Lane q k T b h Q K tab) (n : Fin 8) (d : Fin 128) :
    Stages.meanKeys k (ix4 b h n d) = ((Spec.kmean K n.val d.val : ℝ) : EReal) := by
  rw [meanKeys_at, Finset.sum_congr rfl fun x _ => L.keys ⟨n.val * 256 + x.val, by omega⟩ d, Consts.c256,
    Ideal.div_coe (by norm_num), ← Softmax.coe_sum, ← EReal.coe_mul]
  unfold Spec.kmean
  simp only [mul_comm n.val 256]

theorem Lane.routing (L : Lane q k T b h Q K tab) (r : Fin 2048) (n : Fin 8) :
    Stages.routing q (Stages.meanKeys k) (ix4 b h r n) = if n.val < r.val / 256 then ((Spec.route Q K r.val n.val : ℝ) : EReal) else (⊥ : EReal) := by
  rw [routing_at, past_bit, select_bit]
  simp only [decide_eq_true_eq]
  split
  · rw [Finset.sum_congr rfl fun x _ => by rw [L.queries r x, L.meanKeys n x, ← EReal.coe_mul, mul_comm], ← Softmax.coe_sum]
    rfl
  · rfl

theorem Lane.chosen (L : Lane q k T b h Q K tab) (r c : Fin 2048) :
    chosenKeys (best (Stages.routing q (Stages.meanKeys k))) (ix4 b h r c)
      = BitVec.ofBool (decide (c.val / 256 < r.val / 256 ∧ Spec.rankAt Q K (r.val / 256) r.val (c.val / 256) < 3)) := by
  rw [chosenKeys_at, picked_bit, past_bit, and_bits]
  congr 1
  by_cases hp : c.val / 256 < r.val / 256
  · rw [Rank.ahead_below (fun p : Fin 8 => (Stages.routing q (Stages.meanKeys k) (ix4 b h r p) : EReal)) (r.val / 256) (by omega)
      (fun a ha => by rw [L.routing, if_neg (by omega)]) ⟨c.val / 256, by omega⟩ hp
      (by rw [L.routing, if_pos hp]; exact EReal.coe_ne_bot _)
      (fun n => if n < r.val / 256 then ((Spec.route Q K r.val n : ℝ) : EReal) else (⊥ : EReal)) (fun a => (L.routing r a).symm)]
    have e : ∀ n ∈ Finset.range (r.val / 256), (if n ≠ c.val / 256 ∧ (if n < c.val / 256 then
        (if c.val / 256 < r.val / 256 then ((Spec.route Q K r.val (c.val / 256) : ℝ) : EReal) else (⊥ : EReal))
          ≤ (if n < r.val / 256 then ((Spec.route Q K r.val n : ℝ) : EReal) else (⊥ : EReal))
        else (if c.val / 256 < r.val / 256 then ((Spec.route Q K r.val (c.val / 256) : ℝ) : EReal) else (⊥ : EReal))
          < (if n < r.val / 256 then ((Spec.route Q K r.val n : ℝ) : EReal) else (⊥ : EReal))) then 1 else 0)
        = if n ≠ c.val / 256 ∧ (if n < c.val / 256 then Spec.route Q K r.val (c.val / 256) ≤ Spec.route Q K r.val n
            else Spec.route Q K r.val (c.val / 256) < Spec.route Q K r.val n) then 1 else 0 := by
      intro n hn
      simp only [if_pos hp, if_pos (Finset.mem_range.mp hn), EReal.coe_le_coe_iff, EReal.coe_lt_coe_iff]
    rw [Finset.sum_congr rfl e]
    simp only [hp, true_and, decide_true, Bool.and_true]
    rfl
  · simp [hp]

theorem sqrt_value : Ideal.sqrt (Ideal.ofBits .f32 0x43000000#32) = ((Real.sqrt 128 : ℝ) : EReal) := by
  rw [Consts.c128, Ideal.sqrt_coe, if_neg (by norm_num)]

theorem Lane.logits (L : Lane q k T b h Q K tab) (r c : Fin 2048) :
    logits q k (biases T (buckets (F := Ideal))) (chosenKeys (best (Stages.routing q (Stages.meanKeys k)))) (ix4 b h r c)
      = Spec.logit Q K tab r.val c.val := by
  classical
  rw [logits_at, own_bit, L.chosen, or_bits, select_bit]
  unfold Spec.logit
  by_cases hs : Spec.sees Q K r.val c.val
  · have hc : c.val ≤ r.val := by
      rcases hs with h | h
      · exact h.2
      · have := h.1; omega
    rw [if_pos hs, if_pos]
    · rw [biases_at T _ h r c ⟨Bucket.index (r.val - c.val), Bucket.index_lt _ (by omega)⟩
        (by rw [buckets_at, words_sub _ _ hc, Bucket.bucket_index]), L.table,
        Finset.sum_congr rfl fun x _ => by rw [L.queries r x, L.keys c x, ← EReal.coe_mul, mul_comm],
        ← Softmax.coe_sum, sqrt_value, Ideal.div_coe (Real.sqrt_pos.mpr (by norm_num)).ne', ← EReal.coe_mul, ← EReal.coe_add]
      unfold Spec.raw Spec.scale
      rw [one_div]
    · rcases hs with h | h
      · simp [h.1, h.2]
      · simp [h.1, h.2]
  · rw [if_neg hs, if_neg]
    intro h'
    apply hs
    simp only [Bool.or_eq_true, Bool.and_eq_true, decide_eq_true_eq] at h'
    rcases h' with h' | h'
    · exact Or.inl ⟨h'.1.symm, h'.2⟩
    · exact Or.inr h'

/-- The reference's value at an index, where every batch entry and head of the arguments holds numbers. -/
theorem mixed_value (X : FVec Ideal S8x2048x13344 .f32) (T : FVec Ideal S32x8 .f32) (Q K : Fin 8 → Fin 8 → ℕ → ℕ → ℝ) (tab : Fin 8 → ℕ → ℝ)
    (L : ∀ b h, Lane (Stages.queries X) (Stages.keys X) T b h (Q b h) (K b h) (tab h)) (V : ℕ → EReal)
    (b h : Fin 8) (y : Fin 2048) (d : Fin 128) (hV : ∀ r : Fin 2048, values X (ix4 b h r d) = V r.val)
    (r : Fin 16384) (c : Fin 1024) (hb : r.val / 2048 = b.val) (hh : c.val / 128 = h.val) (hy : r.val % 2048 = y.val)
    (hd : c.val % 128 = d.val) :
    whole X T (ix2 r c) = Spec.out (Q b h) (K b h) (tab h) V y.val := by
  unfold whole
  rw [mixed_at _ _ r c b h y d hb hh hy hd]
  have hlog := fun b h r c => (L b h).logits r c
  generalize logits (Stages.queries X) (Stages.keys X) (biases T (buckets (F := Ideal)))
    (chosenKeys (best (Stages.routing (Stages.queries X) (Stages.meanKeys (Stages.keys X))))) = x at hlog ⊢
  have htop : ∀ i, x i ≠ (⊤ : EReal) := fun i => by
    obtain ⟨b, h, r, c, e⟩ := coords i
    rw [e, hlog]
    exact Spec.logit_ne_top _ _ _ _ _
  have hself : x (ix4 b h y y) ≠ (⊥ : EReal) := by
    rw [hlog]
    unfold Spec.logit
    rw [if_pos (Spec.sees_self _ _ _)]
    exact EReal.coe_ne_bot _
  obtain ⟨M, hM⟩ := greatest_real x b h y y htop hself
  have he : ∀ x' : Fin 2048, exponentials x (ix4 b h y x')
      = ((Real.exp (-M) * Softmax.wt (Spec.logit (Q b h) (K b h) (tab h) y.val x'.val) : ℝ) : EReal) := fun x' => by
    rw [exponentials_at, hM, Softmax.exp_shifted _ (htop _), hlog]
  rw [Finset.sum_congr rfl fun x' _ => by rw [Finset.sum_congr rfl fun x'' _ => he x'', he x', hV x']]
  exact Softmax.mean_of_shares (fun x' : Fin 2048 => Softmax.wt (Spec.logit (Q b h) (K b h) (tab h) y.val x'.val)) _ _ (Real.exp_pos _)
    (Spec.total_pos _ _ _ _ y.isLt)

end Cert.ReferenceIdeal.Stages

end
-- ==== Proof.Whole.lean ====
/- The kernel's value and the reference's are equal where the precondition holds. -/
module

public import proofs.«01_k».proof.Proof.HostTile
public import proofs.«01_k».proof.Proof.RefOut
public import proofs.«01_k».proof.Proof.Gen.Pre_scores_finite

@[expose] public section

set_option maxRecDepth 16384

noncomputable section

namespace Cert.Whole

open Idealize.ShloMosaic Idealize.ShloMosaic.TcCoe Idealize.SL.Sem

/-- A number below the infinity in magnitude is a number. -/
theorem real_of_bit (x : EReal) (h : FloatOps.cmpf (F := Ideal) (φ := .f32) .olt (FloatOps.absf x) (Ideal.ofBits .f32 0x7F800000#32) = 1#1) :
    x = ((x.toReal : ℝ) : EReal) := by
  rw [Consts.cTop] at h
  induction x with
  | bot => exact absurd h (by simp [FloatOps.cmpf, FloatOps.absf, Ideal.cmp])
  | top => exact absurd h (by simp [FloatOps.cmpf, FloatOps.absf, Ideal.cmp])
  | coe r => rw [EReal.toReal_coe]

open Cert.Pre_scores_finite Cert.Pre_scores_finite.Gen in
/-- What the precondition says of the two arguments. -/
theorem finite_args (X : FVec Ideal S8x2048x13344 .f32) (T : FVec Ideal S32x8 .f32)
    (h1 : (Cert.Pre_scores_finite.fn (F := Ideal) X T).1 = fun _ => 1#1) (h2 : (Cert.Pre_scores_finite.fn (F := Ideal) X T).2 = fun _ => 1#1) :
    (∀ (b : Fin 8) (r y : Fin 2048), X (ix3 b r ⟨y.val, by omega⟩) = (((X (ix3 b r ⟨y.val, by omega⟩) : EReal).toReal : ℝ) : EReal))
      ∧ ∀ (j : Fin 32) (h : Fin 8), T (ix2 j h) = (((T (ix2 j h) : EReal).toReal : ℝ) : EReal) := by
  constructor
  · intro b r y
    have h := congrFun h1 (ix3 b r y)
    refine real_of_bit _ (Eq.trans (Eq.symm ?_) h)
    unfold Cert.Pre_scores_finite.fn
    pointwise
  · intro j k
    have h := congrFun h2 (ix2 j k)
    refine real_of_bit _ (Eq.trans (Eq.symm ?_) h)
    unfold Cert.Pre_scores_finite.fn
    pointwise

/-- The two programs' values at an index. -/
theorem values_eq (m : (ℓ : Loc Cert.KernelIdeal.nD Cert.KernelIdeal.τ Cert.KernelIdeal.sig) → Buf (Elt Ideal) ℓ) (c : Dev Cert.KernelIdeal.nD)
    (h1 : (Cert.Pre_scores_finite.fn (F := Ideal) (Cert.KernelIdeal.Moba.argX m c) (Cert.KernelIdeal.Moba.argT m c)).1 = fun _ => 1#1)
    (h2 : (Cert.Pre_scores_finite.fn (F := Ideal) (Cert.KernelIdeal.Moba.argX m c) (Cert.KernelIdeal.Moba.argT m c)).2 = fun _ => 1#1)
    (r : Fin 16384) (y : Fin 1024) :
    Cert.KernelIdeal.Value.G6 m c (ix2 r y)
      = Cert.ReferenceIdeal.Stages.whole (F := Ideal) (Cert.KernelIdeal.Moba.argX m c) (Cert.KernelIdeal.Moba.argT m c) (ix2 r y) := by
  obtain ⟨hX, hT⟩ := finite_args _ _ h1 h2
  generalize hXe : Cert.KernelIdeal.Moba.argX m c = X at hX ⊢
  generalize hTe : Cert.KernelIdeal.Moba.argT m c = T at hT ⊢
  obtain ⟨b, hb⟩ : ∃ b : Fin 8, r.val / 2048 = b.val := ⟨⟨r.val / 2048, by omega⟩, rfl⟩
  obtain ⟨h, hh⟩ : ∃ h : Fin 8, y.val / 128 = h.val := ⟨⟨y.val / 128, by omega⟩, rfl⟩
  obtain ⟨q, hq⟩ : ∃ q : Fin 2048, r.val % 2048 = q.val := ⟨⟨r.val % 2048, by omega⟩, rfl⟩
  obtain ⟨d, hd⟩ : ∃ d : Fin 128, y.val % 128 = d.val := ⟨⟨y.val % 128, by omega⟩, rfl⟩
  let Q : Fin 8 → Fin 8 → ℕ → ℕ → ℝ := fun b h r d =>
    (X (ix3 b ⟨r % 2048, by omega⟩ ⟨(h.val * 128 + d) % 13344, by omega⟩) : EReal).toReal
  let K : Fin 8 → Fin 8 → ℕ → ℕ → ℝ := fun b h r d =>
    (X (ix3 b ⟨r % 2048, by omega⟩ ⟨(1024 + (h.val * 128 + d)) % 13344, by omega⟩) : EReal).toReal
  let tab : Fin 8 → ℕ → ℝ := fun h j => (T (ix2 ⟨j % 32, by omega⟩ h) : EReal).toReal
  let W : ℕ → EReal := fun r => X (ix3 b ⟨r % 2048, by omega⟩ ⟨2048 + (h.val * 128 + d.val), by omega⟩)
  have hQ : ∀ (b h : Fin 8) (r : Fin 2048) (d : Fin 128), X (ix3 b r ⟨h.val * 128 + d.val, by omega⟩) = ((Q b h r.val d.val : ℝ) : EReal) := by
    intro b h r d
    rw [hX b r ⟨h.val * 128 + d.val, by omega⟩]
    simp only [Q, Nat.mod_eq_of_lt r.isLt, Nat.mod_eq_of_lt (show h.val * 128 + d.val < 13344 by omega)]
  have hK : ∀ (b h : Fin 8) (r : Fin 2048) (d : Fin 128), X (ix3 b r ⟨1024 + (h.val * 128 + d.val), by omega⟩) = ((K b h r.val d.val : ℝ) : EReal) := by
    intro b h r d
    rw [hX b r ⟨1024 + (h.val * 128 + d.val), by omega⟩]
    simp only [K, Nat.mod_eq_of_lt r.isLt, Nat.mod_eq_of_lt (show 1024 + (h.val * 128 + d.val) < 13344 by omega)]
  have hTab : ∀ (h : Fin 8) (j : Fin 32), T (ix2 j h) = ((tab h j.val : ℝ) : EReal) := by
    intro h j
    rw [hT j h]
    simp only [tab, Nat.mod_eq_of_lt j.isLt]
  have hW : ∀ r : Fin 2048, X (ix3 b r ⟨2048 + (h.val * 128 + d.val), by omega⟩) = W r.val := by
    intro r
    simp only [W, Nat.mod_eq_of_lt r.isLt]
  rw [Cert.ReferenceIdeal.Stages.mixed_value X T Q K tab
    (fun b h => ⟨fun r d => (Cert.ReferenceIdeal.Stages.queries_at X b h r d).trans (hQ b h r d),
      fun r d => (Cert.ReferenceIdeal.Stages.keys_at X b h r d).trans (hK b h r d), hTab h⟩) W b h q d
    (fun r => (Cert.ReferenceIdeal.Stages.values_at X b h r d).trans (hW r)) r y hb hh hq hd]
  rw [Cert.KernelIdeal.Moba.G6_eq]
  subst hXe hTe
  refine Eq.trans ?_ (Cert.KernelIdeal.Moba.headOut_at m c b h (Q b h) (K b h) (tab h) (hQ b h) (hK b h) (hTab h) W q d hW)
  show Cert.KernelIdeal.Moba.headOut m c (r.val / 2048) (y.val / 128) (ix2 (⟨r.val % 2048, _⟩ : Fin 2048) (⟨y.val % 128, _⟩ : Fin 128)) = _
  simp only [hb, hh, hq, hd, Fin.eta]

end Cert.Whole

end
-- ==== Proof.FfnSpec.lean ====
/- The feed-forward's arithmetic on one row: the gated product, and the layer normalisation. -/
module

public import proofs.«01_k».proof.Proof.Consts

@[expose] public section

noncomputable section

namespace Cert.Ffn

open Idealize.ShloMosaic

/-- The gated product as the kernel writes it, from half the gate. -/
def gated (g u : EReal) : EReal :=
  (Ideal.ofBits .f32 0x3F000000#32 * g
    + Ideal.ofBits .f32 0x3F000000#32 * g * Ideal.tanh (Ideal.ofBits .f32 0x3F000000#32 * g)) * u

/-- The gated product as the reference writes it. -/
def swiglu (g u : EReal) : EReal :=
  g * Ideal.div (Ideal.ofBits .f32 0x3F800000#32) (Ideal.ofBits .f32 0x3F800000#32 + Ideal.exp (-g)) * u

def mean (f : Fin 2048 → EReal) : EReal := Ideal.div (∑ d : Fin 2048, f d) (Ideal.ofBits .f32 0x45000000#32)

/-- Entry `y` of the layer normalisation of the row `f`, with its gain and bias. -/
def norm (f : Fin 2048 → EReal) (y : Fin 2048) (g b : EReal) : EReal :=
  (f y - mean f) * Ideal.rsqrt (mean (fun d => (f d - mean f) * (f d - mean f)) + Ideal.ofBits .f32 0x3727C5AC#32) * g + b

theorem cHalf : Ideal.ofBits .f32 0x3F000000#32 = ((1 / 2 : ℝ) : EReal) := by
  simp [Ideal.ofBits, Ideal.ieee]; rw [← EReal.coe_mul]; norm_num

theorem cOne : Ideal.ofBits .f32 0x3F800000#32 = ((1 : ℝ) : EReal) := by
  simp [Ideal.ofBits, Ideal.ieee]; rw [← EReal.coe_mul]; norm_num

/-- The two ways of writing the gate's weight on the reals. -/
theorem silu_real (x : ℝ) : 1 / 2 * x + 1 / 2 * x * Real.tanh (1 / 2 * x) = x * (1 / (1 + Real.exp (-x))) := by
  have e : Real.exp x = Real.exp (1 / 2 * x) * Real.exp (1 / 2 * x) := by
    rw [← Real.exp_add]
    congr 1
    ring
  rw [Real.tanh_eq_sinh_div_cosh, Real.sinh_eq, Real.cosh_eq, Real.exp_neg, Real.exp_neg, e]
  have hp : (0 : ℝ) < Real.exp (1 / 2 * x) := Real.exp_pos _
  generalize Real.exp (1 / 2 * x) = z at hp ⊢
  have h1 : z + z⁻¹ ≠ 0 := by positivity
  have h2 : 1 + (z * z)⁻¹ ≠ 0 := by positivity
  field_simp
  ring

/-- The two gated products agree where the gate is a number. -/
theorem gated_eq (g : ℝ) (u : EReal) : gated (g : EReal) u = swiglu (g : EReal) u := by
  have hp : (0 : ℝ) < 1 + Real.exp (-g) := by positivity
  unfold gated swiglu
  rw [cHalf, cOne, ← EReal.coe_neg, Ideal.exp_coe, ← EReal.coe_add, Ideal.div_coe hp.ne', ← EReal.coe_mul, ← EReal.coe_mul, Ideal.tanh_coe,
    ← EReal.coe_mul, ← EReal.coe_add, silu_real, one_mul, EReal.coe_mul]

theorem cRows : Ideal.ofBits .f32 0x45000000#32 = ((2048 : ℝ) : EReal) := by
  simp [Ideal.ofBits, Ideal.ieee]; rw [← EReal.coe_mul]; norm_num

theorem cEps : Ideal.ofBits .f32 0x3727C5AC#32 = ((10995116 / 1099511627776 : ℝ) : EReal) := by
  simp [Ideal.ofBits, Ideal.ieee]; rw [← EReal.coe_mul]; norm_num

theorem cAlpha : Ideal.ofBits .f32 0x3F9837F0#32 = ((9975792 / 8388608 : ℝ) : EReal) := by
  simp [Ideal.ofBits, Ideal.ieee]; rw [← EReal.coe_mul]; norm_num

/-! A row with an infinite entry: its mean is infinite, so its variance is, and its normalisation is the bias alone. -/

def IsInf (x : EReal) : Prop := x = ⊤ ∨ x = ⊥

theorem IsInf.add {x : EReal} (h : IsInf x) (y : EReal) : IsInf (x + y) := by
  rcases h with rfl | rfl
  · by_cases hy : y = ⊥
    · exact Or.inr (by rw [hy, EReal.add_bot])
    · exact Or.inl (EReal.top_add_of_ne_bot hy)
  · exact Or.inr (EReal.bot_add y)

theorem IsInf.neg {x : EReal} (h : IsInf x) : IsInf (-x) := by
  rcases h with rfl | rfl
  · exact Or.inr EReal.neg_top
  · exact Or.inl EReal.neg_bot

theorem IsInf.scale {x : EReal} (h : IsInf x) (r : ℝ) (hr : 0 < r) : IsInf (x * (r : EReal)) := by
  rcases h with rfl | rfl
  · exact Or.inl (EReal.top_mul_coe_of_pos hr)
  · exact Or.inr (EReal.bot_mul_coe_of_pos hr)

theorem IsInf.sq {x : EReal} (h : IsInf x) : x * x = ⊤ := by
  rcases h with rfl | rfl
  · exact EReal.top_mul_top
  · exact EReal.bot_mul_bot

theorem IsInf.sum {f : Fin 2048 → EReal} (d : Fin 2048) (h : IsInf (f d)) : IsInf (∑ d : Fin 2048, f d) := by
  rw [← Finset.add_sum_erase Finset.univ f (Finset.mem_univ d)]
  exact h.add _

theorem mean_inf {f : Fin 2048 → EReal} (d : Fin 2048) (h : IsInf (f d)) : IsInf (mean f) := by
  unfold mean
  rw [cRows, Ideal.div_coe (by norm_num)]
  exact (IsInf.sum d h).scale _ (by norm_num)

theorem mean_top {f : Fin 2048 → EReal} (h : ∀ d, f d = ⊤) : mean f = ⊤ := by
  have hs : IsInf (∑ d : Fin 2048, f d) := IsInf.sum 0 (Or.inl (h 0))
  have hp : 0 ≤ ∑ d : Fin 2048, f d := Finset.sum_nonneg fun d _ => by rw [h d]; exact le_top
  have ht : ∑ d : Fin 2048, f d = ⊤ := hs.resolve_right fun e => by rw [e] at hp; exact absurd hp (by simp)
  unfold mean
  rw [ht, cRows, Ideal.div_coe (by norm_num)]
  exact EReal.top_mul_coe_of_pos (by norm_num)

theorem norm_inf {f : Fin 2048 → EReal} (d : Fin 2048) (h : IsInf (f d)) (y : Fin 2048) (g b : EReal) : norm f y g b = b := by
  have hd : ∀ k, IsInf (f k - mean f) := fun k => by
    rw [sub_eq_add_neg, add_comm]
    exact (mean_inf d h).neg.add _
  unfold norm
  rw [mean_top fun k => (hd k).sq, cEps, EReal.top_add_coe, Ideal.rsqrt_top, mul_zero, zero_mul, zero_add]

/-- The residual of an infinite entry is infinite. -/
theorem residual_inf {x : EReal} (h : IsInf x) (y : EReal) : IsInf (Ideal.ofBits .f32 0x3F9837F0#32 * x + y) := by
  rw [cAlpha, mul_comm]
  exact (h.scale _ (by norm_num)).add _

end Cert.Ffn

end
-- ==== Proof.FfnBody.lean ====
/- What the feed-forward kernel's body computes on its blocks, at an index. -/
module

public import proofs.«01_k».proof.Proof.Gen.Kernel2Ideal.Skeleton
public import proofs.«01_k».proof.Proof.FfnSpec
public import Idealize.ShloMosaic.Lib.Pointwise

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

theorem zero_at (r : Fin 512) (y : Fin 2048) : k0_pay1 (F := Ideal) (ix2 r y) = (0 : EReal) := by
  unfold k0_pay1
  pointwise

/-- The modulated row. -/
theorem rows_at (x : Vec Ideal S512x2048 .f32) (sc sh : Vec Ideal S1x1x2048 .f32) (r : Fin 512) (y : Fin 2048) :
    k0_pay2 (F := Ideal) x sc sh (ix2 r y)
      = (x (ix2 r y) * (Ideal.ofBits .f32 0x3F800000#32 + sc (ix3 0 0 y)) + sh (ix3 0 0 y) : EReal) := by
  unfold k0_pay2
  pointwise

/-- One tile's addition to the accumulator. -/
theorem step_at (h : Vec Ideal S512x2048 .bf16) (wg wu : Vec Ideal S2048x512 .bf16) (acc : Vec Ideal S512x2048 .f32) (wo : Vec Ideal S512x2048 .bf16)
    (r : Fin 512) (y : Fin 2048) :
    k0_pay3 (F := Ideal) h wg wu acc wo (ix2 r y)
      = (acc (ix2 r y) + ∑ j : Fin 512, Cert.Ffn.gated (∑ d : Fin 2048, (h (ix2 r d) : EReal) * wg (ix2 d j)) (∑ d : Fin 2048, (h (ix2 r d) : EReal) * wu (ix2 d j))
          * wo (ix2 j y) : EReal) := by
  unfold k0_pay3 Cert.Ffn.gated
  pointwise

/-- The normalised row. -/
theorem norm_at (x : Vec Ideal S512x2048 .f32) (g2 : Vec Ideal S1x1x2048 .f32) (acc : Vec Ideal S512x2048 .f32) (g b : Vec Ideal S1x2048 .f32)
    (r : Fin 512) (y : Fin 2048) :
    k0_pay4 (F := Ideal) x g2 acc g b (ix2 r y)
      = Cert.Ffn.norm (fun d => (Ideal.ofBits .f32 0x3F9837F0#32 * x (ix2 r d) + g2 (ix3 0 0 d) * acc (ix2 r d) : EReal)) y (g (ix2 0 y)) (b (ix2 0 y)) := by
  unfold k0_pay4 Cert.Ffn.norm Cert.Ffn.mean
  pointwise

end Cert.Kernel2Ideal.Ffn

end
-- ==== Proof.FfnFold.lean ====
/- The feed-forward kernel's run over its grid: the windows of the operands, the accumulator, and the result array. -/
module

public import proofs.«01_k».proof.Proof.Gen.Kernel2Ideal.Value
public import proofs.«01_k».proof.Proof.FfnBody
public import Idealize.ShloMosaic.Lib.Pipeline.ValueKit.Acc

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-! What each case of the body leaves. -/

theorem acc_A (t : Fin cfg0.N) (h0 : t.val % 11 = 0) (h1 : ¬t.val % 11 = 10) : (outsAt0 m c t.val t.isLt).2.1
    = k0_pay3 (k0_pay2 (iblk m c 0 t) (iblk m c 2 t) (iblk m c 1 t)) (iblk m c 6 t) (iblk m c 7 t) (k0_pay1 (F := Ideal)) (iblk m c 8 t) := by
  rw [outsAt0_A m c t h0 h1]
  frame_out

theorem rows_A (t : Fin cfg0.N) (h0 : t.val % 11 = 0) (h1 : ¬t.val % 11 = 10) : (outsAt0 m c t.val t.isLt).2.2
    = k0_pay2 (iblk m c 0 t) (iblk m c 2 t) (iblk m c 1 t) := by
  rw [outsAt0_A m c t h0 h1]
  frame_out

theorem acc_B (t : Fin cfg0.N) (h0 : ¬t.val % 11 = 0) (h1 : ¬t.val % 11 = 10) : (outsAt0 m c t.val t.isLt).2.1
    = k0_pay3 (outsAt0 m c (t.val - 1) (Nat.lt_of_le_of_lt (Nat.sub_le _ _) t.isLt)).2.2 (iblk m c 6 t) (iblk m c 7 t)
      (outsAt0 m c (t.val - 1) (Nat.lt_of_le_of_lt (Nat.sub_le _ _) t.isLt)).2.1 (iblk m c 8 t) := by
  rw [outsAt0_B m c t h0 h1]
  frame_out
  exact congrArg₂ (fun h a => k0_pay3 h (iblk m c 6 t) (iblk m c 7 t) a (iblk m c 8 t)) ((Memref.isWhole_whole cc0_scratch1).read_unread _)
    ((Memref.isWhole_whole cc0_scratch0).read_unread _)

theorem rows_B (t : Fin cfg0.N) (h0 : ¬t.val % 11 = 0) (h1 : ¬t.val % 11 = 10) : (outsAt0 m c t.val t.isLt).2.2
    = (outsAt0 m c (t.val - 1) (Nat.lt_of_le_of_lt (Nat.sub_le _ _) t.isLt)).2.2 := by
  rw [outsAt0_B m c t h0 h1]
  dsimp only [sout0_B_1, sout0_C_1]

theorem acc_C (t : Fin cfg0.N) (h0 : ¬t.val % 11 = 0) (h1 : t.val % 11 = 10) : (outsAt0 m c t.val t.isLt).2.1
    = k0_pay3 (outsAt0 m c (t.val - 1) (Nat.lt_of_le_of_lt (Nat.sub_le _ _) t.isLt)).2.2 (iblk m c 6 t) (iblk m c 7 t)
      (outsAt0 m c (t.val - 1) (Nat.lt_of_le_of_lt (Nat.sub_le _ _) t.isLt)).2.1 (iblk m c 8 t) := by
  rw [outsAt0_C m c t h0 h1]
  frame_out
  exact congrArg₂ (fun h a => k0_pay3 h (iblk m c 6 t) (iblk m c 7 t) a (iblk m c 8 t)) ((Memref.isWhole_whole cc0_scratch1).read_unread _)
    ((Memref.isWhole_whole cc0_scratch0).read_unread _)

theorem rows_C (t : Fin cfg0.N) (h0 : ¬t.val % 11 = 0) (h1 : t.val % 11 = 10) : (outsAt0 m c t.val t.isLt).2.2
    = (outsAt0 m c (t.val - 1) (Nat.lt_of_le_of_lt (Nat.sub_le _ _) t.isLt)).2.2 := by
  rw [outsAt0_C m c t h0 h1]
  dsimp only [sout0_B_1, sout0_C_1]

theorem out_C (t : Fin cfg0.N) (h0 : ¬t.val % 11 = 0) (h1 : t.val % 11 = 10) : (outsAt0 m c t.val t.isLt).1
    = k0_pay4 (iblk m c 0 t) (iblk m c 3 t) (k0_pay3 (outsAt0 m c (t.val - 1) (Nat.lt_of_le_of_lt (Nat.sub_le _ _) t.isLt)).2.2 (iblk m c 6 t) (iblk m c 7 t)
      (outsAt0 m c (t.val - 1) (Nat.lt_of_le_of_lt (Nat.sub_le _ _) t.isLt)).2.1 (iblk m c 8 t)) (iblk m c 4 t) (iblk m c 5 t) := by
  rw [outsAt0_C m c t h0 h1]
  frame_out
  exact congrArg₂ (fun h a => k0_pay4 (iblk m c 0 t) (iblk m c 3 t) (k0_pay3 h (iblk m c 6 t) (iblk m c 7 t) a (iblk m c 8 t)) (iblk m c 4 t) (iblk m c 5 t))
    ((Memref.isWhole_whole cc0_scratch1).read_unread _) ((Memref.isWhole_whole cc0_scratch0).read_unread _)

end Cert.Kernel2Ideal.Ffn

end
-- ==== Proof.FfnWin.lean ====
/- The feed-forward kernel's operands, read where its grid points read them. -/
module

public import proofs.«01_k».proof.Proof.Gen.Kernel2Ideal.Value
public import proofs.«01_k».proof.Proof.FfnSpec
public import Idealize.ShloMosaic.Lib.Pointwise
public import Idealize.ShloMosaic.Lib.StableHlo.ReadAt

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

abbrev argX : FVec Ideal S8x2048x2048 .f32 := m ((c.tc : Thread nD τ).loc main_arg0)
abbrev argM : FVec Ideal S8x12288 .f32 := m ((c.tc : Thread nD τ).loc main_arg1)
abbrev argW : FVec Ideal S2048x11264 .f32 := m ((c.tc : Thread nD τ).loc main_arg2)
abbrev argV : FVec Ideal S5632x2048 .f32 := m ((c.tc : Thread nD τ).loc main_arg3)
abbrev argG : FVec Ideal S2048 .f32 := m ((c.tc : Thread nD τ).loc main_arg4)
abbrev argB : FVec Ideal S2048 .f32 := m ((c.tc : Thread nD τ).loc main_arg5)

/-- Row `R` of all the rows of the batches. -/
def xAt (R : ℕ) (d : Fin 2048) : EReal := argX m c (ix3 ⟨R / 2048 % 8, by omega⟩ ⟨R % 2048, by omega⟩ d)
/-- Entry `k` of batch `b`'s modulation. -/
def mAt (b k : ℕ) : EReal := argM m c (ix2 ⟨b % 8, by omega⟩ ⟨k % 12288, by omega⟩)
def wAt (d : Fin 2048) (j : ℕ) : EReal := argW m c (ix2 d ⟨j % 11264, by omega⟩)
def vAt (j : ℕ) (y : Fin 2048) : EReal := argV m c (ix2 ⟨j % 5632, by omega⟩ y)

theorem x_entry (R : Fin 16384) (d : Fin 2048) :
    (V m c main_v1 : FVec Ideal S16384x2048 .f32) (ix2 R d) = argX m c (ix3 ⟨R.val / 2048, by omega⟩ ⟨R.val % 2048, by omega⟩ d) := by
  unfold_abbrev_sides
  after_reads_at

theorem m_entry (b : Fin 8) (k : Fin 12288) :
    (V m c main_v0 : FVec Ideal S8x1x12288 .f32) (ix3 b 0 k) = argM m c (ix2 b k) := by
  unfold_abbrev_sides
  after_reads_at

theorem g_entry (y : Fin 2048) : (V m c main_v2 : FVec Ideal S1x2048 .f32) (ix2 0 y) = argG m c (ix1 y) := by
  unfold_abbrev_sides
  after_reads_at

theorem b_entry (y : Fin 2048) : (V m c main_v3 : FVec Ideal S1x2048 .f32) (ix2 0 y) = argB m c (ix1 y) := by
  unfold_abbrev_sides
  after_reads_at

theorem w_entry (d : Fin 2048) (j : Fin 11264) : (V m c main_v4 : FVec Ideal S2048x11264 .bf16) (ix2 d j) = argW m c (ix2 d j) := by
  unfold_abbrev_sides
  after_reads_at

theorem v_entry (j : Fin 5632) (y : Fin 2048) : (V m c main_v5 : FVec Ideal S5632x2048 .bf16) (ix2 j y) = argV m c (ix2 j y) := by
  unfold_abbrev_sides
  after_reads_at

theorem x_read (R : Fin 16384) (d : Fin 2048) : (V m c main_v1 : FVec Ideal S16384x2048 .f32) (ix2 R d) = xAt m c R.val d := by
  rw [x_entry]
  unfold xAt
  have h : R.val / 2048 % 8 = R.val / 2048 := by omega
  simp only [h]

theorem m_read (b : Fin 8) (k : Fin 12288) : (V m c main_v0 : FVec Ideal S8x1x12288 .f32) (ix3 b 0 k) = mAt m c b.val k.val := by
  rw [m_entry]
  unfold mAt
  simp only [Nat.mod_eq_of_lt b.isLt, Nat.mod_eq_of_lt k.isLt]

theorem w_read (d : Fin 2048) (j : Fin 11264) : (V m c main_v4 : FVec Ideal S2048x11264 .bf16) (ix2 d j) = wAt m c d j.val := by
  rw [w_entry]
  unfold wAt
  simp only [Nat.mod_eq_of_lt j.isLt]

theorem v_read (j : Fin 5632) (y : Fin 2048) : (V m c main_v5 : FVec Ideal S5632x2048 .bf16) (ix2 j y) = vAt m c j.val y := by
  rw [v_entry]
  unfold vAt
  simp only [Nat.mod_eq_of_lt j.isLt]

/-- The block indices of the row window and of the three modulation windows. -/
theorem blocks_row : ∀ t : Fin cfg0.N, (win0_0.index t (0 : Fin 2) = t.val / 11 ∧ win0_0.index t (1 : Fin 2) = 0)
    ∧ (win0_1.index t (0 : Fin 3) = t.val / 11 / 4 ∧ win0_1.index t (1 : Fin 3) = 0 ∧ win0_1.index t (2 : Fin 3) = 3)
    ∧ (win0_2.index t (0 : Fin 3) = t.val / 11 / 4 ∧ win0_2.index t (1 : Fin 3) = 0 ∧ win0_2.index t (2 : Fin 3) = 4)
    ∧ (win0_3.index t (0 : Fin 3) = t.val / 11 / 4 ∧ win0_3.index t (1 : Fin 3) = 0 ∧ win0_3.index t (2 : Fin 3) = 5) :=
  (by decide +kernel : ∀ t : Fin grid0.N, (win0_0.index t (0 : Fin 2) = t.val / 11 ∧ win0_0.index t (1 : Fin 2) = 0)
    ∧ (win0_1.index t (0 : Fin 3) = t.val / 11 / 4 ∧ win0_1.index t (1 : Fin 3) = 0 ∧ win0_1.index t (2 : Fin 3) = 3)
    ∧ (win0_2.index t (0 : Fin 3) = t.val / 11 / 4 ∧ win0_2.index t (1 : Fin 3) = 0 ∧ win0_2.index t (2 : Fin 3) = 4)
    ∧ (win0_3.index t (0 : Fin 3) = t.val / 11 / 4 ∧ win0_3.index t (1 : Fin 3) = 0 ∧ win0_3.index t (2 : Fin 3) = 5))

/-- The block indices of the gain, the bias and the three weight windows. -/
theorem blocks_col : ∀ t : Fin cfg0.N, (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = t.val % 11)
    ∧ (win0_7.index t (0 : Fin 2) = 0 ∧ win0_7.index t (1 : Fin 2) = 11 + t.val % 11)
    ∧ (win0_8.index t (0 : Fin 2) = t.val % 11 ∧ win0_8.index t (1 : Fin 2) = 0) :=
  (by decide +kernel : ∀ t : Fin grid0.N, (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = t.val % 11)
    ∧ (win0_7.index t (0 : Fin 2) = 0 ∧ win0_7.index t (1 : Fin 2) = 11 + t.val % 11)
    ∧ (win0_8.index t (0 : Fin 2) = t.val % 11 ∧ win0_8.index t (1 : Fin 2) = 0))

theorem points (t : Fin cfg0.N) : t.val < 352 := lt_of_lt_of_eq t.isLt (show cfg0.N = 352 from N_0)

theorem x_win (t : Fin cfg0.N) (r : Fin 512) (d : Fin 2048) :
    (iblk m c 0 t : FVec Ideal S512x2048 .f32) (ix2 r d) = xAt m c (512 * (t.val / 11) + r.val) d := by
  have ht := points t
  obtain ⟨⟨e0, e1⟩, -⟩ := blocks_row t
  refine Eq.trans ?_ (x_read m c ⟨512 * (t.val / 11) + r.val, by omega⟩ d)
  show V m c main_v1 (((cfg0.win 0).blk t).view.emb (ix2 r d)) = _
  refine congrArg _ (funext fun a => Fin.ext ?_)
  match a with
  | ⟨0, _⟩ => show win0_0.index t (0 : Fin 2) * 512 + 1 * r.val = 512 * (t.val / 11) + r.val; omega
  | ⟨1, _⟩ => show win0_0.index t (1 : Fin 2) * 2048 + 1 * d.val = d.val; omega

theorem shift_win (t : Fin cfg0.N) (d : Fin 2048) :
    (iblk m c 1 t : FVec Ideal S1x1x2048 .f32) (ix3 0 0 d) = mAt m c (t.val / 11 / 4) (6144 + d.val) := by
  have ht := points t
  obtain ⟨-, ⟨e0, e1, e2⟩, -⟩ := blocks_row t
  refine Eq.trans ?_ (m_read m c ⟨t.val / 11 / 4, by omega⟩ ⟨6144 + d.val, by omega⟩)
  show V m c main_v0 (((cfg0.win 1).blk t).view.emb (ix3 0 0 d)) = _
  refine congrArg _ (funext fun a => Fin.ext ?_)
  match a with
  | ⟨0, _⟩ => show win0_1.index t (0 : Fin 3) * 1 + 1 * 0 = t.val / 11 / 4; omega
  | ⟨1, _⟩ => show win0_1.index t (1 : Fin 3) * 1 + 1 * 0 = 0; omega
  | ⟨2, _⟩ => show win0_1.index t (2 : Fin 3) * 2048 + 1 * d.val = 6144 + d.val; omega

theorem scale_win (t : Fin cfg0.N) (d : Fin 2048) :
    (iblk m c 2 t : FVec Ideal S1x1x2048 .f32) (ix3 0 0 d) = mAt m c (t.val / 11 / 4) (8192 + d.val) := by
  have ht := points t
  obtain ⟨-, -, ⟨e0, e1, e2⟩, -⟩ := blocks_row t
  refine Eq.trans ?_ (m_read m c ⟨t.val / 11 / 4, by omega⟩ ⟨8192 + d.val, by omega⟩)
  show V m c main_v0 (((cfg0.win 2).blk t).view.emb (ix3 0 0 d)) = _
  refine congrArg _ (funext fun a => Fin.ext ?_)
  match a with
  | ⟨0, _⟩ => show win0_2.index t (0 : Fin 3) * 1 + 1 * 0 = t.val / 11 / 4; omega
  | ⟨1, _⟩ => show win0_2.index t (1 : Fin 3) * 1 + 1 * 0 = 0; omega
  | ⟨2, _⟩ => show win0_2.index t (2 : Fin 3) * 2048 + 1 * d.val = 8192 + d.val; omega

theorem mix_win (t : Fin cfg0.N) (d : Fin 2048) :
    (iblk m c 3 t : FVec Ideal S1x1x2048 .f32) (ix3 0 0 d) = mAt m c (t.val / 11 / 4) (10240 + d.val) := by
  have ht := points t
  obtain ⟨-, -, -, e0, e1, e2⟩ := blocks_row t
  refine Eq.trans ?_ (m_read m c ⟨t.val / 11 / 4, by omega⟩ ⟨10240 + d.val, by omega⟩)
  show V m c main_v0 (((cfg0.win 3).blk t).view.emb (ix3 0 0 d)) = _
  refine congrArg _ (funext fun a => Fin.ext ?_)
  match a with
  | ⟨0, _⟩ => show win0_3.index t (0 : Fin 3) * 1 + 1 * 0 = t.val / 11 / 4; omega
  | ⟨1, _⟩ => show win0_3.index t (1 : Fin 3) * 1 + 1 * 0 = 0; omega
  | ⟨2, _⟩ => show win0_3.index t (2 : Fin 3) * 2048 + 1 * d.val = 10240 + d.val; omega

theorem gain_win (t : Fin cfg0.N) (y : Fin 2048) : (iblk m c 4 t : FVec Ideal S1x2048 .f32) (ix2 0 y) = argG m c (ix1 y) := by
  obtain ⟨⟨e0, e1⟩, -⟩ := blocks_col t
  refine Eq.trans ?_ (g_entry m c y)
  show V m c main_v2 (((cfg0.win 4).blk t).view.emb (ix2 0 y)) = _
  refine congrArg _ (funext fun a => Fin.ext ?_)
  match a with
  | ⟨0, _⟩ => show win0_4.index t (0 : Fin 2) * 1 + 1 * 0 = 0; omega
  | ⟨1, _⟩ => show win0_4.index t (1 : Fin 2) * 2048 + 1 * y.val = y.val; omega

theorem bias_win (t : Fin cfg0.N) (y : Fin 2048) : (iblk m c 5 t : FVec Ideal S1x2048 .f32) (ix2 0 y) = argB m c (ix1 y) := by
  obtain ⟨-, ⟨e0, e1⟩, -⟩ := blocks_col t
  refine Eq.trans ?_ (b_entry m c y)
  show V m c main_v3 (((cfg0.win 5).blk t).view.emb (ix2 0 y)) = _
  refine congrArg _ (funext fun a => Fin.ext ?_)
  match a with
  | ⟨0, _⟩ => show win0_5.index t (0 : Fin 2) * 1 + 1 * 0 = 0; omega
  | ⟨1, _⟩ => show win0_5.index t (1 : Fin 2) * 2048 + 1 * y.val = y.val; omega

theorem gate_win (t : Fin cfg0.N) (d : Fin 2048) (j : Fin 512) :
    (iblk m c 6 t : FVec Ideal S2048x512 .bf16) (ix2 d j) = wAt m c d (512 * (t.val % 11) + j.val) := by
  obtain ⟨-, -, ⟨e0, e1⟩, -⟩ := blocks_col t
  refine Eq.trans ?_ (w_read m c d ⟨512 * (t.val % 11) + j.val, by omega⟩)
  show V m c main_v4 (((cfg0.win 6).blk t).view.emb (ix2 d j)) = _
  refine congrArg _ (funext fun a => Fin.ext ?_)
  match a with
  | ⟨0, _⟩ => show win0_6.index t (0 : Fin 2) * 2048 + 1 * d.val = d.val; omega
  | ⟨1, _⟩ => show win0_6.index t (1 : Fin 2) * 512 + 1 * j.val = 512 * (t.val % 11) + j.val; omega

theorem up_win (t : Fin cfg0.N) (d : Fin 2048) (j : Fin 512) :
    (iblk m c 7 t : FVec Ideal S2048x512 .bf16) (ix2 d j) = wAt m c d (5632 + (512 * (t.val % 11) + j.val)) := by
  obtain ⟨-, -, -, ⟨e0, e1⟩, -⟩ := blocks_col t
  refine Eq.trans ?_ (w_read m c d ⟨5632 + (512 * (t.val % 11) + j.val), by omega⟩)
  show V m c main_v4 (((cfg0.win 7).blk t).view.emb (ix2 d j)) = _
  refine congrArg _ (funext fun a => Fin.ext ?_)
  match a with
  | ⟨0, _⟩ => show win0_7.index t (0 : Fin 2) * 2048 + 1 * d.val = d.val; omega
  | ⟨1, _⟩ => show win0_7.index t (1 : Fin 2) * 512 + 1 * j.val = 5632 + (512 * (t.val % 11) + j.val); omega

theorem down_win (t : Fin cfg0.N) (j : Fin 512) (y : Fin 2048) :
    (iblk m c 8 t : FVec Ideal S512x2048 .bf16) (ix2 j y) = vAt m c (512 * (t.val % 11) + j.val) y := by
  obtain ⟨-, -, -, -, e0, e1⟩ := blocks_col t
  refine Eq.trans ?_ (v_read m c ⟨512 * (t.val % 11) + j.val, by omega⟩ y)
  show V m c main_v5 (((cfg0.win 8).blk t).view.emb (ix2 j y)) = _
  refine congrArg _ (funext fun a => Fin.ext ?_)
  match a with
  | ⟨0, _⟩ => show win0_8.index t (0 : Fin 2) * 512 + 1 * j.val = 512 * (t.val % 11) + j.val; omega
  | ⟨1, _⟩ => show win0_8.index t (1 : Fin 2) * 2048 + 1 * y.val = y.val; omega

end Cert.Kernel2Ideal.Ffn

end
-- ==== Proof.FfnRun.lean ====
/- The feed-forward kernel's accumulator over its grid, and its result array. -/
module

public import proofs.«01_k».proof.Proof.FfnFold
public import proofs.«01_k».proof.Proof.FfnWin

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- Row `R` after the modulation. -/
def hAt (R : ℕ) (d : Fin 2048) : EReal :=
  xAt m c R d * (Ideal.ofBits .f32 0x3F800000#32 + mAt m c (R / 2048) (8192 + d.val)) + mAt m c (R / 2048) (6144 + d.val)

/-- Column `j` of the projection of row `R`. -/
def zAt (R j : ℕ) : EReal := ∑ d : Fin 2048, hAt m c R d * wAt m c d j

/-- What hidden column `j` adds to entry `y` of row `R`. -/
def termAt (R : ℕ) (y : Fin 2048) (j : ℕ) : EReal := Cert.Ffn.gated (zAt m c R j) (zAt m c R (5632 + j)) * vAt m c j y

/-- The accumulator after `n` tiles. -/
def accAt (R : ℕ) (y : Fin 2048) (n : ℕ) : EReal := ∑ s ∈ Finset.range n, ∑ j : Fin 512, termAt m c R y (512 * s + j.val)

theorem batch_of (n : ℕ) (r : Fin 512) : (512 * n + r.val) / 2048 = n / 4 := by omega

/-- The modulated rows of a point's row block. -/
theorem rows_win (t : Fin cfg0.N) (r : Fin 512) (d : Fin 2048) :
    k0_pay2 (F := Ideal) (iblk m c 0 t) (iblk m c 2 t) (iblk m c 1 t) (ix2 r d) = hAt m c (512 * (t.val / 11) + r.val) d := by
  refine (rows_at _ _ _ r d).trans ?_
  unfold hAt
  rw [x_win, scale_win, shift_win, batch_of]

/-- One point's step of the accumulator. -/
theorem step_win (t : Fin cfg0.N) (h : Vec Ideal S512x2048 .bf16) (acc : Vec Ideal S512x2048 .f32)
    (hh : ∀ (r : Fin 512) (d : Fin 2048), h (ix2 r d) = hAt m c (512 * (t.val / 11) + r.val) d)
    (ha : ∀ (r : Fin 512) (y : Fin 2048), acc (ix2 r y) = accAt m c (512 * (t.val / 11) + r.val) y (t.val % 11)) (r : Fin 512) (y : Fin 2048) :
    k0_pay3 (F := Ideal) h (iblk m c 6 t) (iblk m c 7 t) acc (iblk m c 8 t) (ix2 r y)
      = accAt m c (512 * (t.val / 11) + r.val) y (t.val % 11 + 1) := by
  refine (step_at _ _ _ _ _ r y).trans ?_
  rw [ha]
  unfold accAt
  rw [Finset.sum_range_succ]
  refine congrArg₂ _ rfl (Finset.sum_congr rfl fun j _ => ?_)
  unfold termAt zAt
  simp only [hh, gate_win, up_win, down_win]

/-- What the scratch holds after a point: the rows of its block and their accumulator. -/
theorem state : ∀ (n : ℕ) (hn : n < cfg0.N),
    (∀ (r : Fin 512) (d : Fin 2048), (outsAt0 m c n hn).2.2 (ix2 r d) = hAt m c (512 * (n / 11) + r.val) d)
    ∧ ∀ (r : Fin 512) (y : Fin 2048), (outsAt0 m c n hn).2.1 (ix2 r y) = accAt m c (512 * (n / 11) + r.val) y (n % 11 + 1) := by
  have first : ∀ t : Fin cfg0.N, t.val % 11 = 0 →
      (∀ (r : Fin 512) (d : Fin 2048), (outsAt0 m c t.val t.isLt).2.2 (ix2 r d) = hAt m c (512 * (t.val / 11) + r.val) d)
      ∧ ∀ (r : Fin 512) (y : Fin 2048), (outsAt0 m c t.val t.isLt).2.1 (ix2 r y) = accAt m c (512 * (t.val / 11) + r.val) y (t.val % 11 + 1) := by
    intro t h0
    have h1 : ¬t.val % 11 = 10 := by omega
    constructor
    · intro r d
      rw [rows_A m c t h0 h1]
      exact rows_win m c t r d
    · intro r y
      rw [acc_A m c t h0 h1]
      refine step_win m c t _ _ (rows_win m c t) (fun r y => ?_) r y
      rw [h0]
      exact (zero_at r y).trans (by unfold accAt; simp)
  have next : ∀ t : Fin cfg0.N, ¬t.val % 11 = 0 →
      ((∀ (r : Fin 512) (d : Fin 2048), (outsAt0 m c (t.val - 1) (Nat.lt_of_le_of_lt (Nat.sub_le _ _) t.isLt)).2.2 (ix2 r d)
          = hAt m c (512 * ((t.val - 1) / 11) + r.val) d)
        ∧ ∀ (r : Fin 512) (y : Fin 2048), (outsAt0 m c (t.val - 1) (Nat.lt_of_le_of_lt (Nat.sub_le _ _) t.isLt)).2.1 (ix2 r y)
          = accAt m c (512 * ((t.val - 1) / 11) + r.val) y ((t.val - 1) % 11 + 1)) →
      (∀ (r : Fin 512) (d : Fin 2048), (outsAt0 m c t.val t.isLt).2.2 (ix2 r d) = hAt m c (512 * (t.val / 11) + r.val) d)
      ∧ ∀ (r : Fin 512) (y : Fin 2048), (outsAt0 m c t.val t.isLt).2.1 (ix2 r y) = accAt m c (512 * (t.val / 11) + r.val) y (t.val % 11 + 1) := by
    intro t h0 ih
    have e1 : (t.val - 1) / 11 = t.val / 11 := by omega
    have e2 : (t.val - 1) % 11 + 1 = t.val % 11 := by omega
    rw [e1, e2] at ih
    by_cases h1 : t.val % 11 = 10
    · rw [rows_C m c t h0 h1, acc_C m c t h0 h1]
      exact ⟨ih.1, step_win m c t _ _ ih.1 ih.2⟩
    · rw [rows_B m c t h0 h1, acc_B m c t h0 h1]
      exact ⟨ih.1, step_win m c t _ _ ih.1 ih.2⟩
  intro n
  induction n with
  | zero => exact fun hn => first ⟨0, hn⟩ rfl
  | succ n ih =>
    intro hn
    by_cases h0 : (n + 1) % 11 = 0
    · exact first ⟨n + 1, hn⟩ h0
    · exact next ⟨n + 1, hn⟩ h0 (ih (Nat.lt_of_succ_lt hn))

/-- The block of the result written at the last tile of a row block. -/
theorem out_win (t : Fin cfg0.N) (h1 : t.val % 11 = 10) (r : Fin 512) (y : Fin 2048) : (outsAt0 m c t.val t.isLt).1 (ix2 r y)
    = Cert.Ffn.norm (fun d => Ideal.ofBits .f32 0x3F9837F0#32 * xAt m c (512 * (t.val / 11) + r.val) d
        + mAt m c (t.val / 11 / 4) (10240 + d.val) * accAt m c (512 * (t.val / 11) + r.val) d 11) y (argG m c (ix1 y)) (argB m c (ix1 y)) := by
  have h0 : ¬t.val % 11 = 0 := by omega
  rw [out_C m c t h0 h1, ← acc_C m c t h0 h1]
  refine (norm_at _ _ _ _ _ r y).trans ?_
  simp only [x_win, mix_win, gain_win, bias_win, (state m c t.val t.isLt).2, h1]

/-- The result array of the run, entry by entry. -/
theorem G9_at (R : Fin 16384) (y : Fin 2048) : Value.G9 m c (ix2 R y)
    = Cert.Ffn.norm (fun d => Ideal.ofBits .f32 0x3F9837F0#32 * xAt m c R.val d
        + mAt m c (R.val / 2048) (10240 + d.val) * accAt m c R.val d 11) y (argG m c (ix1 y)) (argB m c (ix1 y)) := by
  have hp : Value.pt9Of (ix2 R y) = 11 * (R.val / 512) + 10 := by
    show 11 * (1 * (R.val / 512 - 0) + 1 * (y.val / 2048 - 0)) + 10 = _
    omega
  have hlt : Value.pt9Of (ix2 R y) < cfg0.N := by
    rw [hp]
    show _ < 352
    omega
  unfold Value.G9
  rw [dif_pos hlt, ← Value.outsAt0_sweep m c _ hlt]
  have hl : Value.loc9Of (ix2 R y) = ix2 ⟨R.val % 512, by omega⟩ y := by
    refine funext fun a => Fin.ext ?_
    match a with
    | ⟨0, _⟩ => rfl
    | ⟨1, _⟩ => show y.val % 2048 = y.val; omega
  rw [hl]
  refine (out_win m c ⟨_, hlt⟩ (by show Value.pt9Of (ix2 R y) % 11 = 10; omega) _ y).trans ?_
  have e1 : Value.pt9Of (ix2 R y) / 11 = R.val / 512 := by omega
  have e2 : 512 * (R.val / 512) + R.val % 512 = R.val := by omega
  have e3 : R.val / 512 / 4 = R.val / 2048 := by omega
  simp only [e1, e2, e3]

end Cert.Kernel2Ideal.Ffn

end
-- ==== Proof.FfnRef.lean ====
/- The feed-forward reference's value named step by step, and each step at an index. -/
module

public import proofs.«01_k».proof.Proof.Gen.Reference2Ideal.Run
public import proofs.«01_k».proof.Proof.FfnSpec
public import Idealize.ShloMosaic.Lib.Pointwise

@[expose] public section

set_option maxRecDepth 16384

noncomputable section

namespace Cert.Reference2Ideal.Stages

open Cert.Reference2Ideal Cert.Reference2Ideal.Gen Idealize.ShloMosaic Idealize.ShloMosaic.TcCoe Idealize.SL.Sem

section Steps

variable {F : FTy → Type} [FloatOps F]

/-- A scalar over the batches and the columns, and one over the rows too. -/
def constRow (b : BitVec 32) : FVec F S8x1x2048 .f32 := broadcastInDim S8x1x2048 ![] bcast_S_S8x1x2048 (constant S_ .f32 b)
def constCol (b : BitVec 32) : FVec F S8x2048x1 .f32 := broadcastInDim S8x2048x1 ![] bcast_S_S8x2048x1 (constant S_ .f32 b)
def constAll (b : BitVec 32) : FVec F S8x2048x2048 .f32 := broadcastInDim S8x2048x2048 ![] bcast_S_S8x2048x2048 (constant S_ .f32 b)
def constWide (b : BitVec 32) : FVec F S8x2048x5632 .f32 := broadcastInDim S8x2048x5632 ![] bcast_S_S8x2048x5632 (constant S_ .f32 b)

def lines (M : FVec F S8x12288 .f32) : FVec F S8x1x12288 .f32 := broadcastInDim S8x1x12288 ![0, 2] bcast_S8x12288_S8x1x12288_0_2 M

def overRows (x : FVec F S8x1x2048 .f32) : FVec F S8x2048x2048 .f32 := broadcastInDim S8x2048x2048 ![0, 1, 2] bcast_S8x1x2048_S8x2048x2048_0_1_2 x
def overCols (x : FVec F S8x2048x1 .f32) : FVec F S8x2048x2048 .f32 := broadcastInDim S8x2048x2048 ![0, 1, 2] bcast_S8x2048x1_S8x2048x2048_0_1_2 x

/-- The modulated rows. -/
def rows (X : FVec F S8x2048x2048 .f32) (M : FVec F S8x12288 .f32) : FVec F S8x2048x2048 .f32 :=
  addf (mulf X (overRows (addf (constRow 0x3F800000#32) (extractStridedSlice S8x1x2048 ![0, 0, 8192] (lines M) slices_S8x1x12288_S8x1x2048_0_0_8192))))
    (overRows (extractStridedSlice S8x1x2048 ![0, 0, 6144] (lines M) slices_S8x1x12288_S8x1x2048_0_0_6144))

/-- Gate and up projections together. -/
def both (h : FVec F S8x2048x2048 .f32) (W : FVec F S2048x11264 .f32) : FVec F S8x2048x11264 .f32 :=
  Host.dotGeneral dot_S8x2048x2048_S2048x11264_S8x2048x11264_2_0_01_1_n_n none h W

def gate (z : FVec F S8x2048x11264 .f32) : FVec F S8x2048x5632 .f32 :=
  extractStridedSlice S8x2048x5632 ![0, 0, 0] z slices_S8x2048x11264_S8x2048x5632_0_0_0

def up (z : FVec F S8x2048x11264 .f32) : FVec F S8x2048x5632 .f32 :=
  extractStridedSlice S8x2048x5632 ![0, 0, 5632] z slices_S8x2048x11264_S8x2048x5632_0_0_5632

def act (z : FVec F S8x2048x11264 .f32) : FVec F S8x2048x5632 .f32 :=
  mulf (mulf (gate z) (Host.divf (constWide 0x3F800000#32) (addf (constWide 0x3F800000#32) (Host.exp (Host.negf (gate z)))))) (up z)

/-- The residual and the gated feed-forward. -/
def residual (X : FVec F S8x2048x2048 .f32) (M : FVec F S8x12288 .f32) (W : FVec F S2048x11264 .f32) (V : FVec F S5632x2048 .f32) :
    FVec F S8x2048x2048 .f32 :=
  addf (mulf (constAll 0x3F9837F0#32) X) (mulf (overRows (extractStridedSlice S8x1x2048 ![0, 0, 10240] (lines M) slices_S8x1x12288_S8x1x2048_0_0_10240))
    (Host.dotGeneral dot_S8x2048x5632_S5632x2048_S8x2048x2048_2_0_01_1_n_n none (act (both (rows X M) W)) V))

def means (r : FVec F S8x2048x2048 .f32) : FVec F S8x2048x1 .f32 :=
  Host.divf (broadcastInDim S8x2048x1 ![0, 1] bcast_S8x2048_S8x2048x1_0_1
    (Host.reduceAdd r (constant S_ .f32 0x00000000#32) reducesTo_S8x2048x2048_S8x2048_d2 h_S_)) (constCol 0x45000000#32)

def centred (r : FVec F S8x2048x2048 .f32) : FVec F S8x2048x2048 .f32 := subf r (overCols (means r))

def overAll (g : FVec F S2048 .f32) : FVec F S8x2048x2048 .f32 :=
  broadcastInDim S8x2048x2048 ![0, 1, 2] bcast_S1x1x2048_S8x2048x2048_0_1_2 (broadcastInDim S1x1x2048 ![2] bcast_S2048_S1x1x2048_2 g)

def normed (r : FVec F S8x2048x2048 .f32) (g b : FVec F S2048 .f32) : FVec F S8x2048x2048 .f32 :=
  addf (mulf (mulf (centred r) (overCols (Host.rsqrt (addf (means (mulf (centred r) (centred r))) (constCol 0x3727C5AC#32))))) (overAll g)) (overAll b)

def whole (X : FVec F S8x2048x2048 .f32) (M : FVec F S8x12288 .f32) (W : FVec F S2048x11264 .f32) (V : FVec F S5632x2048 .f32) (g b : FVec F S2048 .f32) :
    FVec F S16384x2048 .f32 :=
  shapeCast _ (normed (residual X M W V) g b) shapeCasts_S8x2048x2048_S16384x2048

theorem result (m : (ℓ : Loc nD τ sig) → Buf (Elt F) ℓ) (c : Dev nD) :
    Value.res_out0 m c = whole (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  show Value.res_main_v48 m c = _
  unfold Value.res_main_v48
  rfl

end Steps

theorem rows_at (X : FVec Ideal S8x2048x2048 .f32) (M : FVec Ideal S8x12288 .f32) (b : Fin 8) (r d : Fin 2048) :
    rows X M (ix3 b r d) = (X (ix3 b r d) * (Ideal.ofBits .f32 0x3F800000#32 + M (ix2 b ⟨8192 + d.val, by omega⟩)) + M (ix2 b ⟨6144 + d.val, by omega⟩) : EReal) := by
  unfold rows overRows constRow lines
  pointwise

theorem both_at (h : FVec Ideal S8x2048x2048 .f32) (W : FVec Ideal S2048x11264 .f32) (b : Fin 8) (r : Fin 2048) (j : Fin 11264) :
    both h W (ix3 b r j) = ∑ d : Fin 2048, (h (ix3 b r d) : EReal) * W (ix2 d j) := by
  unfold both
  pointwise

theorem act_at (z : FVec Ideal S8x2048x11264 .f32) (b : Fin 8) (r : Fin 2048) (j : Fin 5632) :
    act z (ix3 b r j) = Cert.Ffn.swiglu (z (ix3 b r ⟨j.val, by omega⟩)) (z (ix3 b r ⟨5632 + j.val, by omega⟩)) := by
  unfold act gate up constWide Cert.Ffn.swiglu
  pointwise

theorem residual_at (X : FVec Ideal S8x2048x2048 .f32) (M : FVec Ideal S8x12288 .f32) (W : FVec Ideal S2048x11264 .f32) (V : FVec Ideal S5632x2048 .f32)
    (b : Fin 8) (r d : Fin 2048) :
    residual X M W V (ix3 b r d) = (Ideal.ofBits .f32 0x3F9837F0#32 * X (ix3 b r d) + M (ix2 b ⟨10240 + d.val, by omega⟩)
      * ∑ j : Fin 5632, (act (both (rows X M) W) (ix3 b r j) : EReal) * V (ix2 j d) : EReal) := by
  unfold residual
  generalize act (both (rows X M) W) = a
  unfold overRows constAll lines
  pointwise

theorem means_at (x : FVec Ideal S8x2048x2048 .f32) (b : Fin 8) (r : Fin 2048) (k : Fin 1) :
    means x (ix3 b r k) = Cert.Ffn.mean (fun d => x (ix3 b r d)) := by
  unfold means constCol Cert.Ffn.mean
  pointwise

theorem centred_at (x : FVec Ideal S8x2048x2048 .f32) (b : Fin 8) (r d : Fin 2048) :
    centred x (ix3 b r d) = (x (ix3 b r d) - Cert.Ffn.mean (fun d => x (ix3 b r d)) : EReal) := by
  rw [← means_at x b r 0]
  unfold centred
  generalize means x = y
  unfold overCols
  pointwise

theorem normed_at (x : FVec Ideal S8x2048x2048 .f32) (g b : FVec Ideal S2048 .f32) (k : Fin 8) (r d : Fin 2048) :
    normed x g b (ix3 k r d) = Cert.Ffn.norm (fun d => x (ix3 k r d)) d (g (ix1 d)) (b (ix1 d)) := by
  have e : (fun d => mulf (centred x) (centred x) (ix3 k r d))
      = fun d => ((x (ix3 k r d) - Cert.Ffn.mean (fun d => x (ix3 k r d))) * (x (ix3 k r d) - Cert.Ffn.mean (fun d => x (ix3 k r d))) : EReal) := by
    funext d
    rw [← centred_at]
    rfl
  unfold Cert.Ffn.norm
  rw [← centred_at, ← e, ← means_at (mulf (centred x) (centred x)) k r 0]
  unfold normed
  generalize means (mulf (centred x) (centred x)) = y
  generalize centred x = z
  unfold overCols overAll constCol
  pointwise

theorem whole_at (X : FVec Ideal S8x2048x2048 .f32) (M : FVec Ideal S8x12288 .f32) (W : FVec Ideal S2048x11264 .f32) (V : FVec Ideal S5632x2048 .f32)
    (g b : FVec Ideal S2048 .f32) (r : Fin 16384) (d : Fin 2048) :
    whole X M W V g b (ix2 r d)
      = Cert.Ffn.norm (fun d => residual X M W V (ix3 ⟨r.val / 2048, by omega⟩ ⟨r.val % 2048, by omega⟩ d)) d (g (ix1 d)) (b (ix1 d)) := by
  rw [← normed_at]
  unfold whole
  generalize normed (residual X M W V) g b = y
  pointwise

end Cert.Reference2Ideal.Stages

end
-- ==== Proof.FfnWhole.lean ====
/- The feed-forward kernel's value and its reference's are equal where the precondition holds. -/
module

public import proofs.«01_k».proof.Proof.FfnRun
public import proofs.«01_k».proof.Proof.FfnRef
public import proofs.«01_k».proof.Proof.Whole
public import proofs.«01_k».proof.Proof.Gen.Pre_gate_finite

@[expose] public section

set_option maxRecDepth 16384

noncomputable section

namespace Cert.Ffn

open Idealize.ShloMosaic Idealize.ShloMosaic.TcCoe Idealize.SL.Sem
open Cert.Kernel2Ideal.Ffn

/-- Being a number is kept by sums and products. -/
def IsNum (x : EReal) : Prop := ∃ r : ℝ, x = (r : EReal)

theorem IsNum.add {x y : EReal} (hx : IsNum x) (hy : IsNum y) : IsNum (x + y) := by
  obtain ⟨a, rfl⟩ := hx
  obtain ⟨b, rfl⟩ := hy
  exact ⟨a + b, (EReal.coe_add a b).symm⟩

theorem IsNum.mul {x y : EReal} (hx : IsNum x) (hy : IsNum y) : IsNum (x * y) := by
  obtain ⟨a, rfl⟩ := hx
  obtain ⟨b, rfl⟩ := hy
  exact ⟨a * b, (EReal.coe_mul a b).symm⟩

theorem IsNum.sum {ι : Type} (s : Finset ι) (f : ι → EReal) (h : ∀ i, IsNum (f i)) : IsNum (∑ i ∈ s, f i) := by
  classical
  induction s using Finset.induction_on with
  | empty => exact ⟨0, by simp⟩
  | insert i s hi ih => rw [Finset.sum_insert hi]; exact (h i).add ih

theorem isInf_of_not_isNum {x : EReal} (h : ¬IsNum x) : IsInf x := by
  induction x with
  | bot => exact Or.inr rfl
  | top => exact Or.inl rfl
  | coe r => exact absurd ⟨r, rfl⟩ h

open Cert.Pre_gate_finite Cert.Pre_gate_finite.Gen in
/-- What the precondition says of the arguments. -/
theorem finite_args (X : FVec Ideal S8x2048x2048 .f32) (M : FVec Ideal S8x12288 .f32) (W : FVec Ideal S2048x11264 .f32) (V : FVec Ideal S5632x2048 .f32)
    (g b : FVec Ideal S2048 .f32) (h1 : (Cert.Pre_gate_finite.fn (F := Ideal) X M W V g b).1 = fun _ => 1#1)
    (h2 : (Cert.Pre_gate_finite.fn (F := Ideal) X M W V g b).2 = fun _ => 1#1) :
    (∀ (b : Fin 8) (k : Fin 4096), IsNum (M (ix2 b ⟨6144 + k.val, by omega⟩)))
      ∧ ∀ (d : Fin 2048) (j : Fin 5632), IsNum (W (ix2 d ⟨j.val, by omega⟩)) := by
  refine ⟨?_, ?_⟩
  · intro b k
    have h := congrFun h1 (ix2 b k)
    refine ⟨_, Cert.Whole.real_of_bit _ (Eq.trans (Eq.symm ?_) h)⟩
    unfold Cert.Pre_gate_finite.fn
    pointwise
  · intro d j
    have h := congrFun h2 (ix2 d j)
    refine ⟨_, Cert.Whole.real_of_bit _ (Eq.trans (Eq.symm ?_) h)⟩
    unfold Cert.Pre_gate_finite.fn
    pointwise

section

variable (m : (ℓ : Loc Cert.Kernel2Ideal.nD Cert.Kernel2Ideal.τ Cert.Kernel2Ideal.sig) → Buf (Elt Ideal) ℓ) (c : Dev Cert.Kernel2Ideal.nD)

/-- The modulated row of the reference is the kernel's. -/
theorem rows_eq (R : Fin 16384) (d : Fin 2048) :
    Cert.Reference2Ideal.Stages.rows (argX m c) (argM m c) (ix3 ⟨R.val / 2048, by omega⟩ ⟨R.val % 2048, by omega⟩ d) = hAt m c R.val d := by
  rw [Cert.Reference2Ideal.Stages.rows_at]
  have h : R.val / 2048 % 8 = R.val / 2048 := by omega
  have hd1 : (8192 + d.val) % 12288 = 8192 + d.val := by omega
  have hd2 : (6144 + d.val) % 12288 = 6144 + d.val := by omega
  unfold hAt xAt mAt
  simp only [h, hd1, hd2]

theorem both_eq (R : Fin 16384) (j : Fin 11264) :
    Cert.Reference2Ideal.Stages.both (Cert.Reference2Ideal.Stages.rows (argX m c) (argM m c)) (argW m c)
      (ix3 ⟨R.val / 2048, by omega⟩ ⟨R.val % 2048, by omega⟩ j) = zAt m c R.val j.val := by
  rw [Cert.Reference2Ideal.Stages.both_at]
  unfold zAt
  refine Finset.sum_congr rfl fun d _ => ?_
  rw [rows_eq]
  unfold wAt
  simp only [Nat.mod_eq_of_lt j.isLt]

/-- The gate of a row of numbers is a number. -/
theorem gate_num (hM : ∀ (b : Fin 8) (k : Fin 4096), IsNum (argM m c (ix2 b ⟨6144 + k.val, by omega⟩)))
    (hW : ∀ (d : Fin 2048) (j : Fin 5632), IsNum (argW m c (ix2 d ⟨j.val, by omega⟩))) (R : ℕ)
    (hX : ∀ d : Fin 2048, IsNum (xAt m c R d)) (j : Fin 5632) : IsNum (zAt m c R j.val) := by
  have hm : ∀ b k : ℕ, k < 4096 → IsNum (mAt m c b (6144 + k)) := by
    intro b k hk
    have h := hM ⟨b % 8, by omega⟩ ⟨k, hk⟩
    have e : (6144 + k) % 12288 = 6144 + k := by omega
    unfold mAt
    simp only [e]
    exact h
  refine IsNum.sum _ _ fun d => IsNum.mul (IsNum.add (IsNum.mul (hX _) (IsNum.add ⟨1, cOne⟩ ?_)) (hm _ _ (by omega))) ?_
  · have h := hm (R / 2048) (2048 + d.val) (by omega)
    have e : 6144 + (2048 + d.val) = 8192 + d.val := by omega
    rwa [e] at h
  · have e : j.val % 11264 = j.val := by omega
    unfold wAt
    simp only [e]
    exact hW d j

/-- The tiles of the hidden columns make up all of them. -/
theorem acc_eq (R : ℕ) (y : Fin 2048) : accAt m c R y 11 = ∑ j : Fin 5632, termAt m c R y j.val := by
  unfold accAt
  rw [Finset.sum_range]
  refine Fin.sum_mul_add_congr fun s k hl => ?_
  show termAt m c R y (512 * s.val + k.val) = termAt m c R y (s.val * 512 + k.val)
  rw [Nat.mul_comm]

/-- The two programs' values at an index. -/
theorem values_eq
    (h1 : (Cert.Pre_gate_finite.fn (F := Ideal) (argX m c) (argM m c) (argW m c) (argV m c) (argG m c) (argB m c)).1 = fun _ => 1#1)
    (h2 : (Cert.Pre_gate_finite.fn (F := Ideal) (argX m c) (argM m c) (argW m c) (argV m c) (argG m c) (argB m c)).2 = fun _ => 1#1)
    (R : Fin 16384) (y : Fin 2048) :
    Cert.Kernel2Ideal.Value.G9 m c (ix2 R y)
      = Cert.Reference2Ideal.Stages.whole (F := Ideal) (argX m c) (argM m c) (argW m c) (argV m c) (argG m c) (argB m c) (ix2 R y) := by
  obtain ⟨hM, hW⟩ := finite_args _ _ _ _ _ _ h1 h2
  rw [Cert.Reference2Ideal.Stages.whole_at, G9_at]
  have hb : R.val / 2048 % 8 = R.val / 2048 := by omega
  have hx : ∀ d : Fin 2048, argX m c (ix3 ⟨R.val / 2048, by omega⟩ ⟨R.val % 2048, by omega⟩ d) = xAt m c R.val d := by
    intro d
    unfold xAt
    simp only [hb]
  by_cases hX : ∀ d : Fin 2048, IsNum (xAt m c R.val d)
  · refine congrArg (fun f => norm f y (argG m c (ix1 y)) (argB m c (ix1 y))) (funext fun d => ?_)
    rw [Cert.Reference2Ideal.Stages.residual_at, acc_eq]
    have hd : (10240 + d.val) % 12288 = 10240 + d.val := by omega
    refine congrArg₂ (fun a b : EReal => a + b) ?_ (congrArg₂ (fun a b : EReal => a * b) ?_ (Finset.sum_congr rfl fun j _ => ?_))
    · rw [hx]
    · unfold mAt
      simp only [hb, hd]
    · rw [Cert.Reference2Ideal.Stages.act_at, both_eq, both_eq]
      unfold termAt vAt
      simp only [Nat.mod_eq_of_lt j.isLt]
      obtain ⟨g, hg⟩ := gate_num m c hM hW R.val hX j
      rw [hg, gated_eq]
  · obtain ⟨d, hd⟩ := not_forall.mp hX
    have hi := isInf_of_not_isNum hd
    rw [norm_inf d (residual_inf hi _), norm_inf d]
    rw [Cert.Reference2Ideal.Stages.residual_at, hx]
    exact residual_inf hi _

end

end Cert.Ffn

end
-- ==== Proof.MergeSpec.lean ====
/- The merge's gate: the two ways of writing the logistic function. -/
module

public import proofs.«01_k».proof.Proof.FfnSpec

@[expose] public section

noncomputable section

namespace Cert.Merge

open Idealize.ShloMosaic

/-- The logistic function as the kernel writes it, from the hyperbolic tangent. -/
def gateK (x : EReal) : EReal :=
  Ideal.ofBits .f32 0x3F000000#32 + Ideal.ofBits .f32 0x3F000000#32 * Ideal.tanh (Ideal.ofBits .f32 0x3F000000#32 * x)

/-- The logistic function as the reference writes it. -/
def gateR (x : EReal) : EReal :=
  Ideal.div (Ideal.ofBits .f32 0x3F800000#32) (Ideal.ofBits .f32 0x3F800000#32 + Ideal.exp (-x))

theorem logistic_real (x : ℝ) : 1 / 2 + 1 / 2 * Real.tanh (1 / 2 * x) = 1 / (1 + Real.exp (-x)) := by
  have e : Real.exp x = Real.exp (1 / 2 * x) * Real.exp (1 / 2 * x) := by
    rw [← Real.exp_add]
    congr 1
    ring
  rw [Real.tanh_eq_sinh_div_cosh, Real.sinh_eq, Real.cosh_eq, Real.exp_neg, Real.exp_neg, e]
  have hp : (0 : ℝ) < Real.exp (1 / 2 * x) := Real.exp_pos _
  generalize Real.exp (1 / 2 * x) = z at hp ⊢
  have h1 : z + z⁻¹ ≠ 0 := by positivity
  have h2 : 1 + (z * z)⁻¹ ≠ 0 := by positivity
  field_simp
  ring

/-- They agree everywhere, at the infinities too. -/
theorem gate_eq (x : EReal) : gateK x = gateR x := by
  unfold gateK gateR
  rw [Cert.Ffn.cHalf, Cert.Ffn.cOne]
  induction x with
  | bot =>
    rw [EReal.coe_mul_bot_of_pos (by norm_num), Ideal.tanh_bot, EReal.neg_bot, Ideal.exp_top, EReal.coe_add_top]
    have h : (-1 : EReal) = ((-1 : ℝ) : EReal) := by rw [EReal.coe_neg, EReal.coe_one]
    rw [h, ← EReal.coe_mul, ← EReal.coe_add, Ideal.div, if_neg EReal.top_ne_zero, EReal.inv_top, mul_zero]
    norm_num
  | top =>
    rw [EReal.coe_mul_top_of_pos (by norm_num), Ideal.tanh_top, EReal.neg_top, Ideal.exp_bot, add_zero, mul_one,
      Ideal.div_coe (by norm_num), ← EReal.coe_add, ← EReal.coe_mul]
    norm_num
  | coe r =>
    have hp : (0 : ℝ) < 1 + Real.exp (-r) := by positivity
    rw [← EReal.coe_neg, Ideal.exp_coe, ← EReal.coe_add, Ideal.div_coe hp.ne', ← EReal.coe_mul, ← EReal.coe_mul, Ideal.tanh_coe,
      ← EReal.coe_mul, ← EReal.coe_add, logistic_real, one_mul]

end Cert.Merge

end
-- ==== Proof.MergeBody.lean ====
/- What the merge kernel's body computes on its blocks, at an index. -/
module

public import proofs.«01_k».proof.Proof.Gen.Kernel3Ideal.Skeleton
public import proofs.«01_k».proof.Proof.MergeSpec
public import Idealize.ShloMosaic.Lib.Pointwise

@[expose] public section

set_option maxRecDepth 16384

noncomputable section

namespace Cert.Kernel3Ideal.Merge

open Cert.Kernel3Ideal Cert.Kernel3Ideal.Gen Idealize.ShloMosaic Idealize.ShloMosaic.TcCoe Idealize.SL.Sem

/-- The gated sum of the two projections, projected again. -/
theorem mixed_at (ya : Vec Ideal S256x1024 .bf16) (wa : Vec Ideal S1024x2048 .bf16) (yb : Vec Ideal S256x2048 .bf16) (wb : Vec Ideal S2048x2048 .bf16)
    (ga gb : Vec Ideal S256x2048 .f32) (wo : Vec Ideal S2048x2048 .bf16) (r : Fin 256) (y : Fin 2048) :
    k0_pay2 (F := Ideal) ya wa yb wb ga gb wo (ix2 r y)
      = (∑ j : Fin 2048, (Cert.Merge.gateK (ga (ix2 r j)) * (∑ d : Fin 1024, (ya (ix2 r d) : EReal) * wa (ix2 d j))
          + Cert.Merge.gateK (gb (ix2 r j)) * (∑ d : Fin 2048, (yb (ix2 r d) : EReal) * wb (ix2 d j))) * wo (ix2 j y) : EReal) := by
  unfold k0_pay2 Cert.Merge.gateK
  pointwise

/-- The normalised row. -/
theorem norm_at (z : FVec Ideal S256x2048 .f32) (x : Vec Ideal S256x2048 .f32) (g1 : Vec Ideal S1x1x2048 .f32) (g b : Vec Ideal S1x2048 .f32)
    (r : Fin 256) (y : Fin 2048) :
    k0_pay1 (F := Ideal) z x g1 g b (ix2 r y)
      = Cert.Ffn.norm (fun d => (Ideal.ofBits .f32 0x3F9837F0#32 * x (ix2 r d) + g1 (ix3 0 0 d) * z (ix2 r d) : EReal)) y (g (ix2 0 y)) (b (ix2 0 y)) := by
  unfold k0_pay1 Cert.Ffn.norm Cert.Ffn.mean
  pointwise

end Cert.Kernel3Ideal.Merge

end
-- ==== Proof.MergeWin.lean ====
/- The merge kernel's operands, read where its grid points read them. -/
module

public import proofs.«01_k».proof.Proof.Gen.Kernel3Ideal.Value
public import Idealize.ShloMosaic.Lib.Pointwise
public import Idealize.ShloMosaic.Lib.StableHlo.ReadAt

@[expose] public section

set_option maxRecDepth 16384

noncomputable section

namespace Cert.Kernel3Ideal.Merge

open Cert.Kernel3Ideal Cert.Kernel3Ideal.Gen Idealize.ShloMosaic Idealize.ShloMosaic.TcCoe Idealize.SL.Sem

variable (m : (ℓ : Loc nD τ sig) → Buf (Elt Ideal) ℓ) (c : Dev nD)

abbrev argYa : FVec Ideal S16384x1024 .bf16 := m ((c.tc : Thread nD τ).loc main_arg0)
abbrev argYb : FVec Ideal S16384x2048 .bf16 := m ((c.tc : Thread nD τ).loc main_arg1)
abbrev argP : FVec Ideal S8x2048x13344 .f32 := m ((c.tc : Thread nD τ).loc main_arg2)
abbrev argX : FVec Ideal S8x2048x2048 .f32 := m ((c.tc : Thread nD τ).loc main_arg3)
abbrev argM : FVec Ideal S8x12288 .f32 := m ((c.tc : Thread nD τ).loc main_arg4)
abbrev argWa : FVec Ideal S1024x2048 .f32 := m ((c.tc : Thread nD τ).loc main_arg5)
abbrev argWb : FVec Ideal S2048x2048 .f32 := m ((c.tc : Thread nD τ).loc main_arg6)
abbrev argWo : FVec Ideal S2048x2048 .f32 := m ((c.tc : Thread nD τ).loc main_arg7)
abbrev argG : FVec Ideal S2048 .f32 := m ((c.tc : Thread nD τ).loc main_arg8)
abbrev argB : FVec Ideal S2048 .f32 := m ((c.tc : Thread nD τ).loc main_arg9)

/-! What the host operations before the call leave, at an index. -/

theorem p_entry (R : Fin 16384) (k : Fin 4096) : (V m c main_v4 : FVec Ideal S16384x13312 .f32) (ix2 R ⟨k.val, by omega⟩)
    = argP m c (ix3 ⟨R.val / 2048, by omega⟩ ⟨R.val % 2048, by omega⟩ ⟨9248 + k.val, by omega⟩) := by
  unfold_abbrev_sides
  after_reads_at

theorem x_entry (R : Fin 16384) (d : Fin 2048) :
    (V m c main_v5 : FVec Ideal S16384x2048 .f32) (ix2 R d) = argX m c (ix3 ⟨R.val / 2048, by omega⟩ ⟨R.val % 2048, by omega⟩ d) := by
  unfold_abbrev_sides
  after_reads_at

theorem m_entry (b : Fin 8) (k : Fin 12288) :
    (V m c main_v0 : FVec Ideal S8x1x12288 .f32) (ix3 b 0 k) = argM m c (ix2 b k) := by
  unfold_abbrev_sides
  after_reads_at

theorem g_entry (y : Fin 2048) : (V m c main_v6 : FVec Ideal S1x2048 .f32) (ix2 0 y) = argG m c (ix1 y) := by
  unfold_abbrev_sides
  after_reads_at

theorem b_entry (y : Fin 2048) : (V m c main_v7 : FVec Ideal S1x2048 .f32) (ix2 0 y) = argB m c (ix1 y) := by
  unfold_abbrev_sides
  after_reads_at

theorem wa_entry (d : Fin 1024) (j : Fin 2048) : (V m c main_v8 : FVec Ideal S1024x2048 .bf16) (ix2 d j) = argWa m c (ix2 d j) := by
  unfold_abbrev_sides
  after_reads_at

theorem wb_entry (d j : Fin 2048) : (V m c main_v9 : FVec Ideal S2048x2048 .bf16) (ix2 d j) = argWb m c (ix2 d j) := by
  unfold_abbrev_sides
  after_reads_at

theorem wo_entry (d j : Fin 2048) : (V m c main_v10 : FVec Ideal S2048x2048 .bf16) (ix2 d j) = argWo m c (ix2 d j) := by
  unfold_abbrev_sides
  after_reads_at

theorem points (t : Fin cfg0.N) : t.val < 64 := lt_of_lt_of_eq t.isLt (show cfg0.N = 64 from N_0)

/-- Row `r` of point `t`'s block, among all the rows. -/
def row (t : Fin cfg0.N) (r : Fin 256) : Fin 16384 := ⟨256 * t.val + r.val, by have := points t; omega⟩

/-- The block indices of the windows that move with the rows. -/
theorem blocks_row : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 1)
    ∧ (win0_4.index t (0 : Fin 2) = t.val ∧ win0_4.index t (1 : Fin 2) = 0)
    ∧ (win0_5.index t (0 : Fin 3) = t.val / 8 ∧ win0_5.index t (1 : Fin 3) = 0 ∧ win0_5.index t (2 : Fin 3) = 2)
    ∧ (win0_11.index t (0 : Fin 2) = t.val ∧ win0_11.index t (1 : Fin 2) = 0) :=
  (by decide +kernel : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 1)
    ∧ (win0_4.index t (0 : Fin 2) = t.val ∧ win0_4.index t (1 : Fin 2) = 0)
    ∧ (win0_5.index t (0 : Fin 3) = t.val / 8 ∧ win0_5.index t (1 : Fin 3) = 0 ∧ win0_5.index t (2 : Fin 3) = 2)
    ∧ (win0_11.index t (0 : Fin 2) = t.val ∧ win0_11.index t (1 : Fin 2) = 0))

/-- The block indices of the windows that stay. -/
theorem blocks_col : ∀ t : Fin cfg0.N, (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0))

theorem ya_win (t : Fin cfg0.N) (r : Fin 256) (d : Fin 1024) : (iblk m c 0 t : FVec Ideal S256x1024 .bf16) (ix2 r d)
    = argYa m c (ix2 (row t r) d) := by
  have ht := points t
  obtain ⟨⟨e0, e1⟩, -⟩ := blocks_row t
  refine Eq.trans ?_ (show V m c main_arg0 (ix2 (row t r) d) = _ from congrFun (V_main_arg0 m c) _)
  show V m c main_arg0 (((cfg0.win 0).blk t).view.emb (ix2 r d)) = _
  refine congrArg _ (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * d.val = d.val; omega

theorem yb_win (t : Fin cfg0.N) (r : Fin 256) (d : Fin 2048) : (iblk m c 1 t : FVec Ideal S256x2048 .bf16) (ix2 r d)
    = argYb m c (ix2 (row t r) d) := by
  have ht := points t
  obtain ⟨-, ⟨e0, e1⟩, -⟩ := blocks_row t
  refine Eq.trans ?_ (show V m c main_arg1 (ix2 (row t r) d) = _ from congrFun (V_main_arg1 m c) _)
  show V m c main_arg1 (((cfg0.win 1).blk t).view.emb (ix2 r d)) = _
  refine congrArg _ (funext fun a => Fin.ext ?_)
  match a with
  | ⟨0, _⟩ => show win0_1.index t (0 : Fin 2) * 256 + 1 * r.val = 256 * t.val + r.val; omega
  | ⟨1, _⟩ => show win0_1.index t (1 : Fin 2) * 2048 + 1 * d.val = d.val; omega

theorem ga_win (t : Fin cfg0.N) (r : Fin 256) (d : Fin 2048) : (X0_2 m c t : FVec Ideal S256x2048 .f32) (ix2 r d)
    = argP m c (ix3 ⟨(row t r).val / 2048, by omega⟩ ⟨(row t r).val % 2048, by omega⟩ ⟨9248 + d.val, by omega⟩) := by
  have ht := points t
  obtain ⟨-, -, ⟨e0, e1⟩, -⟩ := blocks_row t
  refine Eq.trans ?_ (p_entry m c (row t r) ⟨d.val, by omega⟩)
  show (cfg0.win 2).fill (cfg0.grid.coords t) dflt0_2 (iblk m c 2 t) (ix2 r d) = _
  unfold Pipeline.Window.fill
  rw [dif_pos (moved0_2 t _)]
  show V m c main_v4 (((cfg0.win 2).blk t).view.emb _) = _
  refine congrArg _ (funext fun a => Fin.ext ?_)
  match a with
  | ⟨0, _⟩ => show win0_2.index t (0 : Fin 2) * 256 + 1 * r.val = 256 * t.val + r.val; omega
  | ⟨1, _⟩ => show win0_2.index t (1 : Fin 2) * 2048 + 1 * d.val = d.val; omega

theorem gb_win (t : Fin cfg0.N) (r : Fin 256) (d : Fin 2048) : (X0_3 m c t : FVec Ideal S256x2048 .f32) (ix2 r d)
    = argP m c (ix3 ⟨(row t r).val / 2048, by omega⟩ ⟨(row t r).val % 2048, by omega⟩ ⟨9248 + (2048 + d.val), by omega⟩) := by
  have ht := points t
  obtain ⟨-, -, -, ⟨e0, e1⟩, -⟩ := blocks_row t
  refine Eq.trans ?_ (p_entry m c (row t r) ⟨2048 + d.val, by omega⟩)
  show (cfg0.win 3).fill (cfg0.grid.coords t) dflt0_3 (iblk m c 3 t) (ix2 r d) = _
  unfold Pipeline.Window.fill
  rw [dif_pos (moved0_3 t _)]
  show V m c main_v4 (((cfg0.win 3).blk t).view.emb _) = _
  refine congrArg _ (funext fun a => Fin.ext ?_)
  match a with
  | ⟨0, _⟩ => show win0_3.index t (0 : Fin 2) * 256 + 1 * r.val = 256 * t.val + r.val; omega
  | ⟨1, _⟩ => show win0_3.index t (1 : Fin 2) * 2048 + 1 * d.val = 2048 + d.val; omega

theorem x_win (t : Fin cfg0.N) (r : Fin 256) (d : Fin 2048) : (iblk m c 4 t : FVec Ideal S256x2048 .f32) (ix2 r d)
    = argX m c (ix3 ⟨(row t r).val / 2048, by omega⟩ ⟨(row t r).val % 2048, by omega⟩ d) := by
  have ht := points t
  obtain ⟨-, -, -, -, ⟨e0, e1⟩, -⟩ := blocks_row t
  refine Eq.trans ?_ (x_entry m c (row t r) d)
  show V m c main_v5 (((cfg0.win 4).blk t).view.emb (ix2 r d)) = _
  refine congrArg _ (funext fun a => Fin.ext ?_)
  match a with
  | ⟨0, _⟩ => show win0_4.index t (0 : Fin 2) * 256 + 1 * r.val = 256 * t.val + r.val; omega
  | ⟨1, _⟩ => show win0_4.index t (1 : Fin 2) * 2048 + 1 * d.val = d.val; omega

theorem mix_win (t : Fin cfg0.N) (d : Fin 2048) : (iblk m c 5 t : FVec Ideal S1x1x2048 .f32) (ix3 0 0 d)
    = argM m c (ix2 ⟨t.val / 8, by have := points t; omega⟩ ⟨4096 + d.val, by omega⟩) := by
  have ht := points t
  obtain ⟨-, -, -, -, -, ⟨e0, e1, e2⟩, -⟩ := blocks_row t
  refine Eq.trans ?_ (m_entry m c ⟨t.val / 8, by omega⟩ ⟨4096 + d.val, by omega⟩)
  show V m c main_v0 (((cfg0.win 5).blk t).view.emb (ix3 0 0 d)) = _
  refine congrArg _ (funext fun a => Fin.ext ?_)
  match a with
  | ⟨0, _⟩ => show win0_5.index t (0 : Fin 3) * 1 + 1 * 0 = t.val / 8; omega
  | ⟨1, _⟩ => show win0_5.index t (1 : Fin 3) * 1 + 1 * 0 = 0; omega
  | ⟨2, _⟩ => show win0_5.index t (2 : Fin 3) * 2048 + 1 * d.val = 4096 + d.val; omega

theorem gain_win (t : Fin cfg0.N) (y : Fin 2048) : (iblk m c 6 t : FVec Ideal S1x2048 .f32) (ix2 0 y)
    = argG m c (ix1 y) := by
  have ht := points t
  obtain ⟨⟨e0, e1⟩, -⟩ := blocks_col t
  refine Eq.trans ?_ (g_entry m c y)
  show V m c main_v6 (((cfg0.win 6).blk t).view.emb (ix2 0 y)) = _
  refine congrArg _ (funext fun a => Fin.ext ?_)
  match a with
  | ⟨0, _⟩ => show win0_6.index t (0 : Fin 2) * 1 + 1 * 0 = 0; omega
  | ⟨1, _⟩ => show win0_6.index t (1 : Fin 2) * 2048 + 1 * y.val = y.val; omega

theorem bias_win (t : Fin cfg0.N) (y : Fin 2048) : (iblk m c 7 t : FVec Ideal S1x2048 .f32) (ix2 0 y)
    = argB m c (ix1 y) := by
  have ht := points t
  obtain ⟨-, ⟨e0, e1⟩, -⟩ := blocks_col t
  refine Eq.trans ?_ (b_entry m c y)
  show V m c main_v7 (((cfg0.win 7).blk t).view.emb (ix2 0 y)) = _
  refine congrArg _ (funext fun a => Fin.ext ?_)
  match a with
  | ⟨0, _⟩ => show win0_7.index t (0 : Fin 2) * 1 + 1 * 0 = 0; omega
  | ⟨1, _⟩ => show win0_7.index t (1 : Fin 2) * 2048 + 1 * y.val = y.val; omega

theorem wa_win (t : Fin cfg0.N) (d : Fin 1024) (j : Fin 2048) : (iblk m c 8 t : FVec Ideal S1024x2048 .bf16) (ix2 d j)
    = argWa m c (ix2 d j) := by
  have ht := points t
  obtain ⟨-, -, ⟨e0, e1⟩, -⟩ := blocks_col t
  refine Eq.trans ?_ (wa_entry m c d j)
  show V m c main_v8 (((cfg0.win 8).blk t).view.emb (ix2 d j)) = _
  refine congrArg _ (funext fun a => Fin.ext ?_)
  match a with
  | ⟨0, _⟩ => show win0_8.index t (0 : Fin 2) * 1024 + 1 * d.val = d.val; omega
  | ⟨1, _⟩ => show win0_8.index t (1 : Fin 2) * 2048 + 1 * j.val = j.val; omega

theorem wb_win (t : Fin cfg0.N) (d : Fin 2048) (j : Fin 2048) : (iblk m c 9 t : FVec Ideal S2048x2048 .bf16) (ix2 d j)
    = argWb m c (ix2 d j) := by
  have ht := points t
  obtain ⟨-, -, -, ⟨e0, e1⟩, -⟩ := blocks_col t
  refine Eq.trans ?_ (wb_entry m c d j)
  show V m c main_v9 (((cfg0.win 9).blk t).view.emb (ix2 d j)) = _
  refine congrArg _ (funext fun a => Fin.ext ?_)
  match a with
  | ⟨0, _⟩ => show win0_9.index t (0 : Fin 2) * 2048 + 1 * d.val = d.val; omega
  | ⟨1, _⟩ => show win0_9.index t (1 : Fin 2) * 2048 + 1 * j.val = j.val; omega

theorem wo_win (t : Fin cfg0.N) (d : Fin 2048) (j : Fin 2048) : (iblk m c 10 t : FVec Ideal S2048x2048 .bf16) (ix2 d j)
    = argWo m c (ix2 d j) := by
  have ht := points t
  obtain ⟨-, -, -, -, e0, e1⟩ := blocks_col t
  refine Eq.trans ?_ (wo_entry m c d j)
  show V m c main_v10 (((cfg0.win 10).blk t).view.emb (ix2 d j)) = _
  refine congrArg _ (funext fun a => Fin.ext ?_)
  match a with
  | ⟨0, _⟩ => show win0_10.index t (0 : Fin 2) * 2048 + 1 * d.val = d.val; omega
  | ⟨1, _⟩ => show win0_10.index t (1 : Fin 2) * 2048 + 1 * j.val = j.val; omega

end Cert.Kernel3Ideal.Merge

end
-- ==== Proof.MergeRef.lean ====
/- The merge reference's value named step by step, and each step at an index. -/
module

public import proofs.«01_k».proof.Proof.Gen.Reference3Ideal.Run
public import proofs.«01_k».proof.Proof.MergeSpec
public import Idealize.ShloMosaic.Lib.Pointwise

@[expose] public section

set_option maxRecDepth 16384

noncomputable section

namespace Cert.Reference3Ideal.Stages

open Cert.Reference3Ideal Cert.Reference3Ideal.Gen Idealize.ShloMosaic Idealize.ShloMosaic.TcCoe Idealize.SL.Sem

section Steps

variable {F : FTy → Type} [FloatOps F]

/-- A scalar over the rows, and one over the columns too. -/
def constCol (b : BitVec 32) : FVec F S8x2048x1 .f32 := broadcastInDim S8x2048x1 ![] bcast_S_S8x2048x1 (constant S_ .f32 b)
def constAll (b : BitVec 32) : FVec F S8x2048x2048 .f32 := broadcastInDim S8x2048x2048 ![] bcast_S_S8x2048x2048 (constant S_ .f32 b)

def overRows (x : FVec F S8x1x2048 .f32) : FVec F S8x2048x2048 .f32 := broadcastInDim S8x2048x2048 ![0, 1, 2] bcast_S8x1x2048_S8x2048x2048_0_1_2 x
def overCols (x : FVec F S8x2048x1 .f32) : FVec F S8x2048x2048 .f32 := broadcastInDim S8x2048x2048 ![0, 1, 2] bcast_S8x2048x1_S8x2048x2048_0_1_2 x

/-- The two gates' columns. -/
def gates (P : FVec F S8x2048x13344 .f32) : FVec F S8x2048x4096 .f32 :=
  extractStridedSlice S8x2048x4096 ![0, 0, 9248] P slices_S8x2048x13344_S8x2048x4096_0_0_9248

def gateA (P : FVec F S8x2048x13344 .f32) : FVec F S8x2048x2048 .f32 :=
  extractStridedSlice S8x2048x2048 ![0, 0, 0] (gates P) slices_S8x2048x4096_S8x2048x2048_0_0_0

def gateB (P : FVec F S8x2048x13344 .f32) : FVec F S8x2048x2048 .f32 :=
  extractStridedSlice S8x2048x2048 ![0, 0, 2048] (gates P) slices_S8x2048x4096_S8x2048x2048_0_0_2048

def logistic (x : FVec F S8x2048x2048 .f32) : FVec F S8x2048x2048 .f32 :=
  Host.divf (constAll 0x3F800000#32) (addf (constAll 0x3F800000#32) (Host.exp (Host.negf x)))

def projA (Ya : FVec F S16384x1024 .bf16) (Wa : FVec F S1024x2048 .f32) : FVec F S8x2048x2048 .f32 :=
  Host.dotGeneral dot_S8x2048x1024_S1024x2048_S8x2048x2048_2_0_01_1_n_n none
    (shapeCast _ (extf .f32 Ya bitsLt_bf16_f32) shapeCasts_S16384x1024_S8x2048x1024) Wa

def projB (Yb : FVec F S16384x2048 .bf16) (Wb : FVec F S2048x2048 .f32) : FVec F S8x2048x2048 .f32 :=
  Host.dotGeneral dot_S8x2048x2048_S2048x2048_S8x2048x2048_2_0_01_1_n_n none
    (shapeCast _ (extf .f32 Yb bitsLt_bf16_f32) shapeCasts_S16384x2048_S8x2048x2048) Wb

/-- The gated sum of the two projections. -/
def merged (Ya : FVec F S16384x1024 .bf16) (Yb : FVec F S16384x2048 .bf16) (P : FVec F S8x2048x13344 .f32) (Wa : FVec F S1024x2048 .f32)
    (Wb : FVec F S2048x2048 .f32) : FVec F S8x2048x2048 .f32 :=
  addf (mulf (logistic (gateA P)) (projA Ya Wa)) (mulf (logistic (gateB P)) (projB Yb Wb))

/-- The residual and the projected sum. -/
def residual (h X : FVec F S8x2048x2048 .f32) (M : FVec F S8x12288 .f32) (Wo : FVec F S2048x2048 .f32) : FVec F S8x2048x2048 .f32 :=
  addf (mulf (constAll 0x3F9837F0#32) X) (mulf (overRows (extractStridedSlice S8x1x2048 ![0, 0, 4096]
      (broadcastInDim S8x1x12288 ![0, 2] bcast_S8x12288_S8x1x12288_0_2 M) slices_S8x1x12288_S8x1x2048_0_0_4096))
    (Host.dotGeneral dot_S8x2048x2048_S2048x2048_S8x2048x2048_2_0_01_1_n_n none h Wo))

def means (r : FVec F S8x2048x2048 .f32) : FVec F S8x2048x1 .f32 :=
  Host.divf (broadcastInDim S8x2048x1 ![0, 1] bcast_S8x2048_S8x2048x1_0_1
    (Host.reduceAdd r (constant S_ .f32 0x00000000#32) reducesTo_S8x2048x2048_S8x2048_d2 h_S_)) (constCol 0x45000000#32)

def centred (r : FVec F S8x2048x2048 .f32) : FVec F S8x2048x2048 .f32 := subf r (overCols (means r))

def overAll (g : FVec F S2048 .f32) : FVec F S8x2048x2048 .f32 :=
  broadcastInDim S8x2048x2048 ![0, 1, 2] bcast_S1x1x2048_S8x2048x2048_0_1_2 (broadcastInDim S1x1x2048 ![2] bcast_S2048_S1x1x2048_2 g)

def normed (r : FVec F S8x2048x2048 .f32) (g b : FVec F S2048 .f32) : FVec F S8x2048x2048 .f32 :=
  addf (mulf (mulf (centred r) (overCols (Host.rsqrt (addf (means (mulf (centred r) (centred r))) (constCol 0x3727C5AC#32))))) (overAll g)) (overAll b)

def whole (Ya : FVec F S16384x1024 .bf16) (Yb : FVec F S16384x2048 .bf16) (P : FVec F S8x2048x13344 .f32) (X : FVec F S8x2048x2048 .f32)
    (M : FVec F S8x12288 .f32) (Wa : FVec F S1024x2048 .f32) (Wb Wo : FVec F S2048x2048 .f32) (g b : FVec F S2048 .f32) : FVec F S16384x2048 .f32 :=
  shapeCast _ (normed (residual (merged Ya Yb P Wa Wb) X M Wo) g b) shapeCasts_S8x2048x2048_S16384x2048

theorem result (m : (ℓ : Loc nD τ sig) → Buf (Elt F) ℓ) (c : Dev nD) :
    Value.res_out0 m c = whole (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := by
  show Value.res_main_v66 m c = _
  unfold Value.res_main_v66
  rfl

end Steps

theorem logistic_at (x : FVec Ideal S8x2048x2048 .f32) (b : Fin 8) (r d : Fin 2048) :
    logistic x (ix3 b r d) = Cert.Merge.gateR (x (ix3 b r d)) := by
  unfold logistic constAll Cert.Merge.gateR
  pointwise

theorem gateA_at (P : FVec Ideal S8x2048x13344 .f32) (b : Fin 8) (r d : Fin 2048) :
    gateA P (ix3 b r d) = P (ix3 b r ⟨9248 + d.val, by omega⟩) := by
  unfold gateA gates
  pointwise

theorem gateB_at (P : FVec Ideal S8x2048x13344 .f32) (b : Fin 8) (r d : Fin 2048) :
    gateB P (ix3 b r d) = P (ix3 b r ⟨9248 + (2048 + d.val), by omega⟩) := by
  unfold gateB gates
  pointwise

theorem projA_at (Ya : FVec Ideal S16384x1024 .bf16) (Wa : FVec Ideal S1024x2048 .f32) (b : Fin 8) (r j : Fin 2048) :
    projA Ya Wa (ix3 b r j) = ∑ d : Fin 1024, (Ya (ix2 ⟨b.val * 2048 + r.val, by omega⟩ d) : EReal) * Wa (ix2 d j) := by
  unfold projA
  pointwise

theorem projB_at (Yb : FVec Ideal S16384x2048 .bf16) (Wb : FVec Ideal S2048x2048 .f32) (b : Fin 8) (r j : Fin 2048) :
    projB Yb Wb (ix3 b r j) = ∑ d : Fin 2048, (Yb (ix2 ⟨b.val * 2048 + r.val, by omega⟩ d) : EReal) * Wb (ix2 d j) := by
  unfold projB
  pointwise

theorem merged_at (Ya : FVec Ideal S16384x1024 .bf16) (Yb : FVec Ideal S16384x2048 .bf16) (P : FVec Ideal S8x2048x13344 .f32)
    (Wa : FVec Ideal S1024x2048 .f32) (Wb : FVec Ideal S2048x2048 .f32) (b : Fin 8) (r j : Fin 2048) :
    merged Ya Yb P Wa Wb (ix3 b r j)
      = (Cert.Merge.gateR (P (ix3 b r ⟨9248 + j.val, by omega⟩)) * (∑ d : Fin 1024, (Ya (ix2 ⟨b.val * 2048 + r.val, by omega⟩ d) : EReal) * Wa (ix2 d j))
          + Cert.Merge.gateR (P (ix3 b r ⟨9248 + (2048 + j.val), by omega⟩))
            * (∑ d : Fin 2048, (Yb (ix2 ⟨b.val * 2048 + r.val, by omega⟩ d) : EReal) * Wb (ix2 d j)) : EReal) := by
  rw [← projA_at, ← projB_at, ← gateA_at P, ← gateB_at P, ← logistic_at, ← logistic_at]
  rfl

theorem residual_at (h X : FVec Ideal S8x2048x2048 .f32) (M : FVec Ideal S8x12288 .f32) (Wo : FVec Ideal S2048x2048 .f32) (b : Fin 8) (r d : Fin 2048) :
    residual h X M Wo (ix3 b r d) = (Ideal.ofBits .f32 0x3F9837F0#32 * X (ix3 b r d) + M (ix2 b ⟨4096 + d.val, by omega⟩)
      * ∑ j : Fin 2048, (h (ix3 b r j) : EReal) * Wo (ix2 j d) : EReal) := by
  unfold residual overRows constAll
  pointwise

theorem means_at (x : FVec Ideal S8x2048x2048 .f32) (b : Fin 8) (r : Fin 2048) (k : Fin 1) :
    means x (ix3 b r k) = Cert.Ffn.mean (fun d => x (ix3 b r d)) := by
  unfold means constCol Cert.Ffn.mean
  pointwise

theorem centred_at (x : FVec Ideal S8x2048x2048 .f32) (b : Fin 8) (r d : Fin 2048) :
    centred x (ix3 b r d) = (x (ix3 b r d) - Cert.Ffn.mean (fun d => x (ix3 b r d)) : EReal) := by
  rw [← means_at x b r 0]
  unfold centred
  generalize means x = y
  unfold overCols
  pointwise

theorem normed_at (x : FVec Ideal S8x2048x2048 .f32) (g b : FVec Ideal S2048 .f32) (k : Fin 8) (r d : Fin 2048) :
    normed x g b (ix3 k r d) = Cert.Ffn.norm (fun d => x (ix3 k r d)) d (g (ix1 d)) (b (ix1 d)) := by
  have e : (fun d => mulf (centred x) (centred x) (ix3 k r d))
      = fun d => ((x (ix3 k r d) - Cert.Ffn.mean (fun d => x (ix3 k r d))) * (x (ix3 k r d) - Cert.Ffn.mean (fun d => x (ix3 k r d))) : EReal) := by
    funext d
    rw [← centred_at]
    rfl
  unfold Cert.Ffn.norm
  rw [← centred_at, ← e, ← means_at (mulf (centred x) (centred x)) k r 0]
  unfold normed
  generalize means (mulf (centred x) (centred x)) = y
  generalize centred x = z
  unfold overCols overAll constCol
  pointwise

theorem whole_at (Ya : FVec Ideal S16384x1024 .bf16) (Yb : FVec Ideal S16384x2048 .bf16) (P : FVec Ideal S8x2048x13344 .f32)
    (X : FVec Ideal S8x2048x2048 .f32) (M : FVec Ideal S8x12288 .f32) (Wa : FVec Ideal S1024x2048 .f32) (Wb Wo : FVec Ideal S2048x2048 .f32)
    (g b : FVec Ideal S2048 .f32) (r : Fin 16384) (d : Fin 2048) :
    whole Ya Yb P X M Wa Wb Wo g b (ix2 r d)
      = Cert.Ffn.norm (fun d => residual (merged Ya Yb P Wa Wb) X M Wo (ix3 ⟨r.val / 2048, by omega⟩ ⟨r.val % 2048, by omega⟩ d)) d
        (g (ix1 d)) (b (ix1 d)) := by
  rw [← normed_at]
  unfold whole
  generalize normed (residual (merged Ya Yb P Wa Wb) X M Wo) g b = y
  pointwise

end Cert.Reference3Ideal.Stages

end
-- ==== Proof.MergeWhole.lean ====
/- The merge kernel's result array, and its equality with the reference's value. -/
module

public import proofs.«01_k».proof.Proof.MergeBody
public import proofs.«01_k».proof.Proof.MergeWin
public import proofs.«01_k».proof.Proof.MergeRef
public import Idealize.ShloMosaic.Lib.Pipeline.ValueKit.Acc

@[expose] public section

set_option maxRecDepth 16384

noncomputable section

namespace Cert.Kernel3Ideal.Merge

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- What a point leaves in the result's block. -/
theorem out_eq (t : Fin cfg0.N) : outsAt0 m c t
    = k0_pay1 (k0_pay2 (iblk m c 0 t) (iblk m c 8 t) (iblk m c 1 t) (iblk m c 9 t) (X0_2 m c t) (X0_3 m c t) (iblk m c 10 t)) (iblk m c 4 t)
      (iblk m c 5 t) (iblk m c 6 t) (iblk m c 7 t) := by
  unfold outsAt0
  frame_out

/-- The gated sum of row `R`'s two projections, at column `j`. -/
def mergedAt (R : Fin 16384) (j : Fin 2048) : EReal :=
  Cert.Merge.gateK (argP m c (ix3 ⟨R.val / 2048, by omega⟩ ⟨R.val % 2048, by omega⟩ ⟨9248 + j.val, by omega⟩))
      * (∑ d : Fin 1024, (argYa m c (ix2 R d) : EReal) * argWa m c (ix2 d j))
    + Cert.Merge.gateK (argP m c (ix3 ⟨R.val / 2048, by omega⟩ ⟨R.val % 2048, by omega⟩ ⟨9248 + (2048 + j.val), by omega⟩))
      * (∑ d : Fin 2048, (argYb m c (ix2 R d) : EReal) * argWb m c (ix2 d j))

/-- Entry `y` of row `R` of the result. -/
def outAt (R : Fin 16384) (y : Fin 2048) : EReal :=
  Cert.Ffn.norm (fun d => Ideal.ofBits .f32 0x3F9837F0#32 * argX m c (ix3 ⟨R.val / 2048, by omega⟩ ⟨R.val % 2048, by omega⟩ d)
    + argM m c (ix2 ⟨R.val / 2048, by omega⟩ ⟨4096 + d.val, by omega⟩) * ∑ j : Fin 2048, mergedAt m c R j * argWo m c (ix2 j d)) y
    (argG m c (ix1 y)) (argB m c (ix1 y))

theorem mixed_win (t : Fin cfg0.N) (r : Fin 256) (y : Fin 2048) :
    k0_pay2 (F := Ideal) (iblk m c 0 t) (iblk m c 8 t) (iblk m c 1 t) (iblk m c 9 t) (X0_2 m c t) (X0_3 m c t) (iblk m c 10 t) (ix2 r y)
      = ∑ j : Fin 2048, mergedAt m c (row t r) j * argWo m c (ix2 j y) := by
  refine (mixed_at _ _ _ _ _ _ _ r y).trans (Finset.sum_congr rfl fun j _ => ?_)
  rw [ga_win, gb_win, wo_win]
  unfold mergedAt
  simp only [ya_win, yb_win, wa_win, wb_win]

theorem out_win (t : Fin cfg0.N) (r : Fin 256) (y : Fin 2048) : outsAt0 m c t (ix2 r y) = outAt m c (row t r) y := by
  rw [out_eq]
  refine (norm_at _ _ _ _ _ r y).trans ?_
  unfold outAt
  have hb : (row t r).val / 2048 = t.val / 8 := by
    show (256 * t.val + r.val) / 2048 = t.val / 8
    omega
  simp only [x_win, mix_win, gain_win, bias_win, mixed_win, hb]

/-- The result array of the run, entry by entry. -/
theorem array_at (R : Fin 16384) (y : Fin 2048) : (dats m 0 c).arrAt 11 cfg0.N (ix2 R y) = outAt m c R y := by
  have ht : R.val / 256 < cfg0.N := by
    rw [show cfg0.N = 64 from N_0]
    omega
  have hr : row ⟨R.val / 256, ht⟩ ⟨R.val % 256, by omega⟩ = R := Fin.ext (by show 256 * (R.val / 256) + R.val % 256 = R.val; omega)
  have h := congrFun ((Value.blocks11 m c ⟨R.val / 256, ht⟩ (flush0_11 _)).trans (Value.flushed11 m c ⟨R.val / 256, ht⟩)) (ix2 ⟨R.val % 256, by omega⟩ y)
  have h' := h.trans (out_win m c ⟨R.val / 256, ht⟩ ⟨R.val % 256, by omega⟩ y)
  rw [hr] at h'
  refine Eq.trans ?_ h'
  obtain ⟨-, -, -, -, -, -, e0, e1⟩ := blocks_row ⟨R.val / 256, ht⟩
  show _ = (dats m 0 c).arrAt 11 cfg0.N (((cfg0.win 11).blk ⟨R.val / 256, ht⟩).view.emb (ix2 ⟨R.val % 256, by omega⟩ y))
  refine congrArg _ (funext fun a => Fin.ext ?_)
  match a with
  | ⟨0, _⟩ => show R.val = win0_11.index ⟨R.val / 256, ht⟩ (0 : Fin 2) * 256 + 1 * (R.val % 256); rw [e0]; show R.val = R.val / 256 * 256 + 1 * (R.val % 256); omega
  | ⟨1, _⟩ => show y.val = win0_11.index ⟨R.val / 256, ht⟩ (1 : Fin 2) * 2048 + 1 * y.val; rw [e1]; omega

/-- The two programs' values at an index. -/
theorem values_eq (R : Fin 16384) (y : Fin 2048) : (dats m 0 c).arrAt 11 cfg0.N (ix2 R y)
    = Cert.Reference3Ideal.Stages.whole (F := Ideal) (argYa m c) (argYb m c) (argP m c) (argX m c) (argM m c) (argWa m c) (argWb m c) (argWo m c)
      (argG m c) (argB m c) (ix2 R y) := by
  rw [array_at, Cert.Reference3Ideal.Stages.whole_at]
  unfold outAt
  refine congrArg (fun f => Cert.Ffn.norm f y (argG m c (ix1 y)) (argB m c (ix1 y))) (funext fun d => ?_)
  rw [Cert.Reference3Ideal.Stages.residual_at]
  refine congrArg₂ (fun a b : EReal => a + b) rfl (congrArg₂ (fun a b : EReal => a * b) rfl (Finset.sum_congr rfl fun j _ => ?_))
  rw [Cert.Reference3Ideal.Stages.merged_at]
  unfold mergedAt
  have hR : R.val / 2048 * 2048 + R.val % 2048 = R.val := by omega
  simp only [Cert.Merge.gate_eq, hR]

end Cert.Kernel3Ideal.Merge

end
-- ==== Proof.AdaSpec.lean ====
/- The modulation's weight of the conditioning, and one entry of its product taken in high and low parts. -/
module

public import proofs.«01_k».proof.Proof.FfnSpec

@[expose] public section

noncomputable section

namespace Cert.Ada

open Idealize.ShloMosaic

/-- The weighted conditioning as the kernel writes it, from half of it. -/
def siluK (g : EReal) : EReal :=
  Ideal.ofBits .f32 0x3F000000#32 * g
    + Ideal.ofBits .f32 0x3F000000#32 * g * Ideal.tanh (Ideal.ofBits .f32 0x3F000000#32 * g)

/-- The weighted conditioning as the reference writes it. -/
def siluR (g : EReal) : EReal :=
  g * Ideal.div (Ideal.ofBits .f32 0x3F800000#32) (Ideal.ofBits .f32 0x3F800000#32 + Ideal.exp (-g))

theorem silu_eq (g : ℝ) : siluK (g : EReal) = siluR (g : EReal) := by
  have h := Cert.Ffn.gated_eq g 1
  unfold Cert.Ffn.gated Cert.Ffn.swiglu at h
  rw [mul_one, mul_one] at h
  exact h

theorem siluK_num (g : ℝ) : ∃ r : ℝ, siluK (g : EReal) = (r : EReal) := by
  unfold siluK
  rw [Cert.Ffn.cHalf, ← EReal.coe_mul, Ideal.tanh_coe, ← EReal.coe_mul, ← EReal.coe_add]
  exact ⟨_, rfl⟩

theorem sub_self_coe (r : ℝ) : (r : EReal) - (r : EReal) = 0 := by
  rw [← EReal.coe_sub, sub_self, EReal.coe_zero]

/-- The low parts of numbers are zero, so the three products of the parts are the product. -/
theorem parts_eq (s w : Fin 2048 → EReal) (hs : ∀ d, ∃ r : ℝ, s d = (r : EReal)) (hw : ∀ d, ∃ r : ℝ, w d = (r : EReal)) :
    (∑ d : Fin 2048, s d * w d) + (∑ d : Fin 2048, s d * (w d - w d)) + (∑ d : Fin 2048, (s d - s d) * w d)
      = ∑ d : Fin 2048, s d * w d := by
  have h1 : ∀ d, s d * (w d - w d) = 0 := fun d => by
    obtain ⟨r, hr⟩ := hw d
    rw [hr, sub_self_coe, mul_zero]
  have h2 : ∀ d, (s d - s d) * w d = 0 := fun d => by
    obtain ⟨r, hr⟩ := hs d
    rw [hr, sub_self_coe, zero_mul]
  simp only [h1, h2, Finset.sum_const_zero, add_zero]

end Cert.Ada

end
-- ==== Proof.AdaKer.lean ====
/- The modulation kernel's result array, entry by entry. -/
module

public import proofs.«01_k».proof.Proof.Gen.Kernel4Ideal.Value
public import proofs.«01_k».proof.Proof.AdaSpec
public import Idealize.ShloMosaic.Lib.Pointwise
public import Idealize.ShloMosaic.Lib.StableHlo.ReadAt
public import Idealize.ShloMosaic.Lib.Pipeline.ValueKit.Acc

@[expose] public section

set_option maxRecDepth 16384

noncomputable section

namespace Cert.Kernel4Ideal.Ada

open Cert.Kernel4Ideal Cert.Kernel4Ideal.Gen Idealize.ShloMosaic Idealize.ShloMosaic.TcCoe Idealize.SL.Sem

variable (m : (ℓ : Loc nD τ sig) → Buf (Elt Ideal) ℓ) (c : Dev nD)

abbrev argC : FVec Ideal S8x2048 .f32 := m ((c.tc : Thread nD τ).loc main_arg0)
abbrev argW : FVec Ideal S2048x12288 .f32 := m ((c.tc : Thread nD τ).loc main_arg1)
abbrev argB : FVec Ideal S12288 .f32 := m ((c.tc : Thread nD τ).loc main_arg2)

/-- What the body computes on its blocks, at an index. -/
theorem body_at (x : Vec Ideal S8x2048 .f32) (w : Vec Ideal S2048x1024 .f32) (b : Vec Ideal S1x1024 .f32) (r : Fin 8) (y : Fin 1024) :
    k0_pay1 (F := Ideal) x w b (ix2 r y)
      = ((∑ d : Fin 2048, Cert.Ada.siluK (x (ix2 r d)) * w (ix2 d y))
          + (∑ d : Fin 2048, Cert.Ada.siluK (x (ix2 r d)) * (w (ix2 d y) - w (ix2 d y)))
          + (∑ d : Fin 2048, (Cert.Ada.siluK (x (ix2 r d)) - Cert.Ada.siluK (x (ix2 r d))) * w (ix2 d y)) + b (ix2 0 y) : EReal) := by
  unfold k0_pay1 Cert.Ada.siluK
  pointwise

theorem c_entry (r : Fin 8) (d : Fin 2048) : (V m c main_arg0 : FVec Ideal S8x2048 .f32) (ix2 r d) = argC m c (ix2 r d) :=
  congrFun (V_main_arg0 m c) _

theorem w_entry (d : Fin 2048) (y : Fin 12288) : (V m c main_arg1 : FVec Ideal S2048x12288 .f32) (ix2 d y) = argW m c (ix2 d y) :=
  congrFun (V_main_arg1 m c) _

theorem b_entry (y : Fin 12288) : (V m c main_v0 : FVec Ideal S1x12288 .f32) (ix2 0 y) = argB m c (ix1 y) := by
  unfold_abbrev_sides
  after_reads_at

theorem points (t : Fin cfg0.N) : t.val < 12 := lt_of_lt_of_eq t.isLt (show cfg0.N = 12 from N_0)

/-- Column `y` of point `t`'s block, among all the columns. -/
def col (t : Fin cfg0.N) (y : Fin 1024) : Fin 12288 := ⟨1024 * t.val + y.val, by have := points t; omega⟩

/-- The block indices of the windows. -/
theorem blocks_at : ∀ t : Fin cfg0.N, (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val) :=
  (by decide +kernel : ∀ t : Fin grid0.N, (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val))

theorem c_win (t : Fin cfg0.N) (r : Fin 8) (d : Fin 2048) : (iblk m c 0 t : FVec Ideal S8x2048 .f32) (ix2 r d) = argC m c (ix2 r d) := by
  obtain ⟨⟨e0, e1⟩, -⟩ := blocks_at t
  refine Eq.trans ?_ (c_entry m c r d)
  show V m c main_arg0 (((cfg0.win 0).blk t).view.emb (ix2 r d)) = _
  refine congrArg _ (funext fun a => Fin.ext ?_)
  match a with
  | ⟨0, _⟩ => show win0_0.index t (0 : Fin 2) * 8 + 1 * r.val = r.val; omega
  | ⟨1, _⟩ => show win0_0.index t (1 : Fin 2) * 2048 + 1 * d.val = d.val; omega

theorem w_win (t : Fin cfg0.N) (d : Fin 2048) (y : Fin 1024) :
    (iblk m c 1 t : FVec Ideal S2048x1024 .f32) (ix2 d y) = argW m c (ix2 d (col t y)) := by
  obtain ⟨-, ⟨e0, e1⟩, -⟩ := blocks_at t
  refine Eq.trans ?_ (w_entry m c d (col t y))
  show V m c main_arg1 (((cfg0.win 1).blk t).view.emb (ix2 d y)) = _
  refine congrArg _ (funext fun a => Fin.ext ?_)
  match a with
  | ⟨0, _⟩ => show win0_1.index t (0 : Fin 2) * 2048 + 1 * d.val = d.val; omega
  | ⟨1, _⟩ => show win0_1.index t (1 : Fin 2) * 1024 + 1 * y.val = 1024 * t.val + y.val; omega

theorem b_win (t : Fin cfg0.N) (y : Fin 1024) : (iblk m c 2 t : FVec Ideal S1x1024 .f32) (ix2 0 y) = argB m c (ix1 (col t y)) := by
  obtain ⟨-, -, ⟨e0, e1⟩, -⟩ := blocks_at t
  refine Eq.trans ?_ (b_entry m c (col t y))
  show V m c main_v0 (((cfg0.win 2).blk t).view.emb (ix2 0 y)) = _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * y.val = 1024 * t.val + y.val; omega

/-- What a point leaves in the result's block. -/
theorem out_eq (t : Fin cfg0.N) : out0_3 (iblk m c 0 t) (iblk m c 1 t) (iblk m c 2 t)
    = k0_pay1 (iblk m c 0 t) (iblk m c 1 t) (iblk m c 2 t) := by
  unfold out0_3
  frame_out

theorem out_win (hC : ∀ (r : Fin 8) (d : Fin 2048), ∃ x : ℝ, argC m c (ix2 r d) = (x : EReal))
    (hW : ∀ (d : Fin 2048) (y : Fin 12288), ∃ x : ℝ, argW m c (ix2 d y) = (x : EReal)) (t : Fin cfg0.N) (r : Fin 8) (y : Fin 1024) :
    out0_3 (iblk m c 0 t) (iblk m c 1 t) (iblk m c 2 t) (ix2 r y)
      = ((∑ d : Fin 2048, Cert.Ada.siluK (argC m c (ix2 r d)) * argW m c (ix2 d (col t y))) + argB m c (ix1 (col t y)) : EReal) := by
  rw [out_eq]
  refine (body_at _ _ _ r y).trans ?_
  simp only [c_win, w_win, b_win]
  rw [Cert.Ada.parts_eq (fun d => Cert.Ada.siluK (argC m c (ix2 r d))) (fun d => argW m c (ix2 d (col t y)))]
  · intro d
    obtain ⟨x, hx⟩ := hC r d
    rw [hx]
    exact Cert.Ada.siluK_num x
  · intro d
    exact hW d _

/-- The result array of the run, entry by entry. -/
theorem array_at (hC : ∀ (r : Fin 8) (d : Fin 2048), ∃ x : ℝ, argC m c (ix2 r d) = (x : EReal))
    (hW : ∀ (d : Fin 2048) (y : Fin 12288), ∃ x : ℝ, argW m c (ix2 d y) = (x : EReal)) (r : Fin 8) (y : Fin 12288) :
    (dats m 0 c).arrAt 3 cfg0.N (ix2 r y)
      = ((∑ d : Fin 2048, Cert.Ada.siluK (argC m c (ix2 r d)) * argW m c (ix2 d y)) + argB m c (ix1 y) : EReal) := by
  have ht : y.val / 1024 < cfg0.N := by
    rw [show cfg0.N = 12 from N_0]
    omega
  have hy : col ⟨y.val / 1024, ht⟩ ⟨y.val % 1024, by omega⟩ = y := Fin.ext (by show 1024 * (y.val / 1024) + y.val % 1024 = y.val; omega)
  have h := congrFun ((Value.blocks3 m c ⟨y.val / 1024, ht⟩ (flush0_3 _)).trans (Value.flushed3 m c ⟨y.val / 1024, ht⟩)) (ix2 r ⟨y.val % 1024, by omega⟩)
  have h' := h.trans (out_win m c hC hW ⟨y.val / 1024, ht⟩ r ⟨y.val % 1024, by omega⟩)
  rw [hy] at h'
  refine Eq.trans ?_ h'
  obtain ⟨-, -, -, e0, e1⟩ := blocks_at ⟨y.val / 1024, ht⟩
  show _ = (dats m 0 c).arrAt 3 cfg0.N (((cfg0.win 3).blk ⟨y.val / 1024, ht⟩).view.emb (ix2 r ⟨y.val % 1024, by omega⟩))
  refine congrArg _ (funext fun a => Fin.ext ?_)
  match a with
  | ⟨0, _⟩ => show r.val = win0_3.index ⟨y.val / 1024, ht⟩ (0 : Fin 2) * 8 + 1 * r.val; rw [e0]; omega
  | ⟨1, _⟩ => show y.val = win0_3.index ⟨y.val / 1024, ht⟩ (1 : Fin 2) * 1024 + 1 * (y.val % 1024); rw [e1]; show y.val = y.val / 1024 * 1024 + 1 * (y.val % 1024); omega

end Cert.Kernel4Ideal.Ada

end
-- ==== Proof.AdaRef.lean ====
/- The modulation reference's value, at an index. -/
module

public import proofs.«01_k».proof.Proof.Gen.Reference4Ideal.Run
public import proofs.«01_k».proof.Proof.AdaSpec
public import Idealize.ShloMosaic.Lib.Pointwise

@[expose] public section

set_option maxRecDepth 16384

noncomputable section

namespace Cert.Reference4Ideal.Stages

open Cert.Reference4Ideal Cert.Reference4Ideal.Gen Idealize.ShloMosaic Idealize.ShloMosaic.TcCoe Idealize.SL.Sem

/-- The reference's result from its three arguments. -/
def whole {F : FTy → Type} [FloatOps F] (C : FVec F S8x2048 .f32) (W : FVec F S2048x12288 .f32) (B : FVec F S12288 .f32) : FVec F S8x12288 .f32 :=
  addf (Host.dotGeneral dot_S8x2048_S2048x12288_S8x12288_1_0_0_1_n_n none
      (mulf C (Host.divf (broadcastInDim S8x2048 ![] bcast_S_S8x2048 (constant S_ .f32 0x3F800000#32))
        (addf (broadcastInDim S8x2048 ![] bcast_S_S8x2048 (constant S_ .f32 0x3F800000#32)) (Host.exp (Host.negf C))))) W)
    (broadcastInDim S8x12288 ![0, 1] bcast_S1x12288_S8x12288_0_1 (broadcastInDim S1x12288 ![1] bcast_S12288_S1x12288_1 B))

theorem whole_at (C : FVec Ideal S8x2048 .f32) (W : FVec Ideal S2048x12288 .f32) (B : FVec Ideal S12288 .f32) (r : Fin 8) (y : Fin 12288) :
    whole (F := Ideal) C W B (ix2 r y) = ((∑ d : Fin 2048, Cert.Ada.siluR (C (ix2 r d)) * W (ix2 d y)) + B (ix1 y) : EReal) := by
  unfold whole Cert.Ada.siluR
  pointwise

end Cert.Reference4Ideal.Stages

end
-- ==== Proof.AdaWhole.lean ====
/- The modulation's two values are equal where the conditioning and the weights are numbers. -/
module

public import proofs.«01_k».proof.Proof.AdaKer
public import proofs.«01_k».proof.Proof.AdaRef
public import proofs.«01_k».proof.Proof.Consts
public import proofs.«01_k».proof.Proof.Gen.Pre_mod_finite

@[expose] public section

set_option maxRecDepth 16384

noncomputable section

namespace Cert.Kernel4Ideal.Ada

open Idealize.ShloMosaic Idealize.ShloMosaic.TcCoe Idealize.SL.Sem

/-- A number below the infinity in magnitude is a number. -/
theorem real_of_bit (x : EReal) (h : FloatOps.cmpf (F := Ideal) (φ := .f32) .olt (FloatOps.absf x) (Ideal.ofBits .f32 0x7F800000#32) = 1#1) :
    x = ((x.toReal : ℝ) : EReal) := by
  rw [Consts.cTop] at h
  induction x with
  | bot => exact absurd h (by simp [FloatOps.cmpf, FloatOps.absf, Ideal.cmp])
  | top => exact absurd h (by simp [FloatOps.cmpf, FloatOps.absf, Ideal.cmp])
  | coe r => rw [EReal.toReal_coe]

section

open Cert.Pre_mod_finite Cert.Pre_mod_finite.Gen

/-- What the precondition says of the arguments. -/
theorem finite_args (C : FVec Ideal S8x2048 .f32) (W : FVec Ideal S2048x12288 .f32) (B : FVec Ideal S12288 .f32)
    (h1 : (Cert.Pre_mod_finite.fn (F := Ideal) C W B).1 = fun _ => 1#1) (h2 : (Cert.Pre_mod_finite.fn (F := Ideal) C W B).2 = fun _ => 1#1) :
    (∀ (r : Fin 8) (d : Fin 2048), ∃ x : ℝ, C (ix2 r d) = (x : EReal)) ∧ ∀ (d : Fin 2048) (y : Fin 12288), ∃ x : ℝ, W (ix2 d y) = (x : EReal) := by
  refine ⟨?_, ?_⟩
  · intro r d
    have h := congrFun h1 (ix2 r d)
    refine ⟨_, real_of_bit _ (Eq.trans (Eq.symm ?_) h)⟩
    unfold Cert.Pre_mod_finite.fn
    pointwise
  · intro d y
    have h := congrFun h2 (ix2 d y)
    refine ⟨_, real_of_bit _ (Eq.trans (Eq.symm ?_) h)⟩
    unfold Cert.Pre_mod_finite.fn
    pointwise

end

open Cert.Kernel4Ideal Cert.Kernel4Ideal.Gen

variable (m : (ℓ : Loc nD τ sig) → Buf (Elt Ideal) ℓ) (c : Dev nD)

/-- The two programs' values at an index. -/
theorem values_eq (h1 : (Cert.Pre_mod_finite.fn (F := Ideal) (argC m c) (argW m c) (argB m c)).1 = fun _ => 1#1)
    (h2 : (Cert.Pre_mod_finite.fn (F := Ideal) (argC m c) (argW m c) (argB m c)).2 = fun _ => 1#1) (r : Fin 8) (y : Fin 12288) :
    (dats m 0 c).arrAt 3 cfg0.N (ix2 r y) = Cert.Reference4Ideal.Stages.whole (F := Ideal) (argC m c) (argW m c) (argB m c) (ix2 r y) := by
  obtain ⟨hC, hW⟩ := finite_args _ _ _ h1 h2
  rw [array_at m c hC hW, Cert.Reference4Ideal.Stages.whole_at]
  refine congrArg (fun s : EReal => s + argB m c (ix1 y)) (Finset.sum_congr rfl fun d _ => ?_)
  obtain ⟨x, hx⟩ := hC r d
  rw [hx, Cert.Ada.silu_eq]

end Cert.Kernel4Ideal.Ada

end
-- ==== Proof.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Pre_gate_finite
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Pre_mod_finite
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_scores_finite
public import proofs.«01_k».proof.Proof.Whole
public import proofs.«01_k».proof.Proof.FfnWhole
public import proofs.«01_k».proof.Proof.MergeWhole
public import proofs.«01_k».proof.Proof.AdaWhole
public import Idealize.ShloMosaic.Adequacy
public import Idealize.ShloMosaic.Init
public import Idealize.ShloMosaic.Lib.Quiescent

@[expose] public section

noncomputable section

namespace Cert.Proof

open Idealize.ShloMosaic Idealize.SL.Sem

theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m ρ)

theorem preserves : Cert.preserves_Kernel_KernelIdeal :=
  ⟨IdealRules.named_const.statement _ _ _ _ _ rfl, IdealRules.named_const.statement _ _ _ _ _ rfl,
    IdealRules.named_const.statement _ _ _ _ _ rfl⟩

/-- The attention's value is the reference's. -/
theorem value : Cert.algebraic_KernelIdeal_ReferenceIdeal_pre_scores_finite := by
  intro m ρ m' ρ' hpre hagree
  refine ⟨fun c => Cert.KernelIdeal.Value.G6 m c, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Stages.result m' c)).trans ?_
  rw [(hagree c).1, (hagree c).2]
  funext i
  obtain ⟨r, y, e⟩ : ∃ (r : Fin 16384) (y : Fin 1024), i = ix2 r y := ⟨i 0, i 1, funext fun a => by fin_cases a <;> rfl⟩
  rw [e]
  exact (Cert.Whole.values_eq m c (hpre c).1 (hpre c).2 r y).symm

theorem reference2_frame (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
        ∧ r.2.sem = fun _ => 0) :=
  (θ_run Cert.Reference2Ideal.defs _ _).mono
    (fun r h => ⟨fun c => (h c).2, sem_eq_zero_of_no_sems (by decide) r.2⟩)
    (Cert.Reference2Ideal.Value.run (F := Ideal) m ρ)

/-- The feed-forward's value is its reference's. -/
theorem value2 : Cert.algebraic_Kernel2Ideal_Reference2Ideal_pre_gate_finite := by
  intro m ρ m' ρ' hpre hagree
  refine ⟨fun c => Cert.Kernel2Ideal.Value.G9 m c, Cert.Kernel2Ideal.Value.run (F := Ideal) m ρ, ?_⟩
  refine (θ_run Cert.Reference2Ideal.defs _ _).mono (fun _ h c => ⟨?_, (h c).2⟩)
    (Cert.Reference2Ideal.Value.run (F := Ideal) m' ρ')
  refine ((h c).1.trans (Cert.Reference2Ideal.Stages.result m' c)).trans ?_
  obtain ⟨a0, a1, a2, a3, a4, a5⟩ := hagree c
  rw [a0, a1, a2, a3, a4, a5]
  funext i
  obtain ⟨r, y, e⟩ : ∃ (r : Fin 16384) (y : Fin 2048), i = ix2 r y := ⟨i 0, i 1, funext fun a => by fin_cases a <;> rfl⟩
  rw [e]
  exact (Cert.Ffn.values_eq m c (hpre c).1 (hpre c).2 r y).symm

theorem reference3_frame (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
        ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
        ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
        ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
        ∧ r.2.sem = fun _ => 0) :=
  (θ_run Cert.Reference3Ideal.defs _ _).mono
    (fun r h => ⟨fun c => (h c).2, sem_eq_zero_of_no_sems (by decide) r.2⟩)
    (Cert.Reference3Ideal.Value.run (F := Ideal) m ρ)

/-- The merge's value is its reference's. -/
theorem value3 : Cert.algebraic_Kernel3Ideal_Reference3Ideal := by
  intro m ρ m' ρ' _ hagree
  refine ⟨fun c => (Cert.Kernel3Ideal.Gen.dats m 0 c).arrAt 11 Cert.Kernel3Ideal.cfg0.N, Cert.Kernel3Ideal.Value.run_blocks (F := Ideal) m ρ, ?_⟩
  refine (θ_run Cert.Reference3Ideal.defs _ _).mono (fun _ h c => ⟨?_, (h c).2⟩)
    (Cert.Reference3Ideal.Value.run (F := Ideal) m' ρ')
  refine ((h c).1.trans (Cert.Reference3Ideal.Stages.result m' c)).trans ?_
  obtain ⟨a0, a1, a2, a3, a4, a5, a6, a7, a8, a9⟩ := hagree c
  rw [a0, a1, a2, a3, a4, a5, a6, a7, a8, a9]
  funext i
  obtain ⟨r, y, e⟩ : ∃ (r : Fin 16384) (y : Fin 2048), i = ix2 r y := ⟨i 0, i 1, funext fun a => by fin_cases a <;> rfl⟩
  rw [e]
  exact (Cert.Kernel3Ideal.Merge.values_eq m c r y).symm

theorem reference4_frame (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
        ∧ r.2.sem = fun _ => 0) :=
  (θ_run Cert.Reference4Ideal.defs _ _).mono
    (fun r h => ⟨fun c => (h c).2, sem_eq_zero_of_no_sems (by decide) r.2⟩)
    (Cert.Reference4Ideal.Value.run (F := Ideal) m ρ)

/-- The modulation's value is its reference's. -/
theorem value4 : Cert.algebraic_Kernel4Ideal_Reference4Ideal_pre_mod_finite := by
  intro m ρ m' ρ' hpre hagree
  refine ⟨fun c => (Cert.Kernel4Ideal.Gen.dats m 0 c).arrAt 3 Cert.Kernel4Ideal.cfg0.N, Cert.Kernel4Ideal.Value.run_blocks (F := Ideal) m ρ, ?_⟩
  refine (θ_run Cert.Reference4Ideal.defs _ _).mono (fun _ h c => ⟨?_, (h c).2⟩)
    (Cert.Reference4Ideal.Value.run (F := Ideal) m' ρ')
  refine (h c).1.trans ?_
  obtain ⟨a0, a1, a2⟩ := hagree c
  rw [a0, a1, a2]
  funext i
  obtain ⟨r, y, e⟩ : ∃ (r : Fin 8) (y : Fin 12288), i = ix2 r y := ⟨i 0, i 1, funext fun a => by fin_cases a <;> rfl⟩
  rw [e]
  exact (Cert.Kernel4Ideal.Ada.values_eq m c (hpre c).1 (hpre c).2 r y).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_scores_finite.Gen.facts, Cert.Pre_gate_finite.Gen.facts, Cert.Pre_mod_finite.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  fun m ρ _ => Cert.Kernel2.Gen.frame m ρ, fun m ρ _ => Cert.Kernel2Ideal.Gen.frame m ρ, fun m ρ _ => Cert.Kernel2Ideal.Gen.frame m ρ,
  fun m ρ _ => reference2_frame m ρ, fun m ρ _ => reference2_frame m ρ,
  fun m ρ _ => Cert.Kernel3.Gen.frame m ρ, fun m ρ _ => Cert.Kernel3Ideal.Gen.frame m ρ, fun m ρ _ => reference3_frame m ρ,
  fun m ρ _ => Cert.Kernel4.Gen.frame m ρ, fun m ρ _ => Cert.Kernel4Ideal.Gen.frame m ρ, fun m ρ _ => Cert.Kernel4Ideal.Gen.frame m ρ,
  fun m ρ _ => reference4_frame m ρ, fun m ρ _ => reference4_frame m ρ,
  preserves, value, trivial, value2, trivial, value3, trivial, value4⟩

end Cert.Proof

end
